-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v49) = v1 c
          ∧ r.2.mem ((c.tc : Thread Cert.Reference13Ideal.nD Cert.Reference13Ideal.τ).loc Cert.Reference13Ideal.main_v33) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v56) = v0 c
          ∧ r.2.mem ((c.tc : Thread Cert.Reference15Ideal.nD Cert.Reference15Ideal.τ).loc Cert.Reference15Ideal.main_v42) = v1 c
          ∧ r.2.mem ((c.tc : Thread Cert.Reference15Ideal.nD Cert.Reference15Ideal.τ).loc Cert.Reference15Ideal.main_v40) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite2 : Cert.Pre_finite2.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite2.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S_ : Shape := ⟨0, ![]⟩

class Facts : Prop where
  bcast_S_S8192x2048 : S_.BroadcastsInDim S8192x2048 (![] : Fin 0 → Fin S8192x2048.rank)
  bitsLt_bf16_f32 : FTy.bits .bf16 < FTy.bits .f32
  bcast_S_S4x512x1024 : S_.BroadcastsInDim S4x512x1024 (![] : Fin 0 → Fin S4x512x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x2048 .f32) (main_arg2 : FVec F S8192x4096 .f32) (main_arg3 : FVec F S4x512x1024 .bf16) (main_arg4 : FVec F S1024x1024 .bf16) (main_arg5 : FVec F S8192x1024 .f32) : IVec S8192x2048 1 × IVec S4x512x1024 1 × IVec S8192x1024 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S4x512x1024 .f32 := (extf .f32 · bitsLt_bf16_f32) main_arg3
  let main_v4 : FVec F S4x512x1024 .f32 := Host.absf main_v3
  let main_cst_0 : FVec F S_ .f32 := constant S_ .f32 0x7F800000#32
  let main_v5 : FVec F S4x512x1024 .f32 := broadcastInDim S4x512x1024 ![] bcast_S_S4x512x1024 main_cst_0
  let main_v6 : IVec S4x512x1024 1 := cmpf .olt main_v4 main_v5
  let main_v7 : FVec F S8192x1024 .f32 := Host.absf main_arg5
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  (main_v2, main_v6, main_v9)
-- ==== Pre_finite9.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S_ : Shape := ⟨0, ![]⟩

class Facts : Prop where
  bcast_S_S8192x2048 : S_.BroadcastsInDim S8192x2048 (![] : Fin 0 → Fin S8192x2048.rank)
  bitsLt_bf16_f32 : FTy.bits .bf16 < FTy.bits .f32
  bcast_S_S4x512x1024 : S_.BroadcastsInDim S4x512x1024 (![] : Fin 0 → Fin S4x512x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x2048 .f32) (main_arg2 : FVec F S8192x4096 .f32) (main_arg3 : FVec F S4x512x1024 .bf16) (main_arg4 : FVec F S1024x1024 .bf16) : IVec S8192x2048 1 × IVec S4x512x1024 1 × IVec S1024x1024 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S4x512x1024 .f32 := (extf .f32 · bitsLt_bf16_f32) main_arg3
  let main_v4 : FVec F S4x512x1024 .f32 := Host.absf main_v3
  let main_cst_0 : FVec F S_ .f32 := constant S_ .f32 0x7F800000#32
  let main_v5 : FVec F S4x512x1024 .f32 := broadcastInDim S4x512x1024 ![] bcast_S_S4x512x1024 main_cst_0
  let main_v6 : IVec S4x512x1024 1 := cmpf .olt main_v4 main_v5
  let main_v7 : FVec F S1024x1024 .f32 := (extf .f32 · bitsLt_bf16_f32) main_arg4
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v2, main_v6, main_v10)
-- ==== Kernel.lean ====
abbrev S8192x1024 : Shape := ⟨2, ![8192, 1024]⟩
abbrev S1024x2816 : Shape := ⟨2, ![1024, 2816]⟩
abbrev S2816x1024 : Shape := ⟨2, ![2816, 1024]⟩
abbrev S11x8192x1024 : Shape := ⟨3, ![11, 8192, 1024]⟩
abbrev S1024x1024 : Shape := ⟨2, ![1024, 1024]⟩
abbrev S1024x256 : Shape := ⟨2, ![1024, 256]⟩
abbrev S256x1024 : Shape := ⟨2, ![256, 1024]⟩
abbrev S1x1024x1024 : Shape := ⟨3, ![1, 1024, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .f32⟩
  | .hbm, ⟨5, _⟩ => ⟨S11x8192x1024, .bf16⟩
  | .hbm, ⟨6, _⟩ => ⟨S1024x2816, .f32⟩
  | .hbm, ⟨7, _⟩ => ⟨S1024x2816, .f32⟩
  | .hbm, ⟨8, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S256x1024, .f32⟩
  | .local _ .vmem, ⟨17, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg1 : BitVec 32 := BitVec.ofNat 32 (i 1).val
  let c0_i32 : BitVec 32 := 0#32
  let v52 : BitVec 1 := Scalar.cmpi .eq arg1 c0_i32
  let v_true : BitVec 1 := 1#1
  let v55 : BitVec 1 := Scalar.xori v52 v_true
  let v56 : BitVec 32 := Scalar.extui v55
  let c0_i32_22 : BitVec 32 := 0#32
  let v57 : BitVec 1 := Scalar.cmpi .ne v56 c0_i32_22
  v57

def k0_cond3 (i : grid0.Coords) : BitVec 1 :=
  let arg1 : BitVec 32 := BitVec.ofNat 32 (i 1).val
  let c0_i32_23 : BitVec 32 := 0#32
  let v58 : BitVec 1 := Scalar.cmpi .eq arg1 c0_i32_23
  let v59 : BitVec 32 := Scalar.extui v58
  let c0_i32_24 : BitVec 32 := 0#32
  let v60 : BitVec 1 := Scalar.cmpi .ne v59 c0_i32_24
  v60

def k0_cond4 (i : grid0.Coords) : BitVec 1 :=
  let arg1 : BitVec 32 := BitVec.ofNat 32 (i 1).val
  let c0_i32_23 : BitVec 32 := 0#32
  let v58 : BitVec 1 := Scalar.cmpi .eq arg1 c0_i32_23
  let true_25 : BitVec 1 := 1#1
  let v61 : BitVec 1 := Scalar.xori v58 true_25
  let v62 : BitVec 32 := Scalar.extui v61
  let c0_i32_26 : BitVec 32 := 0#32
  let v63 : BitVec 1 := Scalar.cmpi .ne v62 c0_i32_26
  v63

def k0_cond5 (i : grid0.Coords) : BitVec 1 :=
  let arg1 : BitVec 32 := BitVec.ofNat 32 (i 1).val
  let c0_i32_27 : BitVec 32 := 0#32
  let v64 : BitVec 1 := Scalar.cmpi .eq arg1 c0_i32_27
  let v65 : BitVec 32 := Scalar.extui v64
  let c0_i32_28 : BitVec 32 := 0#32
  let v66 : BitVec 1 := Scalar.cmpi .ne v65 c0_i32_28
  v66

def k0_cond6 (i : grid0.Coords) : BitVec 1 :=
  let arg1 : BitVec 32 := BitVec.ofNat 32 (i 1).val
  let c0_i32_27 : BitVec 32 := 0#32
  let v64 : BitVec 1 := Scalar.cmpi .eq arg1 c0_i32_27
  let true_29 : BitVec 1 := 1#1
  let v67 : BitVec 1 := Scalar.xori v64 true_29
  let v68 : BitVec 32 := Scalar.extui v67
  let c0_i32_30 : BitVec 32 := 0#32
  let v69 : BitVec 1 := Scalar.cmpi .ne v68 c0_i32_30
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S1024x11x256 : Shape := ⟨3, ![1024, 11, 256]⟩
abbrev S11x256x1024 : Shape := ⟨3, ![11, 256, 1024]⟩
abbrev S8192x11x256 : Shape := ⟨3, ![8192, 11, 256]⟩
abbrev S11x8192x1024 : Shape := ⟨3, ![11, 8192, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S1024x2816, .f32⟩
  | .hbm, ⟨33, _⟩ => ⟨S2816x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S2816x1024, .f32⟩
  | .hbm, ⟨38, _⟩ => ⟨S1024x2816, .f32⟩
  | .hbm, ⟨39, _⟩ => ⟨S8192x1024, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S2816x1024, .f32⟩
  | .hbm, ⟨45, _⟩ => ⟨S1024x2816, .f32⟩
  | .hbm, ⟨46, _⟩ => ⟨S8192x1024, .f32⟩
  | .hbm, ⟨47, _⟩ => ⟨S8192x1024, .f32⟩
  | .hbm, ⟨48, _⟩ => ⟨S1024x11x256, .f32⟩
  | .hbm, ⟨49, _⟩ => ⟨S1024x11x256, .f32⟩
  | .hbm, ⟨50, _⟩ => ⟨S11x256x1024, .f32⟩
  | .hbm, ⟨51, _⟩ => ⟨S8192x11x256, .f32⟩
  | .hbm, ⟨52, _⟩ => ⟨S8192x11x256, .f32⟩
  | .hbm, ⟨53, _⟩ => ⟨S8192x11x256, .f32⟩
  | .hbm, ⟨54, _⟩ => ⟨S_, .f32⟩
  | .hbm, ⟨55, _⟩ => ⟨S8192x11x256, .f32⟩
  | .hbm, ⟨56, _⟩ => ⟨S8192x11x256, .f32⟩
  | .hbm, ⟨57, _⟩ => ⟨S_, .f32⟩
  | .hbm, ⟨58, _⟩ => ⟨S8192x11x256, .f32⟩
  | .hbm, ⟨59, _⟩ => ⟨S8192x11x256, .f32⟩
  | .hbm, ⟨60, _⟩ => ⟨S_, .f32⟩
  | .hbm, ⟨61, _⟩ => ⟨S8192x11x256, .f32⟩
  | .hbm, ⟨62, _⟩ => ⟨S8192x11x256, .f32⟩
  | .hbm, ⟨63, _⟩ => ⟨S8192x11x256, .f32⟩
  | .hbm, ⟨64, _⟩ => ⟨S8192x11x256, .f32⟩
  | .hbm, ⟨65, _⟩ => ⟨S8192x11x256, .f32⟩
  | .hbm, ⟨66, _⟩ => ⟨S8192x11x256, .f32⟩
  | .hbm, ⟨67, _⟩ => ⟨S11x8192x1024, .f32⟩
  | .hbm, ⟨68, _⟩ => ⟨S_, .f32⟩
  | .hbm, ⟨69, _⟩ => ⟨S11x8192x1024, .f32⟩
  | .hbm, ⟨70, _⟩ => ⟨S11x8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S8192x11x256, .f32⟩
  | .hbm, ⟨75, _⟩ => ⟨S8192x11x256, .f32⟩
  | .hbm, ⟨76, _⟩ => ⟨S8192x11x256, .f32⟩
  | .hbm, ⟨77, _⟩ => ⟨S11x8192x1024, .f32⟩
  | .hbm, ⟨78, _⟩ => ⟨S8192x11x256, .f32⟩
  | .hbm, ⟨79, _⟩ => ⟨S8192x11x256, .f32⟩
  | .hbm, ⟨80, _⟩ => ⟨S8192x11x256, .f32⟩
  | .hbm, ⟨81, _⟩ => ⟨S8192x11x256, .f32⟩
  | .hbm, ⟨82, _⟩ => ⟨S11x8192x1024, .f32⟩
  | .hbm, ⟨83, _⟩ => ⟨S11x8192x1024, .f32⟩
  | .hbm, ⟨84, _⟩ => ⟨S11x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_v30_2 : Ref sig .tc := ⟨.hbm, 59, rfl⟩
abbrev main_call2_cst_1 : Ref sig .tc := ⟨.hbm, 60, rfl⟩
abbrev main_call2_v6 : Ref sig .tc := ⟨.hbm, 61, rfl⟩
abbrev main_call2_v7 : Ref sig .tc := ⟨.hbm, 62, rfl⟩
abbrev main_v30_1 : Ref sig .tc := ⟨.hbm, 63, rfl⟩
abbrev main_v30_0 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_1 : Ref sig .tc := ⟨.hbm, 68, rfl⟩
abbrev main_v34 : Ref sig .tc := ⟨.hbm, 69, rfl⟩
abbrev main_v35 : Ref sig .tc := ⟨.hbm, 70, rfl⟩
abbrev main_cst_2 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩

abbrev nD : Nat := 1
abbrev τ : Topo := Topo.v7x

variable {F : FTy → Type} [FloatOps F]
-- ==== Kernel2.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x4096, .f32⟩
  | .hbm, ⟨3, _⟩ => ⟨S4x512x1024, .bf16⟩
  | .hbm, ⟨4, _⟩ => ⟨S1024x1024, .bf16⟩
  | .hbm, ⟨5, _⟩ => ⟨S8192x1024, .f32⟩
  | .hbm, ⟨6, _⟩ => ⟨S8192x2048, .f32⟩
  | .hbm, ⟨7, _⟩ => ⟨S8192x4096, .f32⟩
  | .hbm, ⟨8, _⟩ => ⟨S4x512x1024, .f32⟩
  | .hbm, ⟨9, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x512, .f32⟩
  | .local _ .vmem, ⟨12, _⟩ => ⟨S512x512, .f32⟩
  | .local _ .vmem, ⟨13, _⟩ => ⟨S512x1024, .f32⟩
  | .local _ .vmem, ⟨14, _⟩ => ⟨S512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_19 : BitVec 32 := 0#32
  let v35 : BitVec 1 := Scalar.cmpi .ne v34 c0_i32_19
  v35

def k0_cond2 (i : grid0.Coords) : BitVec 1 :=
  let arg1 : BitVec 32 := BitVec.ofNat 32 (i 1).val
  let c0_i32 : BitVec 32 := 0#32
  let v33 : BitVec 1 := Scalar.cmpi .eq arg1 c0_i32
  let v_true : BitVec 1 := 1#1
  let v36 : BitVec 1 := Scalar.xori v33 v_true
  let v37 : BitVec 32 := Scalar.extui v36
  let c0_i32_20 : BitVec 32 := 0#32
  let v38 : BitVec 1 := Scalar.cmpi .ne v37 c0_i32_20
  v38

def k0_cond3 (i : grid0.Coords) : BitVec 1 :=
  let arg0 : BitVec 32 := BitVec.ofNat 32 (i 0).val
  let c0_i32_21 : BitVec 32 := 0#32
  let v39 : BitVec 1 := Scalar.cmpi .eq arg0 c0_i32_21
  let arg1 : BitVec 32 := BitVec.ofNat 32 (i 1).val
  let c0_i32_22 : BitVec 32 := 0#32
  let v40 : BitVec 1 := Scalar.cmpi .eq arg1 c0_i32_22
  let v41 : BitVec 1 := Scalar.andi v39 v40
  let v42 : BitVec 32 := Scalar.extui v41
  let c0_i32_23 : BitVec 32 := 0#32
  let v43 : BitVec 1 := Scalar.cmpi .ne v42 c0_i32_23
  v43

def k0_cond4 (i : grid0.Coords) : BitVec 1 :=
  let arg0 : BitVec 32 := BitVec.ofNat 32 (i 0).val
  let c0_i32_21 : BitVec 32 := 0#32
  let v39 : BitVec 1 := Scalar.cmpi .eq arg0 c0_i32_21
  let arg1 : BitVec 32 := BitVec.ofNat 32 (i 1).val
  let c0_i32_22 : BitVec 32 := 0#32
  let v40 : BitVec 1 := Scalar.cmpi .eq arg1 c0_i32_22
  let v41 : BitVec 1 := Scalar.andi v39 v40
  let true_24 : BitVec 1 := 1#1
  let v44 : BitVec 1 := Scalar.xori v41 true_24
  let v45 : BitVec 32 := Scalar.extui v44
  let c0_i32_25 : BitVec 32 := 0#32
  let v46 : BitVec 1 := Scalar.cmpi .ne v45 c0_i32_25
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S8192x4x512 : Shape := ⟨3, ![8192, 4, 512]⟩
abbrev S4x1024x8192 : Shape := ⟨3, ![4, 1024, 8192]⟩
abbrev S8192x4x1024 : Shape := ⟨3, ![8192, 4, 1024]⟩
abbrev S_ : Shape := ⟨0, ![]⟩
abbrev S4x8192x512 : Shape := ⟨3, ![4, 8192, 512]⟩
abbrev S4x1024x512 : Shape := ⟨3, ![4, 1024, 512]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x4096, .f32⟩
  | .hbm, ⟨3, _⟩ => ⟨S4x512x1024, .bf16⟩
  | .hbm, ⟨4, _⟩ => ⟨S1024x1024, .bf16⟩
  | .hbm, ⟨5, _⟩ => ⟨S8192x1024, .f32⟩
  | .hbm, ⟨6, _⟩ => ⟨S4x512x1024, .f32⟩
  | .hbm, ⟨7, _⟩ => ⟨S1024x1024, .f32⟩
  | .hbm, ⟨8, _⟩ => ⟨S8192x4x512, .f32⟩
  | .hbm, ⟨9, _⟩ => ⟨S4x1024x8192, .f32⟩
  | .hbm, ⟨10, _⟩ => ⟨S8192x4x1024, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4x1024, .f32⟩
  | .hbm, ⟨24, _⟩ => ⟨S8192x4x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S1024x1024, .f32⟩
  | .hbm, ⟨30, _⟩ => ⟨S8192x1024, .f32⟩
  | .hbm, ⟨31, _⟩ => ⟨S8192x4x1024, .f32⟩
  | .hbm, ⟨32, _⟩ => ⟨S8192x4x1024, .f32⟩
  | .hbm, ⟨33, _⟩ => ⟨S8192x4x1024, .f32⟩
  | .hbm, ⟨34, _⟩ => ⟨S8192x4096, .f32⟩
  | .hbm, ⟨35, _⟩ => ⟨S8192x4096, .f32⟩
  | .hbm, ⟨36, _⟩ => ⟨S4x1024x8192, .f32⟩
  | .hbm, ⟨37, _⟩ => ⟨S4x8192x512, .f32⟩
  | .hbm, ⟨38, _⟩ => ⟨S8192x4x512, .f32⟩
  | .hbm, ⟨39, _⟩ => ⟨S4x1024x512, .f32⟩
  | .hbm, ⟨40, _⟩ => ⟨S4x512x1024, .f32⟩
  | .hbm, ⟨41, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel3.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1024x1024, .f32⟩
  | .hbm, ⟨9, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1024x1024, .f32⟩
  | .local _ .vmem, ⟨13, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_26 : BitVec 32 := 0#32
  let v70 : BitVec 1 := Scalar.cmpi .ne v69 c0_i32_26
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_27 : BitVec 32 := 0#32
  let v73 : BitVec 1 := Scalar.cmpi .ne v72 c0_i32_27
  v73

def k0_cond3 (i : grid0.Coords) : BitVec 1 :=
  let arg0 : BitVec 32 := BitVec.ofNat 32 (i 0).val
  let c0_i32_28 : BitVec 32 := 0#32
  let v74 : BitVec 1 := Scalar.cmpi .eq arg0 c0_i32_28
  let v75 : BitVec 32 := Scalar.extui v74
  let c0_i32_29 : BitVec 32 := 0#32
  let v76 : BitVec 1 := Scalar.cmpi .ne v75 c0_i32_29
  v76

def k0_cond4 (i : grid0.Coords) : BitVec 1 :=
  let arg0 : BitVec 32 := BitVec.ofNat 32 (i 0).val
  let c0_i32_28 : BitVec 32 := 0#32
  let v74 : BitVec 1 := Scalar.cmpi .eq arg0 c0_i32_28
  let true_30 : BitVec 1 := 1#1
  let v77 : BitVec 1 := Scalar.xori v74 true_30
  let v78 : BitVec 32 := Scalar.extui v77
  let c0_i32_31 : BitVec 32 := 0#32
  let v79 : BitVec 1 := Scalar.cmpi .ne v78 c0_i32_31
  v79

def k0_cond5 (i : grid0.Coords) : BitVec 1 :=
  let arg0 : BitVec 32 := BitVec.ofNat 32 (i 0).val
  let c0_i32_32 : BitVec 32 := 0#32
  let v80 : BitVec 1 := Scalar.cmpi .eq arg0 c0_i32_32
  let v81 : BitVec 32 := Scalar.extui v80
  let c0_i32_33 : BitVec 32 := 0#32
  let v82 : BitVec 1 := Scalar.cmpi .ne v81 c0_i32_33
  v82

def k0_cond6 (i : grid0.Coords) : BitVec 1 :=
  let arg0 : BitVec 32 := BitVec.ofNat 32 (i 0).val
  let c0_i32_32 : BitVec 32 := 0#32
  let v80 : BitVec 1 := Scalar.cmpi .eq arg0 c0_i32_32
  let true_34 : BitVec 1 := 1#1
  let v83 : BitVec 1 := Scalar.xori v80 true_34
  let v84 : BitVec 32 := Scalar.extui v83
  let c0_i32_35 : BitVec 32 := 0#32
  let v85 : BitVec 1 := Scalar.cmpi .ne v84 c0_i32_35
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S8192x1024, .f32⟩
  | .hbm, ⟨6, _⟩ => ⟨S1024x1024, .f32⟩
  | .hbm, ⟨7, _⟩ => ⟨S256x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x256, .f32⟩
  | .hbm, ⟨47, _⟩ => ⟨S256x1024, .f32⟩
  | .hbm, ⟨48, _⟩ => ⟨S8192x1024, .f32⟩
  | .hbm, ⟨49, _⟩ => ⟨S1024x1024, .f32⟩
  | .hbm, ⟨50, _⟩ => ⟨S1024x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S1x4096 : Shape := ⟨2, ![1, 4096]⟩
abbrev S8192x4096 : Shape := ⟨2, ![8192, 4096]⟩
abbrev S4x8192x1024 : Shape := ⟨3, ![4, 8192, 1024]⟩
abbrev S1024x1024 : Shape := ⟨2, ![1024, 1024]⟩
abbrev S1x1024 : Shape := ⟨2, ![1, 1024]⟩
abbrev S1x1024x1024 : Shape := ⟨3, ![1, 1024, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1x4096, .f32⟩
  | .hbm, ⟨3, _⟩ => ⟨S8192x4096, .f32⟩
  | .hbm, ⟨4, _⟩ => ⟨S4x8192x1024, .bf16⟩
  | .hbm, ⟨5, _⟩ => ⟨S1024x4096, .f32⟩
  | .hbm, ⟨6, _⟩ => ⟨S1x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_10 : BitVec 32 := 0#32
  let v20 : BitVec 1 := Scalar.cmpi .ne v19 c0_i32_10
  v20

def k0_cond2 (i : grid0.Coords) : BitVec 1 :=
  let arg1 : BitVec 32 := BitVec.ofNat 32 (i 1).val
  let c0_i32 : BitVec 32 := 0#32
  let v18 : BitVec 1 := Scalar.cmpi .eq arg1 c0_i32
  let v_true : BitVec 1 := 1#1
  let v21 : BitVec 1 := Scalar.xori v18 v_true
  let v22 : BitVec 32 := Scalar.extui v21
  let c0_i32_11 : BitVec 32 := 0#32
  let v23 : BitVec 1 := Scalar.cmpi .ne v22 c0_i32_11
  v23

def k0_cond3 (i : grid0.Coords) : BitVec 1 :=
  let arg1 : BitVec 32 := BitVec.ofNat 32 (i 1).val
  let c0_i32_12 : BitVec 32 := 0#32
  let v24 : BitVec 1 := Scalar.cmpi .eq arg1 c0_i32_12
  let v25 : BitVec 32 := Scalar.extui v24
  let c0_i32_13 : BitVec 32 := 0#32
  let v26 : BitVec 1 := Scalar.cmpi .ne v25 c0_i32_13
  v26

def k0_cond4 (i : grid0.Coords) : BitVec 1 :=
  let arg1 : BitVec 32 := BitVec.ofNat 32 (i 1).val
  let c0_i32_12 : BitVec 32 := 0#32
  let v24 : BitVec 1 := Scalar.cmpi .eq arg1 c0_i32_12
  let true_14 : BitVec 1 := 1#1
  let v27 : BitVec 1 := Scalar.xori v24 true_14
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8192x1024 : Shape := ⟨2, ![8192, 1024]⟩
abbrev S1024x4096 : Shape := ⟨2, ![1024, 4096]⟩
abbrev S1x4096 : Shape := ⟨2, ![1, 4096]⟩
abbrev S8192x4096 : Shape := ⟨2, ![8192, 4096]⟩
abbrev S_ : Shape := ⟨0, ![]⟩
abbrev S4096 : Shape := ⟨1, ![4096]⟩
abbrev S4096x1024 : Shape := ⟨2, ![4096, 1024]⟩
abbrev S1024x4x1024 : Shape := ⟨3, ![1024, 4, 1024]⟩
abbrev S1x4x1024 : Shape := ⟨3, ![1, 4, 1024]⟩
abbrev S8192x4x1024 : Shape := ⟨3, ![8192, 4, 1024]⟩
abbrev S4x8192x1024 : Shape := ⟨3, ![4, 8192, 1024]⟩
abbrev S4x1x1024 : Shape := ⟨3, ![4, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1x4096, .f32⟩
  | .hbm, ⟨3, _⟩ => ⟨S8192x4096, .f32⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S4096x1024, .f32⟩
  | .hbm, ⟨14, _⟩ => ⟨S1024x4096, .f32⟩
  | .hbm, ⟨15, _⟩ => ⟨S8192x1024, .f32⟩
  | .hbm, ⟨16, _⟩ => ⟨S1024x4x1024, .f32⟩
  | .hbm, ⟨17, _⟩ => ⟨S1x4x1024, .f32⟩
  | .hbm, ⟨18, _⟩ => ⟨S8192x4x1024, .f32⟩
  | .hbm, ⟨19, _⟩ => ⟨S8192x4x1024, .f32⟩
  | .hbm, ⟨20, _⟩ => ⟨S4x8192x1024, .f32⟩
  | .hbm, ⟨21, _⟩ => ⟨S4x1x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel5.lean ====
abbrev S8192x1024 : Shape := ⟨2, ![8192, 1024]⟩
abbrev S1024x5376 : Shape := ⟨2, ![1024, 5376]⟩
abbrev S8192x5376 : Shape := ⟨2, ![8192, 5376]⟩
abbrev S_ : Shape := ⟨0, ![]⟩
abbrev S1x5376 : Shape := ⟨2, ![1, 5376]⟩
abbrev S6x8192x1024 : Shape := ⟨3, ![6, 8192, 1024]⟩
abbrev S1024x1024 : Shape := ⟨2, ![1024, 1024]⟩
abbrev S1024x896 : Shape := ⟨2, ![1024, 896]⟩
abbrev S1x896 : Shape := ⟨2, ![1, 896]⟩
abbrev S1x1024x1024 : Shape := ⟨3, ![1, 1024, 1024]⟩
abbrev S896 : Shape := ⟨1, ![896]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x5376, .f32⟩
  | .hbm, ⟨3, _⟩ => ⟨S_, .f32⟩
  | .hbm, ⟨4, _⟩ => ⟨S1x5376, .f32⟩
  | .hbm, ⟨5, _⟩ => ⟨S6x8192x1024, .bf16⟩
  | .hbm, ⟨6, _⟩ => ⟨S1024x5376, .f32⟩
  | .hbm, ⟨7, _⟩ => ⟨S1x5376, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1x896, .f32⟩
  | .local _ .vmem, ⟨5, _⟩ => ⟨S1x896, .f32⟩
  | .local _ .vmem, ⟨6, _⟩ => ⟨S1024x896, .f32⟩
  | .local _ .vmem, ⟨7, _⟩ => ⟨S1024x896, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x896, .f32⟩
  | .local _ .vmem, ⟨11, _⟩ => ⟨S1024x896, .f32⟩
  | .local _ .vmem, ⟨12, _⟩ => ⟨S1x896, .f32⟩
  | .local _ .vmem, ⟨13, _⟩ => ⟨S1x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_10 : BitVec 32 := 0#32
  let v20 : BitVec 1 := Scalar.cmpi .ne v19 c0_i32_10
  v20

def k0_cond2 (i : grid0.Coords) : BitVec 1 :=
  let arg1 : BitVec 32 := BitVec.ofNat 32 (i 1).val
  let c0_i32 : BitVec 32 := 0#32
  let v18 : BitVec 1 := Scalar.cmpi .eq arg1 c0_i32
  let v_true : BitVec 1 := 1#1
  let v21 : BitVec 1 := Scalar.xori v18 v_true
  let v22 : BitVec 32 := Scalar.extui v21
  let c0_i32_11 : BitVec 32 := 0#32
  let v23 : BitVec 1 := Scalar.cmpi .ne v22 c0_i32_11
  v23

def k0_cond3 (i : grid0.Coords) : BitVec 1 :=
  let arg1 : BitVec 32 := BitVec.ofNat 32 (i 1).val
  let c0_i32_12 : BitVec 32 := 0#32
  let v24 : BitVec 1 := Scalar.cmpi .eq arg1 c0_i32_12
  let v25 : BitVec 32 := Scalar.extui v24
  let c0_i32_13 : BitVec 32 := 0#32
  let v26 : BitVec 1 := Scalar.cmpi .ne v25 c0_i32_13
  v26

def k0_cond4 (i : grid0.Coords) : BitVec 1 :=
  let arg1 : BitVec 32 := BitVec.ofNat 32 (i 1).val
  let c0_i32_12 : BitVec 32 := 0#32
  let v24 : BitVec 1 := Scalar.cmpi .eq arg1 c0_i32_12
  let true_14 : BitVec 1 := 1#1
  let v27 : BitVec 1 := Scalar.xori v24 true_14
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S8192x1024 : Shape := ⟨2, ![8192, 1024]⟩
abbrev S1024x5376 : Shape := ⟨2, ![1024, 5376]⟩
abbrev S8192x5376 : Shape := ⟨2, ![8192, 5376]⟩
abbrev S5376x1024 : Shape := ⟨2, ![5376, 1024]⟩
abbrev S1024x6x896 : Shape := ⟨3, ![1024, 6, 896]⟩
abbrev S8192x6x896 : Shape := ⟨3, ![8192, 6, 896]⟩
abbrev S6x8192x1024 : Shape := ⟨3, ![6, 8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x5376, .f32⟩
  | .hbm, ⟨3, _⟩ => ⟨S8192x1024, .f32⟩
  | .hbm, ⟨4, _⟩ => ⟨S1024x5376, .f32⟩
  | .hbm, ⟨5, _⟩ => ⟨S8192x5376, .f32⟩
  | .hbm, ⟨6, _⟩ => ⟨S5376x1024, .f32⟩
  | .hbm, ⟨7, _⟩ => ⟨S1024x5376, .f32⟩
  | .hbm, ⟨8, _⟩ => ⟨S8192x1024, .f32⟩
  | .hbm, ⟨9, _⟩ => ⟨S1024x6x896, .f32⟩
  | .hbm, ⟨10, _⟩ => ⟨S8192x6x896, .f32⟩
  | .hbm, ⟨11, _⟩ => ⟨S8192x6x896, .f32⟩
  | .hbm, ⟨12, _⟩ => ⟨S6x8192x1024, .f32⟩
  | .hbm, ⟨13, _⟩ => ⟨S6x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32_15 : BitVec 32 := 0#32
  let v34 : BitVec 1 := Scalar.cmpi .eq arg1 c0_i32_15
  let v35 : BitVec 32 := Scalar.extui v34
  let c0_i32_16 : BitVec 32 := 0#32
  let v36 : BitVec 1 := Scalar.cmpi .ne v35 c0_i32_16
  v36

def k0_cond2 (i : grid0.Coords) : BitVec 1 :=
  let arg1 : BitVec 32 := BitVec.ofNat 32 (i 1).val
  let c0_i32_15 : BitVec 32 := 0#32
  let v34 : BitVec 1 := Scalar.cmpi .eq arg1 c0_i32_15
  let v_true : BitVec 1 := 1#1
  let v37 : BitVec 1 := Scalar.xori v34 v_true
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x2816, .f32⟩
  | .hbm, ⟨21, _⟩ => ⟨S1024x2816, .f32⟩
  | .hbm, ⟨22, _⟩ => ⟨S2816x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x5376 : Shape := ⟨2, ![1024, 5376]⟩
abbrev S_ : Shape := ⟨0, ![]⟩
abbrev S1x5376 : Shape := ⟨2, ![1, 5376]⟩
abbrev S8192x5376 : Shape := ⟨2, ![8192, 5376]⟩
abbrev S1024x1024 : Shape := ⟨2, ![1024, 1024]⟩
abbrev S1024x896 : Shape := ⟨2, ![1024, 896]⟩
abbrev S1x896 : Shape := ⟨2, ![1, 896]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5376, .bf16⟩
  | .hbm, ⟨3, _⟩ => ⟨S_, .f32⟩
  | .hbm, ⟨4, _⟩ => ⟨S1x5376, .f32⟩
  | .hbm, ⟨5, _⟩ => ⟨S8192x5376, .f32⟩
  | .hbm, ⟨6, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1x896, .f32⟩
  | .local _ .vmem, ⟨6, _⟩ => ⟨S1x896, .f32⟩
  | .local _ .vmem, ⟨7, _⟩ => ⟨S1024x896, .f32⟩
  | .local _ .vmem, ⟨8, _⟩ => ⟨S1024x896, .f32⟩
  | .local _ .vmem, ⟨9, _⟩ => ⟨S1024x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S8192x1024 : Shape := ⟨2, ![8192, 1024]⟩
abbrev S1x1024 : Shape := ⟨2, ![1, 1024]⟩
abbrev S1024x5376 : Shape := ⟨2, ![1024, 5376]⟩
abbrev S_ : Shape := ⟨0, ![]⟩
abbrev S8192 : Shape := ⟨1, ![8192]⟩
abbrev S8192x1 : Shape := ⟨2, ![8192, 1]⟩
abbrev S8192x5376 : Shape := ⟨2, ![8192, 5376]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5376, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x5376, .f32⟩
  | .hbm, ⟨19, _⟩ => ⟨S8192x5376, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S8192x1024 : Shape := ⟨2, ![8192, 1024]⟩
abbrev S1024x4096 : Shape := ⟨2, ![1024, 4096]⟩
abbrev S1x4096 : Shape := ⟨2, ![1, 4096]⟩
abbrev S8192x4096 : Shape := ⟨2, ![8192, 4096]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1x4096, .f32⟩
  | .hbm, ⟨3, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x1024 : Shape := ⟨2, ![8192, 1024]⟩
abbrev S1024x4096 : Shape := ⟨2, ![1024, 4096]⟩
abbrev S1x4096 : Shape := ⟨2, ![1, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1x4096, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x4096, .f32⟩
  | .hbm, ⟨3, _⟩ => ⟨S4x512x1024, .bf16⟩
  | .hbm, ⟨4, _⟩ => ⟨S1024x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg1 : BitVec 32 := BitVec.ofNat 32 (i 1).val
  let c0_i32_11 : BitVec 32 := 0#32
  let v18 : BitVec 1 := Scalar.cmpi .eq arg1 c0_i32_11
  let v_true : BitVec 1 := 1#1
  let v21 : BitVec 1 := Scalar.xori v18 v_true
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference9Ideal.lean ====
abbrev S8192x1024 : Shape := ⟨2, ![8192, 1024]⟩
abbrev S8192x2048 : Shape := ⟨2, ![8192, 2048]⟩
abbrev S8192x4096 : Shape := ⟨2, ![8192, 4096]⟩
abbrev S4x512x1024 : Shape := ⟨3, ![4, 512, 1024]⟩
abbrev S1024x1024 : Shape := ⟨2, ![1024, 1024]⟩
abbrev S8192x4x512 : Shape := ⟨3, ![8192, 4, 512]⟩
abbrev S4x1024x8192 : Shape := ⟨3, ![4, 1024, 8192]⟩
abbrev S8192x4x1024 : Shape := ⟨3, ![8192, 4, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x4096, .f32⟩
  | .hbm, ⟨3, _⟩ => ⟨S4x512x1024, .bf16⟩
  | .hbm, ⟨4, _⟩ => ⟨S1024x1024, .bf16⟩
  | .hbm, ⟨5, _⟩ => ⟨S8192x4x512, .f32⟩
  | .hbm, ⟨6, _⟩ => ⟨S4x512x1024, .f32⟩
  | .hbm, ⟨7, _⟩ => ⟨S4x1024x8192, .f32⟩
  | .hbm, ⟨8, _⟩ => ⟨S8192x4x1024, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4x1024, .f32⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel10.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S256x1024, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S11x8192x1024 : Shape := ⟨3, ![11, 8192, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S11x8192x1024, .bf16⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_47 : BitVec 32 := 0#32
  let v83 : BitVec 1 := Scalar.cmpi .ne v82 c0_i32_47
  v83

def k0_cond2 (i : grid0.Coords) : BitVec 1 :=
  let arg0 : BitVec 32 := BitVec.ofNat 32 (i 0).val
  let c0_i32 : BitVec 32 := 0#32
  let v81 : BitVec 1 := Scalar.cmpi .eq arg0 c0_i32
  let v_true : BitVec 1 := 1#1
  let v84 : BitVec 1 := Scalar.xori v81 v_true
  let v85 : BitVec 32 := Scalar.extui v84
  let c0_i32_48 : BitVec 32 := 0#32
  let v86 : BitVec 1 := Scalar.cmpi .ne v85 c0_i32_48
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_11 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_12 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_13 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  ![c10_i32.toNat, arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference11Ideal.lean ====
abbrev S8192x1024 : Shape := ⟨2, ![8192, 1024]⟩
abbrev S1x1024 : Shape := ⟨2, ![1, 1024]⟩
abbrev S11x8192x1024 : Shape := ⟨3, ![11, 8192, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S11x8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S11x8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S6x8192x1024 : Shape := ⟨3, ![6, 8192, 1024]⟩
abbrev S4x8192x1024 : Shape := ⟨3, ![4, 8192, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S6x8192x1024, .bf16⟩
  | .hbm, ⟨4, _⟩ => ⟨S4x8192x1024, .bf16⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_44 : BitVec 32 := 0#32
  let v79 : BitVec 1 := Scalar.cmpi .ne v78 c0_i32_44
  v79

def k0_cond2 (i : grid0.Coords) : BitVec 1 :=
  let arg0 : BitVec 32 := BitVec.ofNat 32 (i 0).val
  let c0_i32 : BitVec 32 := 0#32
  let v77 : BitVec 1 := Scalar.cmpi .eq arg0 c0_i32
  let v_true : BitVec 1 := 1#1
  let v80 : BitVec 1 := Scalar.xori v77 v_true
  let v81 : BitVec 32 := Scalar.extui v80
  let c0_i32_45 : BitVec 32 := 0#32
  let v82 : BitVec 1 := Scalar.cmpi .ne v81 c0_i32_45
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference12Ideal.lean ====
abbrev S8192x1024 : Shape := ⟨2, ![8192, 1024]⟩
abbrev S1x1024 : Shape := ⟨2, ![1, 1024]⟩
abbrev S6x8192x1024 : Shape := ⟨3, ![6, 8192, 1024]⟩
abbrev S4x8192x1024 : Shape := ⟨3, ![4, 8192, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S6x8192x1024, .bf16⟩
  | .hbm, ⟨4, _⟩ => ⟨S4x8192x1024, .bf16⟩
  | .hbm, ⟨5, _⟩ => ⟨S6x8192x1024, .f32⟩
  | .hbm, ⟨6, _⟩ => ⟨S_, .f32⟩
  | .hbm, ⟨7, _⟩ => ⟨S8192x1024, .f32⟩
  | .hbm, ⟨8, _⟩ => ⟨S4x8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_21 : BitVec 32 := 0#32
  let v68 : BitVec 1 := Scalar.cmpi .ne v67 c0_i32_21
  v68

def k0_cond2 (i : grid0.Coords) : BitVec 1 :=
  let arg0 : BitVec 32 := BitVec.ofNat 32 (i 0).val
  let c0_i32 : BitVec 32 := 0#32
  let v66 : BitVec 1 := Scalar.cmpi .eq arg0 c0_i32
  let v_true : BitVec 1 := 1#1
  let v69 : BitVec 1 := Scalar.xori v66 v_true
  let v70 : BitVec 32 := Scalar.extui v69
  let c0_i32_22 : BitVec 32 := 0#32
  let v71 : BitVec 1 := Scalar.cmpi .ne v70 c0_i32_22
  v71

def k0_cond3 (i : grid0.Coords) : BitVec 1 :=
  let arg0 : BitVec 32 := BitVec.ofNat 32 (i 0).val
  let c0_i32_25 : BitVec 32 := 0#32
  let v73 : BitVec 1 := Scalar.cmpi .eq arg0 c0_i32_25
  let v74 : BitVec 32 := Scalar.extui v73
  let c0_i32_26 : BitVec 32 := 0#32
  let v75 : BitVec 1 := Scalar.cmpi .ne v74 c0_i32_26
  v75

def k0_cond4 (i : grid0.Coords) : BitVec 1 :=
  let arg0 : BitVec 32 := BitVec.ofNat 32 (i 0).val
  let c0_i32_25 : BitVec 32 := 0#32
  let v73 : BitVec 1 := Scalar.cmpi .eq arg0 c0_i32_25
  let true_27 : BitVec 1 := 1#1
  let v76 : BitVec 1 := Scalar.xori v73 true_27
  let v77 : BitVec 32 := Scalar.extui v76
  let c0_i32_28 : BitVec 32 := 0#32
  let v78 : BitVec 1 := Scalar.cmpi .ne v77 c0_i32_28
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel14.lean ====
abbrev S8192x512 : Shape := ⟨2, ![8192, 512]⟩
abbrev S512x512 : Shape := ⟨2, ![512, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x512, .bf16⟩
  | .hbm, ⟨2, _⟩ => ⟨S1x512, .f32⟩
  | .hbm, ⟨3, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x512 : Shape := ⟨2, ![8192, 512]⟩
abbrev S512x512 : Shape := ⟨2, ![512, 512]⟩
abbrev S1x512 : Shape := ⟨2, ![1, 512]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .bf16⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S512x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel15.lean ====
abbrev S8192x512 : Shape := ⟨2, ![8192, 512]⟩
abbrev S512x512 : Shape := ⟨2, ![512, 512]⟩
abbrev S1x512 : Shape := ⟨2, ![1, 512]⟩
abbrev S8192x2048 : Shape := ⟨2, ![8192, 2048]⟩
abbrev S512 : Shape := ⟨1, ![512]⟩

abbrev nBuf : Space → Nat
  | .hbm => 7
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x512, .bf16⟩
  | .hbm, ⟨2, _⟩ => ⟨S1x512, .f32⟩
  | .hbm, ⟨3, _⟩ => ⟨S8192x2048, .f32⟩
  | .hbm, ⟨4, _⟩ => ⟨S8192x512, .f32⟩
  | .hbm, ⟨5, _⟩ => ⟨S512x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_22 : BitVec 32 := 0#32
  let v64 : BitVec 1 := Scalar.cmpi .ne v63 c0_i32_22
  v64

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v65 : BitVec 1 := Scalar.xori v62 v_true
  let v66 : BitVec 32 := Scalar.extui v65
  let c0_i32_23 : BitVec 32 := 0#32
  let v67 : BitVec 1 := Scalar.cmpi .ne v66 c0_i32_23
  v67

def k0_cond3 (i : grid0.Coords) : BitVec 1 :=
  let arg0 : BitVec 32 := BitVec.ofNat 32 (i 0).val
  let c0_i32_24 : BitVec 32 := 0#32
  let v68 : BitVec 1 := Scalar.cmpi .eq arg0 c0_i32_24
  let v69 : BitVec 32 := Scalar.extui v68
  let c0_i32_25 : BitVec 32 := 0#32
  let v70 : BitVec 1 := Scalar.cmpi .ne v69 c0_i32_25
  v70

def k0_cond4 (i : grid0.Coords) : BitVec 1 :=
  let arg0 : BitVec 32 := BitVec.ofNat 32 (i 0).val
  let c0_i32_24 : BitVec 32 := 0#32
  let v68 : BitVec 1 := Scalar.cmpi .eq arg0 c0_i32_24
  let true_26 : BitVec 1 := 1#1
  let v71 : BitVec 1 := Scalar.xori v68 true_26
  let v72 : BitVec 32 := Scalar.extui v71
  let c0_i32_27 : BitVec 32 := 0#32
  let v73 : BitVec 1 := Scalar.cmpi .ne v72 c0_i32_27
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S8192x512 : Shape := ⟨2, ![8192, 512]⟩
abbrev S512x512 : Shape := ⟨2, ![512, 512]⟩
abbrev S1x512 : Shape := ⟨2, ![1, 512]⟩
abbrev S8192x2048 : Shape := ⟨2, ![8192, 2048]⟩
abbrev S_ : Shape := ⟨0, ![]⟩
abbrev S512 : Shape := ⟨1, ![512]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .bf16⟩
  | .hbm, ⟨2, _⟩ => ⟨S1x512, .f32⟩
  | .hbm, ⟨3, _⟩ => ⟨S8192x2048, .f32⟩
  | .hbm, ⟨4, _⟩ => ⟨S512x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S512x512, .f32⟩
  | .hbm, ⟨57, _⟩ => ⟨S512x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S_, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel16.lean ====
abbrev S8x512x1024 : Shape := ⟨3, ![8, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 2
  | .vmem => 18
  | .smem => 0
  | _ => 0

abbrev bufTy : (tb : Table) → Fin (tcTables nBuf tb) → BufTy
  | .hbm, ⟨0, _⟩ => ⟨S8x512x1024, .f32⟩
  | .hbm, ⟨1, _⟩ => ⟨S512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S256x1024, .f32⟩
  | .local _ .vmem, ⟨17, _⟩ => ⟨S256x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S8x512x1024 : Shape := ⟨3, ![8, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S_, .f32⟩
  | .hbm, ⟨2, _⟩ => ⟨S512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.FfnMath.lean ====
/- The SwiGLU feed-forward and its gradients, as functions of rows and hidden channels, over the extended reals. -/
module

public import Idealize.ShloMosaic.PureOps.Ideal

@[expose] public section

noncomputable section

namespace Cert.Ffn

open Idealize.ShloMosaic

variable {R R' C C' : Type}

/-- The half that scales the residual branch. -/
def half : EReal := Ideal.ofBits .f32 0x3F000000#32

/-- A row of activations against a hidden channel's weights. -/
def pre (n : R → Fin 1024 → EReal) (w : Fin 1024 → C → EReal) (r : R) (f : C) : EReal := ∑ k, n r k * w k f

/-- The gradient that reaches the product of the two branches. -/
def dhid (wo : C → Fin 1024 → EReal) (g : R → Fin 1024 → EReal) (r : R) (f : C) : EReal := ∑ k, half * g r k * wo f k

/-- SiLU. -/
def act (x : EReal) : EReal := x * Ideal.logistic x

/-- The hidden value: SiLU of the gate branch times the linear branch. -/
def hid (n : R → Fin 1024 → EReal) (wg wu : Fin 1024 → C → EReal) (r : R) (f : C) : EReal :=
  act (pre n wg r f) * pre n wu r f

/-- The gradient of the linear branch. -/
def dup (n : R → Fin 1024 → EReal) (wg : Fin 1024 → C → EReal) (wo : C → Fin 1024 → EReal) (g : R → Fin 1024 → EReal)
    (r : R) (f : C) : EReal :=
  act (pre n wg r f) * dhid wo g r f

/-- The gradient of the gate branch before its SiLU. -/
def dgate (n : R → Fin 1024 → EReal) (wg wu : Fin 1024 → C → EReal) (wo : C → Fin 1024 → EReal) (g : R → Fin 1024 → EReal)
    (r : R) (f : C) : EReal :=
  dhid wo g r f * pre n wu r f * Ideal.logistic (pre n wg r f)
    + pre n wg r f * (dhid wo g r f * pre n wu r f)
      * (Ideal.logistic (pre n wg r f) * (1 - Ideal.logistic (pre n wg r f)))

/-! Each value at a row and a channel reads only that row and that channel. -/

section
variable {n : R → Fin 1024 → EReal} {n' : R' → Fin 1024 → EReal} {g : R → Fin 1024 → EReal} {g' : R' → Fin 1024 → EReal}
  {wg wu : Fin 1024 → C → EReal} {wg' wu' : Fin 1024 → C' → EReal} {wo : C → Fin 1024 → EReal} {wo' : C' → Fin 1024 → EReal}
  {r : R} {r' : R'} {f : C} {f' : C'}

theorem pre_congr {w : Fin 1024 → C → EReal} {w' : Fin 1024 → C' → EReal} (hn : ∀ k, n r k = n' r' k)
    (hw : ∀ k, w k f = w' k f') : pre n w r f = pre n' w' r' f' := by
  unfold pre; exact Finset.sum_congr rfl fun k _ => by rw [hn, hw]

theorem dhid_congr (ho : ∀ k, wo f k = wo' f' k) (hg : ∀ k, g r k = g' r' k) : dhid wo g r f = dhid wo' g' r' f' := by
  unfold dhid; exact Finset.sum_congr rfl fun k _ => by rw [ho, hg]

theorem hid_congr (hn : ∀ k, n r k = n' r' k) (h1 : ∀ k, wg k f = wg' k f') (h2 : ∀ k, wu k f = wu' k f') :
    hid n wg wu r f = hid n' wg' wu' r' f' := by
  unfold hid; rw [pre_congr hn h1, pre_congr hn h2]

theorem dup_congr (hn : ∀ k, n r k = n' r' k) (h1 : ∀ k, wg k f = wg' k f') (ho : ∀ k, wo f k = wo' f' k)
    (hg : ∀ k, g r k = g' r' k) : dup n wg wo g r f = dup n' wg' wo' g' r' f' := by
  unfold dup; rw [pre_congr hn h1, dhid_congr ho hg]

theorem dgate_congr (hn : ∀ k, n r k = n' r' k) (h1 : ∀ k, wg k f = wg' k f') (h2 : ∀ k, wu k f = wu' k f')
    (ho : ∀ k, wo f k = wo' f' k) (hg : ∀ k, g r k = g' r' k) :
    dgate n wg wu wo g r f = dgate n' wg' wu' wo' g' r' f' := by
  unfold dgate; rw [pre_congr hn h1, pre_congr hn h2, dhid_congr ho hg]

end

end Cert.Ffn

end
-- ==== Proof.FfnKernel.lean ====
/- The feed-forward's backward call: what each grid point computes from its blocks, and the four arrays after the run. -/
module

public import proofs.«01_k».proof.Proof.FfnMath
public import proofs.«01_k».proof.Proof.Gen.KernelIdeal.Value
public import Idealize.ShloMosaic.Lib.Pipeline.ValueKit
public import Idealize.ShloMosaic.Lib.KernelVsHost

@[expose] public section

set_option maxRecDepth 16384

noncomputable section

namespace Cert.KernelIdeal.Ffn

open Idealize.ShloMosaic Idealize.ShloMosaic.TcCoe Cert.KernelIdeal Cert.KernelIdeal.Gen Cert.Ffn

/-! ## One grid point -/

section
variable (v0 : FVec Ideal S1024x1024 .bf16) (v2 v4 : FVec Ideal S1024x256 .bf16) (v6 : FVec Ideal S256x1024 .bf16)
  (v8 : FVec Ideal S1024x1024 .f32)

/-- The blocks by row and channel. -/
abbrev bn : Fin 1024 → Fin 1024 → EReal := fun r k => v0 (ix2 r k)
abbrev bw : Fin 1024 → Fin 256 → EReal := fun k f => v2 (ix2 k f)
abbrev bo : Fin 256 → Fin 1024 → EReal := fun f k => v6 (ix2 f k)
abbrev bg : Fin 1024 → Fin 1024 → EReal := fun r k => v8 (ix2 r k)

theorem dgate_at (r : Fin 1024) (f : Fin 256) :
    k0_pay1 (F := Ideal) (k0_pay21 v0 v2 v4 v6 v8) (k0_pay22 v0 v2 v4 v6 v8) (ix2 r f)
      = dgate (bn v0) (bw v2) (bw v4) (bo v6) (bg v8) r f := by
  pointwise [k0_pay1, k0_pay21, k0_pay22, k0_pay18, k0_pay15, k0_pay14, k0_pay13, k0_pay11, k0_pay10, k0_pay9, k0_pay8, k0_pay7]
  rfl

theorem dup_at (r : Fin 1024) (f : Fin 256) :
    k0_pay17 (F := Ideal) v0 v2 v6 v8 (ix2 r f) = dup (bn v0) (bw v2) (bo v6) (bg v8) r f := by
  pointwise [k0_pay17, k0_pay12, k0_pay15, k0_pay14, k0_pay11, k0_pay10, k0_pay8, k0_pay7]
  rfl

theorem dwg_at (k : Fin 1024) (f : Fin 256) :
    k0_pay2 (F := Ideal) (k0_pay7 v0) (k0_pay21 v0 v2 v4 v6 v8) (k0_pay22 v0 v2 v4 v6 v8) (ix2 k f)
      = ∑ r, bn v0 r k * dgate (bn v0) (bw v2) (bw v4) (bo v6) (bg v8) r f := by
  pointwise [k0_pay2, k0_pay7]
  exact Finset.sum_congr rfl fun r _ => by rw [dgate_at]

theorem dwu_at (k : Fin 1024) (f : Fin 256) :
    k0_pay20 (F := Ideal) v0 v2 v6 v8 (ix2 k f) = ∑ r, bn v0 r k * dup (bn v0) (bw v2) (bo v6) (bg v8) r f := by
  pointwise [k0_pay20, k0_pay7]
  exact Finset.sum_congr rfl fun r _ => by rw [dup_at]

theorem dwo_at (f : Fin 256) (k : Fin 1024) :
    k0_pay16 (F := Ideal) v0 v2 v4 v8 (ix2 f k) = ∑ r, hid (bn v0) (bw v2) (bw v4) r f * (half * bg v8 r k) := by
  pointwise [k0_pay16, k0_pay14, k0_pay13, k0_pay12, k0_pay11, k0_pay10, k0_pay9, k0_pay8, k0_pay7]
  rfl

/-! The accumulating stores add to what the point before left. -/

theorem acc4 (a : FVec Ideal S1024x256 .f32) (k : Fin 1024) (f : Fin 256) :
    k0_pay4 (F := Ideal) (k0_pay7 v0) (k0_pay21 v0 v2 v4 v6 v8) (k0_pay22 v0 v2 v4 v6 v8) a (ix2 k f)
      = a (ix2 k f) + ∑ r, bn v0 r k * dgate (bn v0) (bw v2) (bw v4) (bo v6) (bg v8) r f := by
  rw [← dwg_at]
  pointwise [k0_pay4]
theorem acc5 (a : FVec Ideal S1024x256 .f32) (k : Fin 1024) (f : Fin 256) :
    k0_pay5 (F := Ideal) (k0_pay20 v0 v2 v6 v8) a (ix2 k f)
      = a (ix2 k f) + ∑ r, bn v0 r k * dup (bn v0) (bw v2) (bo v6) (bg v8) r f := by
  rw [← dwu_at]
  pointwise [k0_pay5]
theorem acc6 (a : FVec Ideal S256x1024 .f32) (f : Fin 256) (k : Fin 1024) :
    k0_pay6 (F := Ideal) (k0_pay16 v0 v2 v4 v8) a (ix2 f k)
      = a (ix2 f k) + ∑ r, hid (bn v0) (bw v2) (bw v4) r f * (half * bg v8 r k) := by
  rw [← dwo_at]
  pointwise [k0_pay6]

theorem dn_at (r k : Fin 1024) :
    k0_pay3 (F := Ideal) (k0_pay8 v2) (k0_pay19 v0 v2 v4 v6 v8) (k0_pay21 v0 v2 v4 v6 v8) (k0_pay22 v0 v2 v4 v6 v8)
        (ix3 (0 : Fin 1) r k)
      = (∑ f, dup (bn v0) (bw v2) (bo v6) (bg v8) r f * bw v4 k f)
        + ∑ f, dgate (bn v0) (bw v2) (bw v4) (bo v6) (bg v8) r f * bw v2 k f := by
  pointwise [k0_pay3, k0_pay19, k0_pay8, k0_pay9]
  congr 1
  · exact Finset.sum_congr rfl fun r _ => by rw [dup_at]
  · exact Finset.sum_congr rfl fun r _ => by rw [dgate_at]

end

end Cert.KernelIdeal.Ffn

end
-- ==== Proof.FfnRun.lean ====
/- The four arrays the feed-forward's backward call leaves: each block's rows and channels are rows and channels of the
   arguments, and a run of eight points adds up the weights' gradients over all the rows. -/
module

public import proofs.«01_k».proof.Proof.FfnKernel

@[expose] public section

set_option maxRecDepth 16384

noncomputable section

namespace Cert.KernelIdeal.Ffn

open Idealize.ShloMosaic Idealize.ShloMosaic.TcCoe Cert.KernelIdeal Cert.KernelIdeal.Gen Cert.Ffn
open Idealize.ShloMosaic.Pipeline (Dat)

variable (m : (ℓ : Loc nD τ sig) → Buf (Elt Ideal) ℓ) (c : Dev nD)

/-! The arguments by row and channel. -/

abbrev N : Fin 8192 → Fin 1024 → EReal := fun s k => m ((c : Thread nD τ).loc main_arg0) (ix2 s k)
abbrev Wg : Fin 1024 → Fin 2816 → EReal := fun k f => m ((c : Thread nD τ).loc main_arg1) (ix2 k f)
abbrev Wu : Fin 1024 → Fin 2816 → EReal := fun k f => m ((c : Thread nD τ).loc main_arg2) (ix2 k f)
abbrev Wo : Fin 2816 → Fin 1024 → EReal := fun f k => m ((c : Thread nD τ).loc main_arg3) (ix2 f k)
abbrev G : Fin 8192 → Fin 1024 → EReal := fun s k => m ((c : Thread nD τ).loc main_arg4) (ix2 s k)

theorem idx : ∀ t : Fin cfg0.N, win0_0.index t = ![t.val % 8, 0] ∧ win0_1.index t = ![0, t.val / 8]
    ∧ win0_2.index t = ![0, t.val / 8] ∧ win0_3.index t = ![t.val / 8, 0] ∧ win0_4.index t = ![t.val % 8, 0]
    ∧ win0_5.index t = ![t.val / 8, t.val % 8, 0] ∧ win0_6.index t = ![0, t.val / 8] ∧ win0_7.index t = ![0, t.val / 8]
    ∧ win0_8.index t = ![t.val / 8, 0] ∧ t.val / 8 < 11 :=
  (by decide +kernel : ∀ t : Fin grid0.N, _)

/-- The row of the arguments at row `r` of point `t`'s blocks, and the channel at channel `f`. -/
abbrev row (t : Fin cfg0.N) (r : Fin 1024) : Fin 8192 := ⟨t.val % 8 * 1024 + r.val, by have := Nat.mod_lt t.val (by norm_num : 8 > 0); omega⟩
abbrev chan (t : Fin cfg0.N) (f : Fin 256) : Fin 2816 := ⟨t.val / 8 * 256 + f.val, by have := (idx t).2.2.2.2.2.2.2.2.2; omega⟩

theorem rd0 (t : Fin cfg0.N) (r k : Fin 1024) : bn (iblk m c 0 t) r k = N m c (row t r) k := by
  show iblk m c 0 t (ix2 r k) = m ((c : Thread nD τ).loc main_arg0) (ix2 (row t r) k)
  blk_ext [iblk, V, idx t]
theorem rd1 (t : Fin cfg0.N) (k : Fin 1024) (f : Fin 256) : bw (iblk m c 1 t) k f = Wg m c k (chan t f) := by
  show iblk m c 1 t (ix2 k f) = m ((c : Thread nD τ).loc main_arg1) (ix2 k (chan t f))
  blk_ext [iblk, V, idx t]
theorem rd2 (t : Fin cfg0.N) (k : Fin 1024) (f : Fin 256) : bw (iblk m c 2 t) k f = Wu m c k (chan t f) := by
  show iblk m c 2 t (ix2 k f) = m ((c : Thread nD τ).loc main_arg2) (ix2 k (chan t f))
  blk_ext [iblk, V, idx t]
theorem rd3 (t : Fin cfg0.N) (f : Fin 256) (k : Fin 1024) : bo (iblk m c 3 t) f k = Wo m c (chan t f) k := by
  show iblk m c 3 t (ix2 f k) = m ((c : Thread nD τ).loc main_arg3) (ix2 (chan t f) k)
  blk_ext [iblk, V, idx t]
theorem rd4 (t : Fin cfg0.N) (r k : Fin 1024) : bg (iblk m c 4 t) r k = G m c (row t r) k := by
  show iblk m c 4 t (ix2 r k) = m ((c : Thread nD τ).loc main_arg4) (ix2 (row t r) k)
  blk_ext [iblk, V, idx t]

/-- The gradients at a row and a channel of a point's blocks are the arguments' at that row and channel. -/
theorem dgate_rd (t : Fin cfg0.N) (r : Fin 1024) (f : Fin 256) :
    dgate (bn (iblk m c 0 t)) (bw (iblk m c 1 t)) (bw (iblk m c 2 t)) (bo (iblk m c 3 t)) (bg (iblk m c 4 t)) r f
      = dgate (N m c) (Wg m c) (Wu m c) (Wo m c) (G m c) (row t r) (chan t f) :=
  dgate_congr (rd0 m c t r) (fun k => rd1 m c t k f) (fun k => rd2 m c t k f) (rd3 m c t f) (rd4 m c t r)
theorem dup_rd (t : Fin cfg0.N) (r : Fin 1024) (f : Fin 256) :
    dup (bn (iblk m c 0 t)) (bw (iblk m c 1 t)) (bo (iblk m c 3 t)) (bg (iblk m c 4 t)) r f
      = dup (N m c) (Wg m c) (Wo m c) (G m c) (row t r) (chan t f) :=
  dup_congr (rd0 m c t r) (fun k => rd1 m c t k f) (rd3 m c t f) (rd4 m c t r)
theorem hid_rd (t : Fin cfg0.N) (r : Fin 1024) (f : Fin 256) :
    hid (bn (iblk m c 0 t)) (bw (iblk m c 1 t)) (bw (iblk m c 2 t)) r f
      = hid (N m c) (Wg m c) (Wu m c) (row t r) (chan t f) :=
  hid_congr (rd0 m c t r) (fun k => rd1 m c t k f) (fun k => rd2 m c t k f)

/-- A run of eight points stays at one block of channels and walks the rows. -/
theorem row_run (t : Fin cfg0.N) (s : Fin 8) (h : 8 * (t.val / 8) + s.val < cfg0.N) (r : Fin 1024)
    (hl : s.val * 1024 + r.val < 8192) : row ⟨8 * (t.val / 8) + s.val, h⟩ r = ⟨s.val * 1024 + r.val, hl⟩ :=
  Fin.ext (by show (8 * (t.val / 8) + s.val) % 8 * 1024 + r.val = s.val * 1024 + r.val; omega)
theorem chan_run (t : Fin cfg0.N) (s : Fin 8) (h : 8 * (t.val / 8) + s.val < cfg0.N) (f : Fin 256) :
    chan ⟨8 * (t.val / 8) + s.val, h⟩ f = chan t f :=
  Fin.ext (by show (8 * (t.val / 8) + s.val) / 8 * 256 + f.val = t.val / 8 * 256 + f.val; omega)

/-- The gate branch's weights. -/
theorem final6 : (dats m 0 c).arrAt 6 cfg0.N
    = fun j => ∑ s, N m c s (j 0) * dgate (N m c) (Wg m c) (Wu m c) (Wo m c) (G m c) s (j 1) := by
  refine (dats m 0 c).arrAt_eq_of_covers 6 _ (by decide +kernel) fun t hf y => ?_
  blk_simp
  idx_vars y
  rw [after0_6, Pipeline.eq_sum_fin_of_reset_step_apply_of_flush (fun n h => (outsAt0 m c n h).2.1) 8 (fun _ => 0)
    (fun p j => ∑ r, bn (iblk m c 0 p) r (j 0)
      * dgate (bn (iblk m c 0 p)) (bw (iblk m c 1 p)) (bw (iblk m c 2 p)) (bo (iblk m c 3 p)) (bg (iblk m c 4 p)) r (j 1))
    (fun t h j => by
      have h' : ¬ 1 ≤ t.val % 8 := by omega
      rw [outsAt0_A m c t h h' h h' h h']; frame_out; idx_vars j
      exact (dwg_at _ _ _ _ _ _ _).trans (zero_add _).symm)
    (fun t h j => by
      have h' : 1 ≤ t.val % 8 := by omega
      rw [outsAt0_B m c t h h' h h' h h']; frame_out; idx_vars j
      exact acc4 _ _ _ _ _ _ _ _) t ((flush0_6 t).mp hf) _, zero_add]
  have hj : ((View.whole main_v0_1).slice (win0_6.rect t)).emb (ix2 y0 y1) = ix2 y0 (chan t y1) := by blk_ext [idx t]
  rw [hj]
  refine Fin.sum_mul_add_congr fun s r hl => ?_
  refine congrArg₂ (· * ·) ((rd0 m c _ r y0).trans ?_) ((dgate_rd m c _ r y1).trans ?_)
  · rw [row_run t s _ r hl]; rfl
  · rw [row_run t s _ r hl, chan_run t s]; rfl

/-- The linear branch's weights. -/
theorem final7 : (dats m 0 c).arrAt 7 cfg0.N
    = fun j => ∑ s, N m c s (j 0) * dup (N m c) (Wg m c) (Wo m c) (G m c) s (j 1) := by
  refine (dats m 0 c).arrAt_eq_of_covers 7 _ (by decide +kernel) fun t hf y => ?_
  blk_simp
  idx_vars y
  rw [after0_7, Pipeline.eq_sum_fin_of_reset_step_apply_of_flush (fun n h => (outsAt0 m c n h).2.2.1) 8 (fun _ => 0)
    (fun p j => ∑ r, bn (iblk m c 0 p) r (j 0)
      * dup (bn (iblk m c 0 p)) (bw (iblk m c 1 p)) (bo (iblk m c 3 p)) (bg (iblk m c 4 p)) r (j 1))
    (fun t h j => by
      have h' : ¬ 1 ≤ t.val % 8 := by omega
      rw [outsAt0_A m c t h h' h h' h h']; frame_out; idx_vars j
      exact (dwu_at _ _ _ _ _ _).trans (zero_add _).symm)
    (fun t h j => by
      have h' : 1 ≤ t.val % 8 := by omega
      rw [outsAt0_B m c t h h' h h' h h']; frame_out; idx_vars j
      exact acc5 _ _ _ _ _ _ _) t ((flush0_7 t).mp hf) _, zero_add]
  have hj : ((View.whole main_v0_2).slice (win0_7.rect t)).emb (ix2 y0 y1) = ix2 y0 (chan t y1) := by blk_ext [idx t]
  rw [hj]
  refine Fin.sum_mul_add_congr fun s r hl => ?_
  refine congrArg₂ (· * ·) ((rd0 m c _ r y0).trans ?_) ((dup_rd m c _ r y1).trans ?_)
  · rw [row_run t s _ r hl]; rfl
  · rw [row_run t s _ r hl, chan_run t s]; rfl

/-- The output weights. -/
theorem final8 : (dats m 0 c).arrAt 8 cfg0.N
    = fun j => ∑ s, hid (N m c) (Wg m c) (Wu m c) s (j 0) * (half * G m c s (j 1)) := by
  refine (dats m 0 c).arrAt_eq_of_covers 8 _ (by decide +kernel) fun t hf y => ?_
  blk_simp
  idx_vars y
  rw [after0_8, Pipeline.eq_sum_fin_of_reset_step_apply_of_flush (fun n h => (outsAt0 m c n h).2.2.2) 8 (fun _ => 0)
    (fun p j => ∑ r, hid (bn (iblk m c 0 p)) (bw (iblk m c 1 p)) (bw (iblk m c 2 p)) r (j 0)
      * (half * bg (iblk m c 4 p) r (j 1)))
    (fun t h j => by
      have h' : ¬ 1 ≤ t.val % 8 := by omega
      rw [outsAt0_A m c t h h' h h' h h']; frame_out; idx_vars j
      exact (dwo_at _ _ _ _ _ _).trans (zero_add _).symm)
    (fun t h j => by
      have h' : 1 ≤ t.val % 8 := by omega
      rw [outsAt0_B m c t h h' h h' h h']; frame_out; idx_vars j
      exact acc6 _ _ _ _ _ _ _) t ((flush0_8 t).mp hf) _, zero_add]
  have hj : ((View.whole main_v0_3).slice (win0_8.rect t)).emb (ix2 y0 y1) = ix2 (chan t y0) y1 := by blk_ext [idx t]
  rw [hj]
  refine Fin.sum_mul_add_congr fun s r hl => ?_
  refine congrArg₂ (· * ·) ((hid_rd m c _ r y0).trans ?_) (congrArg (half * ·) ((rd4 m c _ r y1).trans ?_))
  · rw [row_run t s _ r hl, chan_run t s]; rfl
  · rw [row_run t s _ r hl]; rfl

/-- The channel `f` of group `j`. -/
abbrev grp (j : Fin 11) (f : Fin 256) : Fin 2816 := ⟨j.val * 256 + f.val, by omega⟩

/-- The activations, group by group of channels. -/
theorem final5 : (dats m 0 c).arrAt 5 cfg0.N
    = fun j => (∑ f, dup (N m c) (Wg m c) (Wo m c) (G m c) (j 1) (grp (j 0) f) * Wu m c (j 2) (grp (j 0) f))
        + ∑ f, dgate (N m c) (Wg m c) (Wu m c) (Wo m c) (G m c) (j 1) (grp (j 0) f) * Wg m c (j 2) (grp (j 0) f) := by
  refine (dats m 0 c).arrAt_eq_of_covers 5 _ (by decide +kernel) fun t hf y => ?_
  blk_simp
  idx_vars y
  have hj : ((View.whole main_v0_0).slice (win0_5.rect t)).emb (ix3 y0 y1 y2)
      = ix3 (⟨t.val / 8, (idx t).2.2.2.2.2.2.2.2.2⟩ : Fin 11) (row t y1) y2 := by blk_ext [idx t]
  have h0 : y0 = 0 := Subsingleton.elim _ _
  have key : (outsAt0 m c t.val t.isLt).1 (ix3 y0 y1 y2)
      = (∑ f, dup (bn (iblk m c 0 t)) (bw (iblk m c 1 t)) (bo (iblk m c 3 t)) (bg (iblk m c 4 t)) y1 f
          * bw (iblk m c 2 t) y2 f)
        + ∑ f, dgate (bn (iblk m c 0 t)) (bw (iblk m c 1 t)) (bw (iblk m c 2 t)) (bo (iblk m c 3 t)) (bg (iblk m c 4 t)) y1 f
          * bw (iblk m c 1 t) y2 f := by
    subst h0
    by_cases h : t.val % 8 = 0
    · have h' : ¬ 1 ≤ t.val % 8 := by omega
      rw [outsAt0_A m c t h h' h h' h h']; frame_out
      exact dn_at _ _ _ _ _ _ _
    · have h' : 1 ≤ t.val % 8 := by omega
      rw [outsAt0_B m c t h h' h h' h h']; frame_out
      exact dn_at _ _ _ _ _ _ _
  rw [after0_5, hj]
  refine key.trans ?_
  refine congrArg₂ (· + ·) ?_ ?_
  · exact Finset.sum_congr rfl fun f _ => congrArg₂ (· * ·) (dup_rd m c t y1 f) (rd2 m c t y2 f)
  · exact Finset.sum_congr rfl fun f _ => congrArg₂ (· * ·) (dgate_rd m c t y1 f) (rd1 m c t y2 f)

end Cert.KernelIdeal.Ffn

end
-- ==== Proof.FfnRef.lean ====
/- The reference's feed-forward gradients at a row, a channel, or a row and a channel. -/
module

public import proofs.«01_k».proof.Proof.FfnMath
public import proofs.«01_k».proof.Proof.Gen.ReferenceIdeal.Run
public import Idealize.ShloMosaic.Lib.Pipeline.ValueKit
public import Idealize.ShloMosaic.Lib.KernelVsHost

@[expose] public section

set_option maxRecDepth 16384

noncomputable section

namespace Cert.ReferenceIdeal.Ffn

open Idealize.ShloMosaic Idealize.ShloMosaic.TcCoe Cert.ReferenceIdeal Cert.ReferenceIdeal.Gen Cert.Ffn

section
variable (a0 : FVec Ideal S8192x1024 .bf16) (a1 a2 : FVec Ideal S1024x2816 .bf16) (a3 : FVec Ideal S2816x1024 .bf16)
  (a4 : FVec Ideal S8192x1024 .f32)

abbrev fn : Fin 8192 → Fin 1024 → EReal := fun s k => a0 (ix2 s k)
abbrev fw : Fin 1024 → Fin 2816 → EReal := fun k f => a1 (ix2 k f)
abbrev fo : Fin 2816 → Fin 1024 → EReal := fun f k => a3 (ix2 f k)
abbrev fg : Fin 8192 → Fin 1024 → EReal := fun s k => a4 (ix2 s k)

/-! ## All channels at once -/

def rpre : FVec Ideal S8192x2816 .f32 :=
  Host.dotGeneral (F := Ideal) dot_S8192x1024_S1024x2816_S8192x2816_1_0_0_1_n_n none (extf .f32 a0 bitsLt_bf16_f32) (extf .f32 a1 bitsLt_bf16_f32)
def rhalf : FVec Ideal S8192x1024 .f32 := mulf (broadcastInDim S8192x1024 ![] bcast_S_S8192x1024 (constant (F := Ideal) S_ .f32 0x3F000000#32)) a4
def rdhid : FVec Ideal S8192x2816 .f32 :=
  Host.dotGeneral (F := Ideal) dot_S8192x1024_S2816x1024_S8192x2816_1_1_0_0_n_n none (rhalf a4) (extf .f32 a3 bitsLt_bf16_f32)
def rone : FVec Ideal S8192x2816 .f32 := broadcastInDim S8192x2816 ![] bcast_S_S8192x2816 (constant (F := Ideal) S_ .f32 0x3F800000#32)
def rsig : FVec Ideal S8192x2816 .f32 := Host.divf (F := Ideal) rone (addf rone (Host.exp (Host.negf (rpre a0 a1))))
def rdgate : FVec Ideal S8192x2816 .f32 :=
  addf (mulf (mulf (rdhid a3 a4) (rpre a0 a2)) (rsig a0 a1))
    (mulf (mulf (rpre a0 a1) (mulf (rdhid a3 a4) (rpre a0 a2))) (mulf (rsig a0 a1) (subf rone (rsig a0 a1))))
def rdup : FVec Ideal S8192x2816 .f32 := mulf (mulf (rpre a0 a1) (rsig a0 a1)) (rdhid a3 a4)
def rhid : FVec Ideal S8192x2816 .f32 := mulf (mulf (rpre a0 a1) (rsig a0 a1)) (rpre a0 a2)

theorem rpre_at (s : Fin 8192) (f : Fin 2816) : rpre a0 a1 (ix2 s f) = pre (fn a0) (fw a1) s f := by
  pointwise [rpre]; rfl
theorem rdhid_at (s : Fin 8192) (f : Fin 2816) : rdhid a3 a4 (ix2 s f) = dhid (fo a3) (fg a4) s f := by
  pointwise [rdhid, rhalf]; rfl
theorem rsig_at (s : Fin 8192) (f : Fin 2816) : rsig a0 a1 (ix2 s f) = Ideal.logistic (pre (fn a0) (fw a1) s f) := by
  pointwise [rsig, rone]; rw [rpre_at]; rfl
theorem rdgate_at (s : Fin 8192) (f : Fin 2816) :
    rdgate a0 a1 a2 a3 a4 (ix2 s f) = dgate (fn a0) (fw a1) (fw a2) (fo a3) (fg a4) s f := by
  pointwise [rdgate, rone]; rw [rpre_at, rpre_at, rdhid_at, rsig_at]; rfl
theorem rdup_at (s : Fin 8192) (f : Fin 2816) :
    rdup a0 a1 a3 a4 (ix2 s f) = dup (fn a0) (fw a1) (fo a3) (fg a4) s f := by
  pointwise [rdup]; rw [rpre_at, rdhid_at, rsig_at]; rfl
theorem rhid_at (s : Fin 8192) (f : Fin 2816) : rhid a0 a1 a2 (ix2 s f) = hid (fn a0) (fw a1) (fw a2) s f := by
  pointwise [rhid]; rw [rpre_at, rpre_at, rsig_at]; rfl

theorem dwg_eq : transpose S1024x2816 [1, 0] (Host.dotGeneral (F := Ideal) dot_S8192x2816_S8192x1024_S2816x1024_0_0_1_1_n_n none
      (rdgate a0 a1 a2 a3 a4) (extf .f32 a0 bitsLt_bf16_f32)) transposes_S2816x1024_S1024x2816_1_0
    = fun j => ∑ s, fn a0 s (j 0) * dgate (fn a0) (fw a1) (fw a2) (fo a3) (fg a4) s (j 1) := by
  funext j; idx_vars j; pointwise
  exact Finset.sum_congr rfl fun s _ => by rw [rdgate_at]; exact mul_comm _ _
theorem dwu_eq : transpose S1024x2816 [1, 0] (Host.dotGeneral (F := Ideal) dot_S8192x2816_S8192x1024_S2816x1024_0_0_1_1_n_n none
      (rdup a0 a1 a3 a4) (extf .f32 a0 bitsLt_bf16_f32)) transposes_S2816x1024_S1024x2816_1_0
    = fun j => ∑ s, fn a0 s (j 0) * dup (fn a0) (fw a1) (fo a3) (fg a4) s (j 1) := by
  funext j; idx_vars j; pointwise
  exact Finset.sum_congr rfl fun s _ => by rw [rdup_at]; exact mul_comm _ _
theorem dwo_eq : transpose S2816x1024 [1, 0] (Host.dotGeneral (F := Ideal) dot_S8192x1024_S8192x2816_S1024x2816_0_0_1_1_n_n none
      (rhalf a4) (rhid a0 a1 a2)) transposes_S1024x2816_S2816x1024_1_0
    = fun j => ∑ s, hid (fn a0) (fw a1) (fw a2) s (j 0) * (half * fg a4 s (j 1)) := by
  funext j; idx_vars j; pointwise [rhalf]
  exact Finset.sum_congr rfl fun s _ => by rw [rhid_at]; exact mul_comm _ _

/-! ## Group by group of channels -/

abbrev grp (j : Fin 11) (f : Fin 256) : Fin 2816 := ⟨j.val * 256 + f.val, by omega⟩

def gw : FVec Ideal S1024x11x256 .f32 := shapeCast _ (extf .f32 a1 bitsLt_bf16_f32) shapeCasts_S1024x2816_S1024x11x256
def go : FVec Ideal S11x256x1024 .f32 := shapeCast _ (extf .f32 a3 bitsLt_bf16_f32) shapeCasts_S2816x1024_S11x256x1024
def gpre : FVec Ideal S8192x11x256 .f32 :=
  Host.dotGeneral (F := Ideal) dot_S8192x1024_S1024x11x256_S8192x11x256_1_0_0_12_n_n none (extf .f32 a0 bitsLt_bf16_f32) (gw a1)
def gdhid : FVec Ideal S8192x11x256 .f32 :=
  Host.dotGeneral (F := Ideal) dot_S8192x1024_S11x256x1024_S8192x11x256_1_2_0_01_n_n none (rhalf a4) (go a3)
def gone : FVec Ideal S8192x11x256 .f32 := broadcastInDim S8192x11x256 ![] bcast_S_S8192x11x256 (constant (F := Ideal) S_ .f32 0x3F800000#32)
def gsig : FVec Ideal S8192x11x256 .f32 := Host.divf (F := Ideal) gone (addf gone (Host.exp (Host.negf (gpre a0 a1))))
def gdgate : FVec Ideal S8192x11x256 .f32 :=
  addf (mulf (mulf (gdhid a3 a4) (gpre a0 a2)) (gsig a0 a1))
    (mulf (mulf (gpre a0 a1) (mulf (gdhid a3 a4) (gpre a0 a2))) (mulf (gsig a0 a1) (subf gone (gsig a0 a1))))
def gdup : FVec Ideal S8192x11x256 .f32 := mulf (mulf (gpre a0 a1) (gsig a0 a1)) (gdhid a3 a4)

theorem gw_at (k : Fin 1024) (j : Fin 11) (f : Fin 256) : gw a1 (ix3 k j f) = fw a1 k (grp j f) := by
  pointwise [gw]
theorem go_at (k : Fin 1024) (j : Fin 11) (f : Fin 256) : go a3 (ix3 j f k) = fo a3 (grp j f) k := by
  pointwise [go]
theorem gpre_at (s : Fin 8192) (j : Fin 11) (f : Fin 256) : gpre a0 a1 (ix3 s j f) = pre (fn a0) (fw a1) s (grp j f) := by
  pointwise [gpre]
  exact Finset.sum_congr rfl fun k _ => by rw [gw_at]
theorem gdhid_at (s : Fin 8192) (j : Fin 11) (f : Fin 256) : gdhid a3 a4 (ix3 s j f) = dhid (fo a3) (fg a4) s (grp j f) := by
  pointwise [gdhid, rhalf]
  exact Finset.sum_congr rfl fun k _ => by rw [go_at]; rfl
theorem gsig_at (s : Fin 8192) (j : Fin 11) (f : Fin 256) :
    gsig a0 a1 (ix3 s j f) = Ideal.logistic (pre (fn a0) (fw a1) s (grp j f)) := by
  pointwise [gsig, gone]; rw [gpre_at]; rfl
theorem gdgate_at (s : Fin 8192) (j : Fin 11) (f : Fin 256) :
    gdgate a0 a1 a2 a3 a4 (ix3 s j f) = dgate (fn a0) (fw a1) (fw a2) (fo a3) (fg a4) s (grp j f) := by
  pointwise [gdgate, gone]; rw [gpre_at, gpre_at, gdhid_at, gsig_at]; rfl
theorem gdup_at (s : Fin 8192) (j : Fin 11) (f : Fin 256) :
    gdup a0 a1 a3 a4 (ix3 s j f) = dup (fn a0) (fw a1) (fo a3) (fg a4) s (grp j f) := by
  pointwise [gdup]; rw [gpre_at, gdhid_at, gsig_at]; rfl

theorem dn_eq : truncf .bf16 (addf
      (Host.dotGeneral (F := Ideal) dot_S8192x11x256_S1024x11x256_S11x8192x1024_2_2_0_0_1_1 none (gdup a0 a1 a3 a4) (gw a2))
      (Host.dotGeneral (F := Ideal) dot_S8192x11x256_S1024x11x256_S11x8192x1024_2_2_0_0_1_1 none (gdgate a0 a1 a2 a3 a4) (gw a1)))
      bitsLt_bf16_f32
    = fun j => (∑ f, dup (fn a0) (fw a1) (fo a3) (fg a4) (j 1) (grp (j 0) f) * fw a2 (j 2) (grp (j 0) f))
        + ∑ f, dgate (fn a0) (fw a1) (fw a2) (fo a3) (fg a4) (j 1) (grp (j 0) f) * fw a1 (j 2) (grp (j 0) f) := by
  funext j; idx_vars j; pointwise
  exact congrArg₂ (· + ·) (Finset.sum_congr rfl fun f _ => by rw [gdup_at, gw_at])
    (Finset.sum_congr rfl fun f _ => by rw [gdgate_at, gw_at])

end

end Cert.ReferenceIdeal.Ffn

end
-- ==== Proof.FfnEqual.lean ====
/- The feed-forward's backward call and the gradients of `jax.vjp` leave the same four arrays. -/
module

public import proofs.«01_k».proof.Proof.FfnRun
public import proofs.«01_k».proof.Proof.FfnRef
public import proofs.«01_k».proof.Defs

@[expose] public section

set_option maxRecDepth 16384

noncomputable section

namespace Cert.Ffn

open Idealize.ShloMosaic Idealize.ShloMosaic.TcCoe Idealize.SL.Sem Cert.KernelIdeal.Ffn

theorem algebraic : Cert.algebraic_KernelIdeal_ReferenceIdeal := by
  pair_intro
  · run_from Cert.KernelIdeal.Value.run_blocks m g
  · run_from Cert.ReferenceIdeal.Value.run m' g'
    · obtain ⟨h0, h1, h2, h3, h4⟩ := hagree c
      refine (Cert.ReferenceIdeal.Ffn.dn_eq _ _ _ _ _).trans ?_
      rw [h0, h1, h2, h3, h4]
      exact (final5 m c).symm
    · exact (Cert.ReferenceIdeal.Ffn.dwg_eq _ _ _ _ _).trans (final6 m c).symm
    · exact (Cert.ReferenceIdeal.Ffn.dwu_eq _ _ _ _).trans (final7 m c).symm
    · exact (Cert.ReferenceIdeal.Ffn.dwo_eq _ _ _ _).trans (final8 m c).symm

end Cert.Ffn

end
-- ==== Proof.MergeMath.lean ====
/- The merge of the four branches, over any kind of rows, and the finite values its sums are exchanged at. -/
module

public import Idealize.ShloMosaic.Lib.KernelVsHost

@[expose] public section

noncomputable section

namespace Cert.Merge

open Idealize.ShloMosaic

/-- Channel `k` of branch `n` among the branches' channels, and gate `d` of branch `n` among the gates. -/
abbrev chan (n : Fin 4) (k : Fin 512) : Fin 2048 := ⟨n.val * 512 + k.val, by omega⟩
abbrev gate (n : Fin 4) (d : Fin 1024) : Fin 4096 := ⟨n.val * 1024 + d.val, by omega⟩

/-- The branch and the place in it of a channel, and of a gate. -/
abbrev brc (f : Fin 2048) : Fin 4 := ⟨f.val / 512, by omega⟩
abbrev atc (f : Fin 2048) : Fin 512 := ⟨f.val % 512, Nat.mod_lt _ (by norm_num)⟩
abbrev brg (f : Fin 4096) : Fin 4 := ⟨f.val / 1024, by omega⟩
abbrev atg (f : Fin 4096) : Fin 1024 := ⟨f.val % 1024, Nat.mod_lt _ (by norm_num)⟩

variable {R R' : Type}

/-- A branch's channels brought up to the trunk's. -/
def lift (y : R → Fin 512 → EReal) (w : Fin 512 → Fin 1024 → EReal) (r : R) (d : Fin 1024) : EReal := ∑ k, y r k * w k d

/-- What a branch gives the trunk: its channels brought up, by its gate. -/
def gated (p : R → Fin 1024 → EReal) (y : R → Fin 512 → EReal) (w : Fin 512 → Fin 1024 → EReal) (r : R) (d : Fin 1024) : EReal :=
  Ideal.logistic (p r d) * lift y w r d

/-- The gradient before the output weights, and a branch's share of it. -/
def back (g : R → Fin 1024 → EReal) (o : Fin 1024 → Fin 1024 → EReal) (r : R) (d : Fin 1024) : EReal := ∑ k, g r k * o d k
def share (p g : R → Fin 1024 → EReal) (o : Fin 1024 → Fin 1024 → EReal) (r : R) (d : Fin 1024) : EReal :=
  Ideal.logistic (p r d) * back g o r d

section
variable {p g : R → Fin 1024 → EReal} {p' g' : R' → Fin 1024 → EReal} {y : R → Fin 512 → EReal} {y' : R' → Fin 512 → EReal}
  {w w' : Fin 512 → Fin 1024 → EReal} {o o' : Fin 1024 → Fin 1024 → EReal} {r : R} {r' : R'}

theorem lift_congr (hy : ∀ k, y r k = y' r' k) (hw : ∀ k d, w k d = w' k d) (d : Fin 1024) : lift y w r d = lift y' w' r' d :=
  Finset.sum_congr rfl fun k _ => by rw [hy, hw]
theorem gated_congr (hp : ∀ d, p r d = p' r' d) (hy : ∀ k, y r k = y' r' k) (hw : ∀ k d, w k d = w' k d) (d : Fin 1024) :
    gated p y w r d = gated p' y' w' r' d := by
  unfold gated; rw [hp, lift_congr hy hw]
theorem back_congr (hg : ∀ d, g r d = g' r' d) (ho : ∀ d k, o d k = o' d k) (d : Fin 1024) : back g o r d = back g' o' r' d :=
  Finset.sum_congr rfl fun k _ => by rw [hg, ho]
theorem share_congr (hp : ∀ d, p r d = p' r' d) (hg : ∀ d, g r d = g' r' d) (ho : ∀ d k, o d k = o' d k) (d : Fin 1024) :
    share p g o r d = share p' g' o' r' d := by
  unfold share; rw [hp, back_congr hg ho]
end

/-! ## Finite values -/

/-- The value is a real number. -/
def IsReal (x : EReal) : Prop := ∃ q : ℝ, x = (q : EReal)

theorem real_of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | coe q => exact ⟨q, rfl⟩
  | top => simp [Ideal.cmp] at h

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sum {ι : Type} (s : Finset ι) {f : ι → EReal} (h : ∀ i, IsReal (f i)) : IsReal (∑ i ∈ s, f i) :=
  Finset.sum_induction f IsReal (fun _ _ => IsReal.add) ⟨0, EReal.coe_zero.symm⟩ fun i _ => h i

/-- A gate lies between zero and one, whatever it is the gate of. -/
theorem real_logistic (x : EReal) : IsReal (Ideal.logistic x) := by
  induction x with
  | bot => exact ⟨0, by simp⟩
  | coe q => exact ⟨_, Ideal.logistic_coe q⟩
  | top => exact ⟨1, by simp⟩

theorem real_gated {p : R → Fin 1024 → EReal} {y : R → Fin 512 → EReal} {w : Fin 512 → Fin 1024 → EReal}
    (hy : ∀ r k, IsReal (y r k)) (hw : ∀ k d, IsReal (w k d)) (r : R) (d : Fin 1024) : IsReal (gated p y w r d) :=
  (real_logistic _).mul (IsReal.sum _ fun k => (hy r k).mul (hw k d))

/-- A finite factor goes over a sum of finite values. -/
theorem sum_mul_real {ι : Type} (s : Finset ι) {z : ι → EReal} {w : EReal} (hz : ∀ i, IsReal (z i)) (hw : IsReal w) :
    (∑ i ∈ s, z i) * w = ∑ i ∈ s, z i * w := by
  classical
  obtain ⟨b, rfl⟩ := hw
  induction s using Finset.induction_on with
  | empty => simp
  | insert i s hi ih =>
    rw [Finset.sum_insert hi, Finset.sum_insert hi, ← ih]
    obtain ⟨a, ha⟩ := hz i
    obtain ⟨e, he⟩ := IsReal.sum s hz
    rw [ha, he, ← EReal.coe_add, ← EReal.coe_mul, ← EReal.coe_mul, ← EReal.coe_mul, ← EReal.coe_add, add_mul]

/-- The branches' products added up are the product of the branches' sum. -/
theorem sum_branches {ι : Type} [Fintype ι] {z : Fin 4 → ι → EReal} {w : ι → EReal} (hz : ∀ n i, IsReal (z n i)) (hw : ∀ i, IsReal (w i)) :
    ∑ n, ∑ i, z n i * w i = ∑ i, (∑ n, z n i) * w i := by
  rw [Finset.sum_comm]
  exact Finset.sum_congr rfl fun i _ => (sum_mul_real _ (fun n => hz n i) (hw i)).symm

end Cert.Merge

end
-- ==== Proof.MergeRun.lean ====
/- The four arrays the merge's backward call leaves: a point reads a block of rows and a branch, a run of sixteen points
   adds up the branch's weights over all the rows, and the sixty-four points add up the output weights. -/
module

public import proofs.«01_k».proof.Proof.MergeMath
public import proofs.«01_k».proof.Proof.Gen.Kernel2Ideal.Value
public import Idealize.ShloMosaic.Lib.Pipeline.ValueKit
public import Idealize.ShloMosaic.Lib.KernelVsHost

@[expose] public section

set_option maxRecDepth 16384

noncomputable section

namespace Cert.Kernel2Ideal.Merge

open Idealize.ShloMosaic Idealize.ShloMosaic.TcCoe Cert.Kernel2Ideal Cert.Kernel2Ideal.Gen Cert.Merge
open Idealize.ShloMosaic.Pipeline (Dat)

/-! ## One grid point -/

section
variable (v0 : FVec Ideal S512x512 .f32) (v1 : FVec Ideal S512x1024 .f32) (v2 : FVec Ideal S1x512x1024 .bf16)
  (v5 : FVec Ideal S1024x1024 .bf16) (v7 : FVec Ideal S512x1024 .f32)

/-- The blocks by row and channel. -/
abbrev bh : Fin 512 → Fin 1024 → EReal := fun r k => v1 (ix2 r k)
abbrev by' : Fin 512 → Fin 512 → EReal := fun r k => v0 (ix2 r k)
abbrev bw : Fin 512 → Fin 1024 → EReal := fun k d => v2 (ix3 (0 : Fin 1) k d)
abbrev bo : Fin 1024 → Fin 1024 → EReal := fun d k => v5 (ix2 d k)

theorem lift_at (r : Fin 512) (d : Fin 1024) : k0_pay6 (F := Ideal) v0 v2 (ix2 r d) = lift (by' v0) (bw v2) r d := by
  pointwise [k0_pay6, k0_pay4]; rfl
theorem back_at (r : Fin 512) (d : Fin 1024) : k0_pay7 (F := Ideal) v5 v7 (ix2 r d) = back (bh v7) (bo v5) r d := by
  pointwise [k0_pay7]; rfl
theorem share_at (r : Fin 512) (d : Fin 1024) : k0_pay9 (F := Ideal) v1 v5 v7 (ix2 r d) = share (bh v1) (bh v7) (bo v5) r d := by
  pointwise [k0_pay9, k0_pay5]; rw [back_at]; rfl

/-- The gradients a point finds: the branch's channels, its gates, its weights, the output weights. -/
def pys (r : Fin 512) (k : Fin 512) : EReal := ∑ d, share (bh v1) (bh v7) (bo v5) r d * bw v2 k d
def pgp (r : Fin 512) (d : Fin 1024) : EReal :=
  back (bh v7) (bo v5) r d * lift (by' v0) (bw v2) r d
    * (Ideal.logistic (bh v1 r d) * (1 - Ideal.logistic (bh v1 r d)))
def pwb (k : Fin 512) (d : Fin 1024) : EReal := ∑ r, by' v0 r k * share (bh v1) (bh v7) (bo v5) r d
def pwo (d k : Fin 1024) : EReal := ∑ r, gated (bh v1) (by' v0) (bw v2) r d * bh v7 r k

theorem ys_at (r k : Fin 512) : k0_pay10 (F := Ideal) v1 v2 v5 v7 (ix2 r k) = pys v1 v2 v5 v7 r k := by
  pointwise [k0_pay10, k0_pay4]
  exact Finset.sum_congr rfl fun d _ => congrArg (· * _) (share_at _ _ _ _ _)
theorem gp_at (r : Fin 512) (d : Fin 1024) : k0_pay12 (F := Ideal) v0 v1 v2 v5 v7 (ix2 r d) = pgp v0 v1 v2 v5 v7 r d := by
  pointwise [k0_pay12, k0_pay5]
  rw [back_at, lift_at]; rfl
theorem wb_at (k : Fin 512) (d : Fin 1024) : k0_pay11 (F := Ideal) v0 v1 v5 v7 (ix2 k d) = pwb v0 v1 v5 v7 k d := by
  pointwise [k0_pay11]
  exact Finset.sum_congr rfl fun r _ => congrArg (_ * ·) (share_at _ _ _ _ _)
theorem wo_at (d k : Fin 1024) : k0_pay8 (F := Ideal) v0 v1 v2 v7 (ix2 d k) = pwo v0 v1 v2 v7 d k := by
  pointwise [k0_pay8, k0_pay5]
  refine Finset.sum_congr rfl fun r _ => congrArg (· * _) ?_
  rw [lift_at]; rfl
theorem wb0 (k : Fin 512) (d : Fin 1024) :
    k0_pay1 (F := Ideal) (k0_pay11 v0 v1 v5 v7) (ix3 (0 : Fin 1) k d) = pwb v0 v1 v5 v7 k d := by
  rw [← wb_at]
  pointwise [k0_pay1]
theorem wb1 (a : FVec Ideal S1x512x1024 .f32) (k : Fin 512) (d : Fin 1024) :
    k0_pay2 (F := Ideal) (k0_pay11 v0 v1 v5 v7) a (ix3 (0 : Fin 1) k d) = a (ix3 (0 : Fin 1) k d) + pwb v0 v1 v5 v7 k d := by
  rw [← wb_at]
  pointwise [k0_pay2]
theorem wo1 (a : FVec Ideal S1024x1024 .f32) (d k : Fin 1024) :
    k0_pay3 (F := Ideal) (k0_pay8 v0 v1 v2 v7) a (ix2 d k) = a (ix2 d k) + pwo v0 v1 v2 v7 d k := by
  rw [← wo_at]
  pointwise [k0_pay3]

end

/-! ## The run -/

variable (m : (ℓ : Loc nD τ sig) → Buf (Elt Ideal) ℓ) (c : Dev nD)

abbrev Y (n : Fin 4) : Fin 8192 → Fin 512 → EReal := fun s k => m ((c : Thread nD τ).loc main_arg1) (ix2 s (chan n k))
abbrev P (n : Fin 4) : Fin 8192 → Fin 1024 → EReal := fun s d => m ((c : Thread nD τ).loc main_arg2) (ix2 s (gate n d))
abbrev B (n : Fin 4) : Fin 512 → Fin 1024 → EReal := fun k d => m ((c : Thread nD τ).loc main_arg3) (ix3 n k d)
abbrev O : Fin 1024 → Fin 1024 → EReal := fun d k => m ((c : Thread nD τ).loc main_arg4) (ix2 d k)
abbrev G : Fin 8192 → Fin 1024 → EReal := fun s k => m ((c : Thread nD τ).loc main_arg5) (ix2 s k)

theorem idx : ∀ t : Fin cfg0.N, win0_1.index t = ![t.val % 16, t.val / 16]
    ∧ win0_2.index t = ![t.val % 16, t.val / 16] ∧ win0_3.index t = ![t.val / 16, 0, 0] ∧ win0_4.index t = ![0, 0]
    ∧ win0_5.index t = ![t.val % 16, 0] ∧ win0_6.index t = ![t.val % 16, t.val / 16] ∧ win0_7.index t = ![t.val % 16, t.val / 16]
    ∧ win0_8.index t = ![t.val / 16, 0, 0] ∧ win0_9.index t = ![0, 0] ∧ t.val / 16 < 4 ∧ t.val < 64 :=
  (by decide +kernel : ∀ t : Fin grid0.N, _)

/-- The row of the arguments at row `r` of point `t`'s blocks, and the point's branch. -/
abbrev row (t : Fin cfg0.N) (r : Fin 512) : Fin 8192 := ⟨t.val % 16 * 512 + r.val, by have := Nat.mod_lt t.val (by norm_num : 16 > 0); omega⟩
abbrev br (t : Fin cfg0.N) : Fin 4 := ⟨t.val / 16, (idx t).2.2.2.2.2.2.2.2.2.1⟩

theorem rd1 (t : Fin cfg0.N) (r : Fin 512) (k : Fin 512) : by' (iblk m c 1 t) r k = Y m c (br t) (row t r) k := by
  show iblk m c 1 t (ix2 r k) = m ((c : Thread nD τ).loc main_arg1) (ix2 (row t r) (chan (br t) k))
  blk_ext [iblk, V, idx t]
theorem rd2 (t : Fin cfg0.N) (r : Fin 512) (d : Fin 1024) : bh (iblk m c 2 t) r d = P m c (br t) (row t r) d := by
  show iblk m c 2 t (ix2 r d) = m ((c : Thread nD τ).loc main_arg2) (ix2 (row t r) (gate (br t) d))
  blk_ext [iblk, V, idx t]
theorem rd3 (t : Fin cfg0.N) (k : Fin 512) (d : Fin 1024) : bw (iblk m c 3 t) k d = B m c (br t) k d := by
  show iblk m c 3 t (ix3 (0 : Fin 1) k d) = m ((c : Thread nD τ).loc main_arg3) (ix3 (br t) k d)
  blk_ext [iblk, V, idx t]
theorem rd4 (t : Fin cfg0.N) (d k : Fin 1024) : bo (iblk m c 4 t) d k = O m c d k := by
  show iblk m c 4 t (ix2 d k) = m ((c : Thread nD τ).loc main_arg4) (ix2 d k)
  blk_ext [iblk, V, idx t]
theorem rd5 (t : Fin cfg0.N) (r : Fin 512) (k : Fin 1024) : bh (iblk m c 5 t) r k = G m c (row t r) k := by
  show iblk m c 5 t (ix2 r k) = m ((c : Thread nD τ).loc main_arg5) (ix2 (row t r) k)
  blk_ext [iblk, V, idx t]

/-- A branch's share of the gradient at a row. -/
abbrev shr (n : Fin 4) : Fin 8192 → Fin 1024 → EReal := share (P m c n) (G m c) (O m c)

theorem shr_eq (t : Fin cfg0.N) (r : Fin 512) (d : Fin 1024) :
    share (bh (iblk m c 2 t)) (bh (iblk m c 5 t)) (bo (iblk m c 4 t)) r d = shr m c (br t) (row t r) d :=
  share_congr (rd2 m c t r) (rd5 m c t r) (rd4 m c t) d

/-- The branches' channels. -/
theorem final6 : (dats m 0 c).arrAt 6 cfg0.N
    = fun j => ∑ d, shr m c (brc (j 1)) (j 0) d * B m c (brc (j 1)) (atc (j 1)) d := by
  refine (dats m 0 c).arrAt_eq_of_covers 6 _ (by decide +kernel) fun t hf y => ?_
  blk_simp
  idx_vars y
  have hj : ((View.whole main_v0_0).slice (win0_6.rect t)).emb (ix2 y0 y1) = ix2 (row t y0) (chan (br t) y1) := by blk_ext [idx t]
  have key : (outsAt0 m c t.val t.isLt).1 (ix2 y0 y1) = pys (iblk m c 2 t) (iblk m c 3 t) (iblk m c 4 t) (iblk m c 5 t) y0 y1 := by
    by_cases h : t.val % 16 = 0
    · have h' : ¬ 1 ≤ t.val % 16 := by omega
      by_cases hh : t.val % 64 = 0
      · have hv : ¬ 1 ≤ t.val := by have := (idx t).2.2.2.2.2.2.2.2.2.2; omega
        rw [outsAt0_A m c t h h' hh hv]; frame_out; exact ys_at _ _ _ _ _ _
      · rw [outsAt0_C m c t h h' hh (by omega)]; frame_out; exact ys_at _ _ _ _ _ _
    · rw [outsAt0_B m c t h (by omega) (by omega) (by omega)]; frame_out; exact ys_at _ _ _ _ _ _
  rw [after0_6, hj]
  refine key.trans ?_
  have e0 : brc (chan (br t) y1) = br t := Fin.ext (by show (t.val / 16 * 512 + y1.val) / 512 = t.val / 16; omega)
  have e1 : atc (chan (br t) y1) = y1 := Fin.ext (by show (t.val / 16 * 512 + y1.val) % 512 = y1.val; omega)
  show _ = ∑ d, shr m c (brc (chan (br t) y1)) (row t y0) d * B m c (brc (chan (br t) y1)) (atc (chan (br t) y1)) d
  rw [e0, e1]
  exact Finset.sum_congr rfl fun d _ => congrArg₂ (· * ·) (shr_eq m c t y0 d) (rd3 m c t y1 d)

/-- The gates. -/
theorem final7 : (dats m 0 c).arrAt 7 cfg0.N
    = fun j => back (G m c) (O m c) (j 0) (atg (j 1)) * lift (Y m c (brg (j 1))) (B m c (brg (j 1))) (j 0) (atg (j 1))
        * (Ideal.logistic (P m c (brg (j 1)) (j 0) (atg (j 1)))
          * (1 - Ideal.logistic (P m c (brg (j 1)) (j 0) (atg (j 1))))) := by
  refine (dats m 0 c).arrAt_eq_of_covers 7 _ (by decide +kernel) fun t hf y => ?_
  blk_simp
  idx_vars y
  have hj : ((View.whole main_v0_1).slice (win0_7.rect t)).emb (ix2 y0 y1) = ix2 (row t y0) (gate (br t) y1) := by blk_ext [idx t]
  have key : (outsAt0 m c t.val t.isLt).2.1 (ix2 y0 y1)
      = pgp (iblk m c 1 t) (iblk m c 2 t) (iblk m c 3 t) (iblk m c 4 t) (iblk m c 5 t) y0 y1 := by
    by_cases h : t.val % 16 = 0
    · have h' : ¬ 1 ≤ t.val % 16 := by omega
      by_cases hh : t.val % 64 = 0
      · have hv : ¬ 1 ≤ t.val := by have := (idx t).2.2.2.2.2.2.2.2.2.2; omega
        rw [outsAt0_A m c t h h' hh hv]; frame_out; exact gp_at _ _ _ _ _ _ _
      · rw [outsAt0_C m c t h h' hh (by omega)]; frame_out; exact gp_at _ _ _ _ _ _ _
    · rw [outsAt0_B m c t h (by omega) (by omega) (by omega)]; frame_out; exact gp_at _ _ _ _ _ _ _
  rw [after0_7, hj]
  refine key.trans ?_
  have e0 : brg (gate (br t) y1) = br t := Fin.ext (by show (t.val / 16 * 1024 + y1.val) / 1024 = t.val / 16; omega)
  have e1 : atg (gate (br t) y1) = y1 := Fin.ext (by show (t.val / 16 * 1024 + y1.val) % 1024 = y1.val; omega)
  show _ = back (G m c) (O m c) (row t y0) (atg (gate (br t) y1))
      * lift (Y m c (brg (gate (br t) y1))) (B m c (brg (gate (br t) y1))) (row t y0) (atg (gate (br t) y1))
      * (Ideal.logistic (P m c (brg (gate (br t) y1)) (row t y0) (atg (gate (br t) y1)))
        * (1 - Ideal.logistic (P m c (brg (gate (br t) y1)) (row t y0) (atg (gate (br t) y1)))))
  rw [e0, e1, ← rd2 m c t y0 y1]
  exact congrArg₂ (· * ·) (congrArg₂ (· * ·) (back_congr (rd5 m c t y0) (rd4 m c t) y1) (lift_congr (rd1 m c t y0) (rd3 m c t) y1)) rfl

/-- The blocks a point reads, their gradients of the branch's weights and of the output weights. -/
abbrev twb (p : Fin cfg0.N) (k : Fin 512) (d : Fin 1024) : EReal := pwb (iblk m c 1 p) (iblk m c 2 p) (iblk m c 4 p) (iblk m c 5 p) k d
abbrev two (p : Fin cfg0.N) (d k : Fin 1024) : EReal := pwo (iblk m c 1 p) (iblk m c 2 p) (iblk m c 3 p) (iblk m c 5 p) d k

theorem twb_eq (t : Fin cfg0.N) (k : Fin 512) (d : Fin 1024) :
    twb m c t k d = ∑ r, Y m c (br t) (row t r) k * shr m c (br t) (row t r) d :=
  Finset.sum_congr rfl fun r _ => congrArg₂ (· * ·) (rd1 m c t r k) (shr_eq m c t r d)
theorem two_eq (t : Fin cfg0.N) (d k : Fin 1024) :
    two m c t d k = ∑ r, gated (P m c (br t)) (Y m c (br t)) (B m c (br t)) (row t r) d * G m c (row t r) k :=
  Finset.sum_congr rfl fun r _ => congrArg₂ (· * ·) (gated_congr (rd2 m c t r) (rd1 m c t r) (rd3 m c t) d) (rd5 m c t r k)

/-- A run of sixteen points stays at a branch and walks the rows. -/
theorem row_run (n s : ℕ) (hs : s < 16) (h : 16 * n + s < cfg0.N) (r : Fin 512) (hl : s * 512 + r.val < 8192) :
    row ⟨16 * n + s, h⟩ r = ⟨s * 512 + r.val, hl⟩ :=
  Fin.ext (by show (16 * n + s) % 16 * 512 + r.val = s * 512 + r.val; omega)
theorem br_run (n : Fin 4) (s : ℕ) (hs : s < 16) (h : 16 * n.val + s < cfg0.N) : br ⟨16 * n.val + s, h⟩ = n :=
  Fin.ext (by show (16 * n.val + s) / 16 = n.val; omega)

theorem final8 : (dats m 0 c).arrAt 8 cfg0.N = fun j => ∑ s, Y m c (j 0) s (j 1) * shr m c (j 0) s (j 2) := by
  refine (dats m 0 c).arrAt_eq_of_covers 8 _ (by decide +kernel) fun t hf y => ?_
  blk_simp
  idx_vars y
  rw [after0_8, Pipeline.eq_sum_fin_of_reset_step_apply_of_flush (fun n h => (outsAt0 m c n h).2.2.1) 16 (fun _ => 0)
    (fun p j => twb m c p (j 1) (j 2))
    (fun t h j => by
      have h' : ¬ 1 ≤ t.val % 16 := by omega
      by_cases hh : t.val % 64 = 0
      · have hv : ¬ 1 ≤ t.val := by have := (idx t).2.2.2.2.2.2.2.2.2.2; omega
        rw [outsAt0_A m c t h h' hh hv]; frame_out; idx_vars j
        obtain rfl : j0 = 0 := Subsingleton.elim _ _
        exact (wb0 _ _ _ _ _ _).trans (zero_add _).symm
      · rw [outsAt0_C m c t h h' hh (by omega)]; frame_out; idx_vars j
        obtain rfl : j0 = 0 := Subsingleton.elim _ _
        exact (wb0 _ _ _ _ _ _).trans (zero_add _).symm)
    (fun t h j => by
      rw [outsAt0_B m c t h (by omega) (by omega) (by omega)]; frame_out; idx_vars j
      obtain rfl : j0 = 0 := Subsingleton.elim _ _
      exact wb1 _ _ _ _ _ _ _) t ((flush0_8 t).mp hf) _, zero_add]
  have hj : ((View.whole main_v0_2).slice (win0_8.rect t)).emb (ix3 y0 y1 y2) = ix3 (br t) y1 y2 := by blk_ext [idx t]
  rw [hj]
  show ∑ s : Fin 16, twb m c ⟨16 * (t.val / 16) + s.val, _⟩ y1 y2 = ∑ s, Y m c (br t) s y1 * shr m c (br t) s y2
  rw [Finset.sum_congr rfl fun s _ => twb_eq m c _ y1 y2]
  refine Fin.sum_mul_add_congr fun s r hl => ?_
  rw [row_run _ _ s.isLt _ r hl, br_run (br t) s.val s.isLt]

theorem final9 : (dats m 0 c).arrAt 9 cfg0.N
    = fun j => ∑ n, ∑ s, gated (P m c n) (Y m c n) (B m c n) s (j 0) * G m c s (j 1) := by
  refine (dats m 0 c).arrAt_eq_of_covers 9 _ (by decide +kernel) fun t hf y => ?_
  blk_simp
  idx_vars y
  rw [after0_9, Pipeline.eq_sum_fin_of_reset_step_apply_of_flush (fun n h => (outsAt0 m c n h).2.2.2) 64 (fun _ => 0)
    (fun p j => two m c p (j 0) (j 1))
    (fun t h j => by
      have hv : ¬ 1 ≤ t.val := by have := (idx t).2.2.2.2.2.2.2.2.2.2; omega
      rw [outsAt0_A m c t (by omega) (by omega) h hv]; frame_out; idx_vars j
      exact (wo_at _ _ _ _ _ _).trans (zero_add _).symm)
    (fun t h j => by
      by_cases hh : t.val % 16 = 0
      · rw [outsAt0_C m c t hh (by omega) h (by omega)]; frame_out; idx_vars j
        exact wo1 _ _ _ _ _ _ _
      · rw [outsAt0_B m c t hh (by omega) h (by omega)]; frame_out; idx_vars j
        exact wo1 _ _ _ _ _ _ _) t ((flush0_9 t).mp hf) _, zero_add]
  have hj : ((View.whole main_v0_3).slice (win0_9.rect t)).emb (ix2 y0 y1) = ix2 y0 y1 := by blk_ext [idx t]
  rw [hj]
  have ht : t.val / 64 = 0 := by have := (idx t).2.2.2.2.2.2.2.2.2.2; omega
  show ∑ s : Fin 64, two m c ⟨64 * (t.val / 64) + s.val, _⟩ y0 y1
    = ∑ n, ∑ s, gated (P m c n) (Y m c n) (B m c n) s y0 * G m c s y1
  have hN : ∀ (n : Fin 4) (i : Fin 16), 16 * n.val + i.val < cfg0.N := by decide +kernel
  refine Eq.trans (Fin.sum_mul_add_congr (S := 4) (n := 16) (F := fun n i => two m c ⟨16 * n.val + i.val, hN n i⟩ y0 y1) fun n i hl => ?_).symm ?_
  · exact congrArg (two m c · y0 y1) (Fin.ext (by show 16 * n.val + i.val = 64 * (t.val / 64) + (n.val * 16 + i.val); omega))
  · refine Finset.sum_congr rfl fun n _ => ?_
    rw [Finset.sum_congr rfl fun i _ => two_eq m c _ y0 y1]
    refine Fin.sum_mul_add_congr fun i r hl => ?_
    rw [row_run _ _ i.isLt _ r hl, br_run n i.val i.isLt]

end Cert.Kernel2Ideal.Merge

end
-- ==== Proof.MergeRef.lean ====
/- The reference's gradients of the merge, at a row and a channel, or at a branch and its weights. -/
module

public import proofs.«01_k».proof.Proof.MergeMath
public import proofs.«01_k».proof.Proof.Gen.Reference2Ideal.Run
public import Idealize.ShloMosaic.Lib.Pipeline.ValueKit
public import Idealize.ShloMosaic.Lib.KernelVsHost

@[expose] public section

set_option maxRecDepth 16384

noncomputable section

namespace Cert.Reference2Ideal.Merge

open Idealize.ShloMosaic Idealize.ShloMosaic.TcCoe Cert.Reference2Ideal Cert.Reference2Ideal.Gen Cert.Merge

section
variable (a1 : FVec Ideal S8192x2048 .f32) (a2 : FVec Ideal S8192x4096 .f32)
  (a3 : FVec Ideal S4x512x1024 .bf16) (a4 : FVec Ideal S1024x1024 .bf16) (a5 : FVec Ideal S8192x1024 .f32)

/-- The arguments by row, branch and channel. -/
abbrev fy (n : Fin 4) : Fin 8192 → Fin 512 → EReal := fun s k => a1 (ix2 s (chan n k))
abbrev fp (n : Fin 4) : Fin 8192 → Fin 1024 → EReal := fun s d => a2 (ix2 s (gate n d))
abbrev fb (n : Fin 4) : Fin 512 → Fin 1024 → EReal := fun k d => a3 (ix3 n k d)
abbrev fo : Fin 1024 → Fin 1024 → EReal := fun d k => a4 (ix2 d k)

def one : FVec Ideal S8192x4096 .f32 := broadcastInDim S8192x4096 ![] bcast_S_S8192x4096 (constant (F := Ideal) S_ .f32 0x3F800000#32)
/-- The gates, and by branch. -/
def sg : FVec Ideal S8192x4096 .f32 := Host.divf (F := Ideal) one (addf one (Host.exp (Host.negf a2)))
def sg3 : FVec Ideal S8192x4x1024 .f32 := shapeCast _ (sg a2) shapeCasts_S8192x4096_S8192x4x1024
/-- The branches brought up to the trunk's channels. -/
def yb3 : FVec Ideal S8192x4x1024 .f32 :=
  transpose S8192x4x1024 [2, 0, 1] (Host.dotGeneral (F := Ideal) dot_S4x512x1024_S8192x4x512_S4x1024x8192_1_2_2_0_0_1 none
    (extf .f32 a3 bitsLt_bf16_f32) (shapeCast _ a1 shapeCasts_S8192x2048_S8192x4x512)) transposes_S4x1024x8192_S8192x4x1024_2_0_1

theorem sg_at (s : Fin 8192) (f : Fin 4096) : sg a2 (ix2 s f) = Ideal.logistic (a2 (ix2 s f)) := by
  pointwise [sg, one]; rfl
theorem sg3_at (s : Fin 8192) (n : Fin 4) (d : Fin 1024) : sg3 a2 (ix3 s n d) = Ideal.logistic (fp a2 n s d) := by
  pointwise [sg3]; exact sg_at _ _ _
theorem yb3_at (s : Fin 8192) (n : Fin 4) (d : Fin 1024) : yb3 a1 a3 (ix3 s n d) = lift (fy a1 n) (fb a3 n) s d := by
  pointwise [yb3]
  exact Finset.sum_congr rfl fun k _ => mul_comm _ _
abbrev fg : Fin 8192 → Fin 1024 → EReal := fun s k => a5 (ix2 s k)

/-- The gradient before the output weights, for every branch. -/
def bk3 : FVec Ideal S8192x4x1024 .f32 :=
  broadcastInDim S8192x4x1024 ![0, 2] bcast_S8192x1024_S8192x4x1024_0_2
    (Host.dotGeneral (F := Ideal) dot_S8192x1024_S1024x1024_S8192x1024_1_1_0_0_n_n none a5 (extf .f32 a4 bitsLt_bf16_f32))
/-- The branches' shares of it. -/
def shr : FVec Ideal S4x1024x8192 .f32 :=
  transpose S4x1024x8192 [1, 2, 0] (mulf (sg3 a2) (bk3 a4 a5)) transposes_S8192x4x1024_S4x1024x8192_1_2_0

theorem bk3_at (s : Fin 8192) (n : Fin 4) (d : Fin 1024) : bk3 a4 a5 (ix3 s n d) = back (fg a5) (fo a4) s d := by
  pointwise [bk3]; rfl
theorem shr_at (n : Fin 4) (d : Fin 1024) (s : Fin 8192) : shr a2 a4 a5 (ix3 n d s) = share (fp a2 n) (fg a5) (fo a4) s d := by
  pointwise [shr]; rw [sg3_at, bk3_at]; rfl

theorem dys_eq : shapeCast S8192x2048 (transpose S8192x4x512 [1, 0, 2]
      (Host.dotGeneral (F := Ideal) dot_S4x1024x8192_S4x512x1024_S4x8192x512_1_2_2_1_0_0 none (shr a2 a4 a5) (extf .f32 a3 bitsLt_bf16_f32))
      transposes_S4x8192x512_S8192x4x512_1_0_2) shapeCasts_S8192x4x512_S8192x2048
    = fun j => ∑ d, share (fp a2 (brc (j 1))) (fg a5) (fo a4) (j 0) d * fb a3 (brc (j 1)) (atc (j 1)) d := by
  funext j; idx_vars j; pointwise
  exact Finset.sum_congr rfl fun d _ => congrArg (· * _) (shr_at _ _ _ _ _ _)
theorem gate_self (f : Fin 4096) : gate (brg f) (atg f) = f := Fin.ext (Nat.div_add_mod' f.val 1024)
theorem dgp_eq : mulf (shapeCast S8192x4096 (mulf (bk3 a4 a5) (yb3 a1 a3)) shapeCasts_S8192x4x1024_S8192x4096)
      (mulf (sg a2) (subf one (sg a2)))
    = fun j => back (fg a5) (fo a4) (j 0) (atg (j 1)) * lift (fy a1 (brg (j 1))) (fb a3 (brg (j 1))) (j 0) (atg (j 1))
        * (Ideal.logistic (fp a2 (brg (j 1)) (j 0) (atg (j 1))) * (1 - Ideal.logistic (fp a2 (brg (j 1)) (j 0) (atg (j 1))))) := by
  funext j; idx_vars j; pointwise [one]
  refine congrArg₂ (· * ·) (congrArg₂ (· * ·) (bk3_at _ _ _ _ _) (yb3_at _ _ _ _ _)) ?_
  have e : fp a2 (brg j1) j0 (atg j1) = a2 (ix2 j0 j1) := congrArg (fun f => a2 (ix2 j0 f)) (gate_self j1)
  rw [sg_at, ← e]
theorem dwb_eq : transpose S4x512x1024 [0, 2, 1] (Host.dotGeneral (F := Ideal) dot_S4x1024x8192_S8192x4x512_S4x1024x512_2_0_1_2_0_1 none
      (shr a2 a4 a5) (shapeCast _ a1 shapeCasts_S8192x2048_S8192x4x512)) transposes_S4x1024x512_S4x512x1024_0_2_1
    = fun j => ∑ s, fy a1 (j 0) s (j 1) * share (fp a2 (j 0)) (fg a5) (fo a4) s (j 2) := by
  funext j; idx_vars j; pointwise
  exact Finset.sum_congr rfl fun s _ => (congrArg (· * _) (shr_at _ _ _ _ _ _)).trans (mul_comm _ _)
theorem dwo_eq : transpose S1024x1024 [1, 0] (Host.dotGeneral (F := Ideal) dot_S8192x1024_S8192x1024_S1024x1024_0_0_1_1_n_n none
      a5 (Host.reduceAdd (mulf (sg3 a2) (yb3 a1 a3)) (constant (F := Ideal) S_ .f32 0x00000000#32) reducesTo_S8192x4x1024_S8192x1024_d1 h_S_))
      transposes_S1024x1024_S1024x1024_1_0
    = fun j => ∑ s, (∑ n, gated (fp a2 n) (fy a1 n) (fb a3 n) s (j 0)) * fg a5 s (j 1) := by
  funext j; idx_vars j; pointwise
  refine Finset.sum_congr rfl fun s _ => (mul_comm _ _).trans (congrArg (· * _) (Finset.sum_congr rfl fun n _ => ?_))
  rw [sg3_at, yb3_at]; rfl

end

end Cert.Reference2Ideal.Merge

end
-- ==== Proof.MergeEqual.lean ====
/- The merge's backward call and the gradients of `jax.vjp` leave the same four arrays where the branches, their weights and the
   gradient are finite. -/
module

public import proofs.«01_k».proof.Proof.MergeRun
public import proofs.«01_k».proof.Proof.MergeRef
public import proofs.«01_k».proof.Proof.Gen.Pre_finite2
public import proofs.«01_k».proof.Defs

@[expose] public section

set_option maxRecDepth 16384

noncomputable section

namespace Cert.Merge

open Idealize.ShloMosaic Idealize.ShloMosaic.TcCoe Idealize.SL.Sem Cert.Kernel2Ideal.Merge

section
variable {m : (ℓ : Loc Cert.Kernel2Ideal.nD Cert.Kernel2Ideal.τ Cert.Kernel2Ideal.sig) → Buf (Elt Ideal) ℓ}
  (h : Cert.Pre_Kernel2Ideal_finite2 m) (c : Dev Cert.Kernel2Ideal.nD)
include h

theorem real_y (n : Fin 4) (s : Fin 8192) (k : Fin 512) : IsReal (Y m c n s k) :=
  real_of_lt (congrFun (h c).1 (ix2 s (chan n k)))
theorem real_b (n : Fin 4) (k : Fin 512) (d : Fin 1024) : IsReal (B m c n k d) :=
  real_of_lt (congrFun (h c).2.1 (ix3 n k d))
theorem real_g (s : Fin 8192) (k : Fin 1024) : IsReal (G m c s k) :=
  real_of_lt (congrFun (h c).2.2 (ix2 s k))

end

theorem algebraic : Cert.algebraic_Kernel2Ideal_Reference2Ideal_pre_finite2 := by
  pair_intro
  · run_from Cert.Kernel2Ideal.Value.run_blocks m g
  · refine θ_run_mono (Cert.Reference2Ideal.Value.run m' g') ?_
    intro r hr c
    obtain ⟨_, h1, h2, h3, h4, h5⟩ := hagree c
    obtain ⟨r0, r1, r2, r3, k⟩ := hr c
    refine ⟨r0.trans ?_, r1.trans ?_, r2.trans ?_, r3.trans ?_, k⟩
    · refine (Cert.Reference2Ideal.Merge.dys_eq _ _ _ _).trans ?_
      rw [h2, h3, h4, h5]
      exact (final6 m c).symm
    · refine (Cert.Reference2Ideal.Merge.dgp_eq _ _ _ _ _).trans ?_
      rw [h1, h2, h3, h4, h5]
      exact (final7 m c).symm
    · refine (Cert.Reference2Ideal.Merge.dwb_eq _ _ _ _).trans ?_
      rw [h1, h2, h4, h5]
      exact (final8 m c).symm
    · refine (Cert.Reference2Ideal.Merge.dwo_eq _ _ _ _).trans ?_
      rw [h1, h2, h3, h5]
      refine Eq.trans ?_ (final9 m c).symm
      funext j
      exact (sum_branches (fun n s => real_gated (real_y hpre c n) (real_b hpre c n) s _) fun s => real_g hpre c s _).symm

end Cert.Merge

end
-- ==== Proof.NormMath.lean ====
/- The root-mean-square normalization of a row, over any kind of rows. -/
module

public import Idealize.ShloMosaic.Lib.KernelVsHost

@[expose] public section

noncomputable section

namespace Cert.Norm

open Idealize.ShloMosaic

variable {R R' : Type}

/-- The mean square of a row, kept from zero. -/
def var (h : R → Fin 1024 → EReal) (r : R) : EReal :=
  Ideal.div (∑ k, h r k * h r k) (Ideal.ofBits .f32 0x44800000#32) + Ideal.ofBits .f32 0x358637BD#32

/-- The row normalized and scaled. -/
def rms (h : R → Fin 1024 → EReal) (g : Fin 1024 → EReal) (r : R) (k : Fin 1024) : EReal :=
  h r k * Ideal.rsqrt (var h r) * g k

section
variable {h : R → Fin 1024 → EReal} {h' : R' → Fin 1024 → EReal} {g g' : Fin 1024 → EReal} {r : R} {r' : R'}

theorem var_congr (hh : ∀ k, h r k = h' r' k) : var h r = var h' r' := by
  unfold var; rw [Finset.sum_congr rfl fun k _ => by rw [hh k]]

theorem rms_congr (hh : ∀ k, h r k = h' r' k) (hg : ∀ k, g k = g' k) (k : Fin 1024) : rms h g r k = rms h' g' r' k := by
  unfold rms; rw [hh, var_congr hh, hg]

end

end Cert.Norm

end
-- ==== Proof.PleMath.lean ====
/- A row's embedding at a channel, over any kind of rows. -/
module

public import proofs.«01_k».proof.Proof.NormMath

@[expose] public section

noncomputable section

namespace Cert.Ple

open Idealize.ShloMosaic Cert.Norm

variable {R R' : Type}

/-- The gate of the embedding. -/
def pgate (h : R → Fin 1024 → EReal) (g : Fin 1024 → EReal) (w : Fin 1024 → Fin 1024 → EReal) (r : R) (f : Fin 1024) : EReal :=
  Ideal.logistic (∑ k, rms h g r k * w k f)

/-- The embedding projected. -/
def proj (pe : R → Fin 256 → EReal) (w : Fin 256 → Fin 1024 → EReal) (r : R) (f : Fin 1024) : EReal := ∑ k, pe r k * w k f

section
variable {h : R → Fin 1024 → EReal} {h' : R' → Fin 1024 → EReal} {g g' : Fin 1024 → EReal} {r : R} {r' : R'}
  {w w' : Fin 1024 → Fin 1024 → EReal}

theorem pgate_congr (hh : ∀ k, h r k = h' r' k) (hg : ∀ k, g k = g' k) (hw : ∀ k f, w k f = w' k f) (f : Fin 1024) :
    pgate h g w r f = pgate h' g' w' r' f := by
  unfold pgate; exact congrArg _ (Finset.sum_congr rfl fun k _ => by rw [rms_congr hh hg, hw])

theorem proj_congr {pe : R → Fin 256 → EReal} {pe' : R' → Fin 256 → EReal} {w w' : Fin 256 → Fin 1024 → EReal}
    (hp : ∀ k, pe r k = pe' r' k) (hw : ∀ k f, w k f = w' k f) (f : Fin 1024) : proj pe w r f = proj pe' w' r' f := by
  unfold proj; exact Finset.sum_congr rfl fun k _ => by rw [hp, hw]

end

end Cert.Ple

end
-- ==== Proof.PleGrad.lean ====
/- The gradients of a row's embedding, over any kind of rows. -/
module

public import proofs.«01_k».proof.Proof.PleMath

@[expose] public section

noncomputable section

namespace Cert.Ple

open Idealize.ShloMosaic Cert.Norm

/-- What the backward call reads: the rows, the embeddings, the normalization's scale, the weights of the gate and of the
    projection, and the gradient of the result. -/
structure Args (R : Type) where
  h : R → Fin 1024 → EReal
  pe : R → Fin 256 → EReal
  g : Fin 1024 → EReal
  w : Fin 1024 → Fin 1024 → EReal
  q : Fin 256 → Fin 1024 → EReal
  ct : R → Fin 1024 → EReal

/-- Two readings agree at a row of each. -/
structure Same {R R' : Type} (a : Args R) (b : Args R') (r : R) (r' : R') : Prop where
  h : ∀ k, a.h r k = b.h r' k
  pe : ∀ k, a.pe r k = b.pe r' k
  g : ∀ k, a.g k = b.g k
  w : ∀ k f, a.w k f = b.w k f
  q : ∀ k f, a.q k f = b.q k f
  ct : ∀ k, a.ct r k = b.ct r' k

variable {R R' : Type} (a : Args R) (r : R)

/-- The gradient at the gate's logits. -/
def dlog (f : Fin 1024) : EReal :=
  a.ct r f * proj a.pe a.q r f * (pgate a.h a.g a.w r f * (1 - pgate a.h a.g a.w r f))
/-- The gradient at the normalized row. -/
def dn (k : Fin 1024) : EReal := ∑ f, dlog a r f * a.w k f
/-- The gradient through the row's mean square. -/
def dvar : EReal :=
  Ideal.div ((∑ k, a.h r k * (dn a r k * a.g k))
    * (Ideal.ofBits .f32 0xBF000000#32 * Ideal.div (Ideal.rsqrt (var a.h r)) (var a.h r))) (Ideal.ofBits .f32 0x44800000#32)
/-- The gradient at the row, and a row's terms of the gradients of the scale and the weights. -/
def dh (k : Fin 1024) : EReal :=
  a.ct r k + dn a r k * a.g k * Ideal.rsqrt (var a.h r) + a.h r k * dvar a r + dvar a r * a.h r k
def dgt (k : Fin 1024) : EReal := a.h r k * Ideal.rsqrt (var a.h r) * dn a r k
def dwt (k f : Fin 1024) : EReal := rms a.h a.g r k * dlog a r f
def dqt (k : Fin 256) (f : Fin 1024) : EReal := a.pe r k * (pgate a.h a.g a.w r f * a.ct r f)

section
variable {a} {b : Args R'} {r} {r' : R'} (e : Same a b r r')
include e

theorem Same.dlog (f : Fin 1024) : dlog a r f = dlog b r' f := by
  unfold Ple.dlog; rw [e.ct, proj_congr e.pe e.q, pgate_congr e.h e.g e.w]
theorem Same.dn (k : Fin 1024) : dn a r k = dn b r' k :=
  Finset.sum_congr rfl fun f _ => by rw [e.dlog, e.w]
theorem Same.dvar : dvar a r = dvar b r' := by
  unfold Ple.dvar
  rw [Finset.sum_congr rfl fun k _ => by rw [e.h, e.dn, e.g], var_congr e.h]
theorem Same.dh (k : Fin 1024) : dh a r k = dh b r' k := by
  unfold Ple.dh; rw [e.ct, e.dn, e.g, e.h, e.dvar, var_congr e.h]
theorem Same.dgt (k : Fin 1024) : dgt a r k = dgt b r' k := by
  unfold Ple.dgt; rw [e.dn, e.h, var_congr e.h]
theorem Same.dwt (k f : Fin 1024) : dwt a r k f = dwt b r' k f := by
  unfold Ple.dwt; rw [e.dlog, rms_congr e.h e.g]
theorem Same.dqt (k : Fin 256) (f : Fin 1024) : dqt a r k f = dqt b r' k f := by
  unfold Ple.dqt; rw [e.pe, e.ct, pgate_congr e.h e.g e.w]

end

end Cert.Ple

end
-- ==== Proof.PleRun.lean ====
/- The four arrays the embedding's backward call leaves: a point reads a block of rows, and the sixteen points add up the
   gradients of the scale and of the weights. -/
module

public import proofs.«01_k».proof.Proof.PleGrad
public import proofs.«01_k».proof.Proof.Gen.Kernel3Ideal.Value
public import Idealize.ShloMosaic.Lib.Pipeline.ValueKit
public import Idealize.ShloMosaic.Lib.KernelVsHost

@[expose] public section

set_option maxRecDepth 16384

noncomputable section

namespace Cert.Kernel3Ideal.Ple

open Idealize.ShloMosaic Idealize.ShloMosaic.TcCoe Cert.Kernel3Ideal Cert.Kernel3Ideal.Gen Cert.Norm Cert.Ple
open Idealize.ShloMosaic.Pipeline (Dat)

/-! ## One grid point -/

section
variable (v0 : FVec Ideal S512x1024 .f32) (v1 : FVec Ideal S512x256 .f32) (v2 : FVec Ideal S1x1024 .f32)
  (v3 : FVec Ideal S1024x1024 .bf16) (v5 : FVec Ideal S256x1024 .bf16) (v7 : FVec Ideal S512x1024 .f32)

/-- The blocks by row and channel. -/
abbrev blk : Args (Fin 512) where
  h r k := v0 (ix2 r k)
  pe r k := v1 (ix2 r k)
  g k := v2 (ix2 (0 : Fin 1) k)
  w k f := v3 (ix2 k f)
  q k f := v5 (ix2 k f)
  ct r k := v7 (ix2 r k)

/-- The gradient at the logits, the normalized rows, and the payloads the gradients are made of. -/
abbrev y29 : FVec Ideal S512x1024 .f32 := k0_pay10 v0 v2 v3
abbrev y35 : FVec Ideal S512x1024 .f32 := k0_pay12 v1 v5 v7
abbrev y4 : FVec Ideal S1024x1024 .f32 := k0_pay3 v3

theorem var_at (r : Fin 512) : k0_pay4 (F := Ideal) v0 (ix2 r (0 : Fin 1)) = var (fun r k => v0 (ix2 r k)) r := by
  pointwise [k0_pay4]; rfl
theorem rs_at (r : Fin 512) : k0_pay5 (F := Ideal) v0 (ix2 r (0 : Fin 1)) = Ideal.rsqrt (var (fun r k => v0 (ix2 r k)) r) := by
  pointwise [k0_pay5]; rw [var_at]
theorem rms_at (r : Fin 512) (k : Fin 1024) :
    k0_pay8 (F := Ideal) v0 v2 (ix2 r k) = rms (fun r k => v0 (ix2 r k)) (fun k => v2 (ix2 (0 : Fin 1) k)) r k := by
  pointwise [k0_pay8, k0_pay7]; rw [rs_at]; rfl
theorem gate_at (r : Fin 512) (f : Fin 1024) :
    k0_pay9 (F := Ideal) v0 v2 v3 (ix2 r f)
      = pgate (fun r k => v0 (ix2 r k)) (fun k => v2 (ix2 (0 : Fin 1) k)) (fun k f => v3 (ix2 k f)) r f := by
  pointwise [k0_pay9, k0_pay3]
  exact congrArg _ (Finset.sum_congr rfl fun k _ => congrArg (· * _) (rms_at _ _ _ _))
theorem dlog_at (r : Fin 512) (f : Fin 1024) :
    k0_pay14 (F := Ideal) (y29 v0 v2 v3) (y35 v1 v5 v7) (ix2 r f) = dlog (blk v0 v1 v2 v3 v5 v7) r f := by
  pointwise [k0_pay14, k0_pay12, k0_pay11, k0_pay10]
  rw [gate_at]; rfl
theorem dn_at (r : Fin 512) (k : Fin 1024) :
    k0_pay15 (F := Ideal) (y4 v3) (y29 v0 v2 v3) (y35 v1 v5 v7) (ix2 r k) = dn (blk v0 v1 v2 v3 v5 v7) r k := by
  pointwise [k0_pay15, k0_pay3]
  exact Finset.sum_congr rfl fun f _ => congrArg (· * _) (dlog_at _ _ _ _ _ _ _ _)
theorem dh_at (r : Fin 512) (k : Fin 1024) :
    k0_pay18 (F := Ideal) v0 v2 (y4 v3) v7 (k0_pay5 v0) (k0_pay6 v0) (y29 v0 v2 v3) (y35 v1 v5 v7) (ix2 r k)
      = dh (blk v0 v1 v2 v3 v5 v7) r k := by
  pointwise [k0_pay18, k0_pay6]
  simp only [dn_at, Fin.sum_univ_one, rs_at, var_at]
  rfl
theorem dg_at (k : Fin 1024) :
    k0_pay17 (F := Ideal) (y4 v3) (k0_pay7 v0) (y29 v0 v2 v3) (y35 v1 v5 v7) (ix2 (0 : Fin 1) k)
      = ∑ r, dgt (blk v0 v1 v2 v3 v5 v7) r k := by
  pointwise [k0_pay17, k0_pay7]
  refine Finset.sum_congr rfl fun r _ => ?_
  rw [dn_at, rs_at]; rfl
theorem dw_at (k f : Fin 1024) :
    k0_pay16 (F := Ideal) (k0_pay8 v0 v2) (y29 v0 v2 v3) (y35 v1 v5 v7) (ix2 k f) = ∑ r, dwt (blk v0 v1 v2 v3 v5 v7) r k f := by
  pointwise [k0_pay16]
  exact Finset.sum_congr rfl fun r _ => congrArg₂ (· * ·) (rms_at _ _ _ _) (dlog_at _ _ _ _ _ _ _ _)
theorem dq_at (k : Fin 256) (f : Fin 1024) :
    k0_pay13 (F := Ideal) v0 v1 v2 v3 v7 (ix2 k f) = ∑ r, dqt (blk v0 v1 v2 v3 v5 v7) r k f := by
  pointwise [k0_pay13, k0_pay11]
  exact Finset.sum_congr rfl fun r _ => congrArg (_ * ·) (congrArg (· * _) (gate_at _ _ _ _ _))
theorem dg1 (x : FVec Ideal S1x1024 .f32) (k : Fin 1024) :
    k0_pay19 (F := Ideal) (y4 v3) (k0_pay7 v0) (y29 v0 v2 v3) (y35 v1 v5 v7) x (ix2 (0 : Fin 1) k)
      = x (ix2 (0 : Fin 1) k) + ∑ r, dgt (blk v0 v1 v2 v3 v5 v7) r k := by
  rw [← dg_at]
  pointwise [k0_pay19]
theorem dw1 (x : FVec Ideal S1024x1024 .f32) (k f : Fin 1024) :
    k0_pay1 (F := Ideal) (k0_pay16 (k0_pay8 v0 v2) (y29 v0 v2 v3) (y35 v1 v5 v7)) x (ix2 k f)
      = x (ix2 k f) + ∑ r, dwt (blk v0 v1 v2 v3 v5 v7) r k f := by
  rw [← dw_at]
  pointwise [k0_pay1]
theorem dq1 (x : FVec Ideal S256x1024 .f32) (k : Fin 256) (f : Fin 1024) :
    k0_pay2 (F := Ideal) (k0_pay13 v0 v1 v2 v3 v7) x (ix2 k f) = x (ix2 k f) + ∑ r, dqt (blk v0 v1 v2 v3 v5 v7) r k f := by
  rw [← dq_at]
  pointwise [k0_pay2]

end

/-! ## The run -/

variable (m : (ℓ : Loc nD τ sig) → Buf (Elt Ideal) ℓ) (c : Dev nD)

/-- The arguments by row and channel. -/
abbrev args : Args (Fin 8192) where
  h s k := m ((c : Thread nD τ).loc main_arg0) (ix2 s k)
  pe s k := m ((c : Thread nD τ).loc main_arg1) (ix2 s k)
  g k := m ((c : Thread nD τ).loc main_arg2) (ix2 (0 : Fin 1) k)
  w k f := m ((c : Thread nD τ).loc main_arg3) (ix2 k f)
  q k f := m ((c : Thread nD τ).loc main_arg4) (ix2 k f)
  ct s k := m ((c : Thread nD τ).loc main_arg5) (ix2 s k)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] ∧ t.val < 16 :=
  (by decide +kernel : ∀ t : Fin grid0.N, _)
theorem lt16 (t : Fin cfg0.N) : t.val < 16 := (idx t).2.2.2.2.2.2.2.2.2.2

/-- The row of the arguments at row `r` of point `t`'s blocks. -/
abbrev row (t : Fin cfg0.N) (r : Fin 512) : Fin 8192 := ⟨t.val * 512 + r.val, by have := lt16 t; omega⟩
/-- The blocks a point reads. -/
abbrev pt (t : Fin cfg0.N) : Args (Fin 512) := blk (iblk m c 0 t) (iblk m c 1 t) (iblk m c 2 t) (iblk m c 3 t) (iblk m c 4 t) (iblk m c 5 t)

theorem rd (t : Fin cfg0.N) (r : Fin 512) : Same (pt m c t) (args m c) r (row t r) where
  h k := by
    show iblk m c 0 t (ix2 r k) = m ((c : Thread nD τ).loc main_arg0) (ix2 (row t r) k)
    blk_ext [iblk, V, idx t]
  pe k := by
    show iblk m c 1 t (ix2 r k) = m ((c : Thread nD τ).loc main_arg1) (ix2 (row t r) k)
    blk_ext [iblk, V, idx t]
  g k := by
    show iblk m c 2 t (ix2 (0 : Fin 1) k) = m ((c : Thread nD τ).loc main_arg2) (ix2 (0 : Fin 1) k)
    blk_ext [iblk, V, idx t]
  w k f := by
    show iblk m c 3 t (ix2 k f) = m ((c : Thread nD τ).loc main_arg3) (ix2 k f)
    blk_ext [iblk, V, idx t]
  q k f := by
    show iblk m c 4 t (ix2 k f) = m ((c : Thread nD τ).loc main_arg4) (ix2 k f)
    blk_ext [iblk, V, idx t]
  ct k := by
    show iblk m c 5 t (ix2 r k) = m ((c : Thread nD τ).loc main_arg5) (ix2 (row t r) k)
    blk_ext [iblk, V, idx t]

/-- The rows. -/
theorem final6 : (dats m 0 c).arrAt 6 cfg0.N = fun j => dh (args m c) (j 0) (j 1) := by
  refine (dats m 0 c).arrAt_eq_of_covers 6 _ (by decide +kernel) fun t hf y => ?_
  blk_simp
  idx_vars y
  have hj : ((View.whole main_v0_0).slice (win0_6.rect t)).emb (ix2 y0 y1) = ix2 (row t y0) y1 := by blk_ext [idx t]
  have key : (outsAt0 m c t.val t.isLt).1 (ix2 y0 y1) = dh (pt m c t) y0 y1 := by
    have := lt16 t
    by_cases h : t.val % 16 = 0
    · rw [outsAt0_A m c t h (by omega) h (by omega) h (by omega)]; frame_out; exact dh_at _ _ _ _ _ _ _ _
    · rw [outsAt0_B m c t h (by omega) h (by omega) h (by omega)]; frame_out; exact dh_at _ _ _ _ _ _ _ _
  rw [after0_6, hj]
  exact key.trans ((rd m c t y0).dh y1)

/-- The sixteen points are the sixteen blocks of rows. -/
theorem sum_rows (t : Fin cfg0.N) (p : Fin cfg0.N → Fin 512 → EReal) (f : Fin 8192 → EReal) (h : ∀ t r, p t r = f (row t r))
    (hs : ∀ s : Fin 16, 16 * (t.val / 16) + s.val < cfg0.N) :
    ∑ s : Fin 16, ∑ r, p ⟨16 * (t.val / 16) + s.val, hs s⟩ r = ∑ s, f s := by
  refine Fin.sum_mul_add_congr fun s r hl => (h _ r).trans (congrArg f (Fin.ext ?_))
  show (16 * (t.val / 16) + s.val) * 512 + r.val = s.val * 512 + r.val
  have := lt16 t
  omega

/-- The scale. -/
theorem final7 : (dats m 0 c).arrAt 7 cfg0.N = fun j => ∑ s, dgt (args m c) s (j 1) := by
  refine (dats m 0 c).arrAt_eq_of_covers 7 _ (by decide +kernel) fun t hf y => ?_
  blk_simp
  idx_vars y
  rw [after0_7, Pipeline.eq_sum_fin_of_reset_step_apply_of_flush (fun n h => (outsAt0 m c n h).2.1) 16 (fun _ => 0)
    (fun p j => ∑ r, dgt (pt m c p) r (j 1))
    (fun t h j => by
      have := lt16 t
      rw [outsAt0_A m c t h (by omega) h (by omega) h (by omega)]; frame_out; idx_vars j
      obtain rfl : j0 = 0 := Subsingleton.elim _ _
      exact (dg_at _ _ _ _ _ _ _).trans (zero_add _).symm)
    (fun t h j => by
      rw [outsAt0_B m c t h (by omega) h (by omega) h (by omega)]; frame_out; idx_vars j
      obtain rfl : j0 = 0 := Subsingleton.elim _ _
      exact dg1 _ _ _ _ _ _ _ _) t ((flush0_7 t).mp hf) _, zero_add]
  have hj : ((View.whole main_v0_1).slice (win0_7.rect t)).emb (ix2 y0 y1) = ix2 (0 : Fin 1) y1 := by blk_ext [idx t]
  rw [hj]
  exact sum_rows t (fun p r => dgt (pt m c p) r y1) _ (fun p r => (rd m c p r).dgt y1) _

/-- The gate's weights. -/
theorem final8 : (dats m 0 c).arrAt 8 cfg0.N = fun j => ∑ s, dwt (args m c) s (j 0) (j 1) := by
  refine (dats m 0 c).arrAt_eq_of_covers 8 _ (by decide +kernel) fun t hf y => ?_
  blk_simp
  idx_vars y
  rw [after0_8, Pipeline.eq_sum_fin_of_reset_step_apply_of_flush (fun n h => (outsAt0 m c n h).2.2.1) 16 (fun _ => 0)
    (fun p j => ∑ r, dwt (pt m c p) r (j 0) (j 1))
    (fun t h j => by
      have := lt16 t
      rw [outsAt0_A m c t h (by omega) h (by omega) h (by omega)]; frame_out; idx_vars j
      exact (dw_at _ _ _ _ _ _ _ _).trans (zero_add _).symm)
    (fun t h j => by
      rw [outsAt0_B m c t h (by omega) h (by omega) h (by omega)]; frame_out; idx_vars j
      exact dw1 _ _ _ _ _ _ _ _ _) t ((flush0_8 t).mp hf) _, zero_add]
  have hj : ((View.whole main_v0_2).slice (win0_8.rect t)).emb (ix2 y0 y1) = ix2 y0 y1 := by blk_ext [idx t]
  rw [hj]
  exact sum_rows t (fun p r => dwt (pt m c p) r y0 y1) _ (fun p r => (rd m c p r).dwt y0 y1) _

/-- The projection's weights. -/
theorem final9 : (dats m 0 c).arrAt 9 cfg0.N = fun j => ∑ s, dqt (args m c) s (j 0) (j 1) := by
  refine (dats m 0 c).arrAt_eq_of_covers 9 _ (by decide +kernel) fun t hf y => ?_
  blk_simp
  idx_vars y
  rw [after0_9, Pipeline.eq_sum_fin_of_reset_step_apply_of_flush (fun n h => (outsAt0 m c n h).2.2.2) 16 (fun _ => 0)
    (fun p j => ∑ r, dqt (pt m c p) r (j 0) (j 1))
    (fun t h j => by
      have := lt16 t
      rw [outsAt0_A m c t h (by omega) h (by omega) h (by omega)]; frame_out; idx_vars j
      exact (dq_at _ _ _ _ _ _ _ _).trans (zero_add _).symm)
    (fun t h j => by
      rw [outsAt0_B m c t h (by omega) h (by omega) h (by omega)]; frame_out; idx_vars j
      exact dq1 _ _ _ _ _ _ _ _ _) t ((flush0_9 t).mp hf) _, zero_add]
  have hj : ((View.whole main_v0_3).slice (win0_9.rect t)).emb (ix2 y0 y1) = ix2 y0 y1 := by blk_ext [idx t]
  rw [hj]
  exact sum_rows t (fun p r => dqt (pt m c p) r y0 y1) _ (fun p r => (rd m c p r).dqt y0 y1) _

end Cert.Kernel3Ideal.Ple

end
-- ==== Proof.PleRef.lean ====
/- The reference's gradients of the embedding, at a row and a channel, or at the scale's and the weights' places. -/
module

public import proofs.«01_k».proof.Proof.PleGrad
public import proofs.«01_k».proof.Proof.Gen.Reference3Ideal.Run
public import Idealize.ShloMosaic.Lib.Pipeline.ValueKit
public import Idealize.ShloMosaic.Lib.KernelVsHost

@[expose] public section

set_option maxRecDepth 16384

noncomputable section

namespace Cert.Reference3Ideal.Ple

open Idealize.ShloMosaic Idealize.ShloMosaic.TcCoe Cert.Reference3Ideal Cert.Reference3Ideal.Gen Cert.Norm Cert.Ple

section
variable (a0 : FVec Ideal S8192x1024 .f32) (a1 : FVec Ideal S8192x256 .f32) (a2 : FVec Ideal S1x1024 .f32)
  (a3 : FVec Ideal S1024x1024 .bf16) (a4 : FVec Ideal S256x1024 .bf16) (a5 : FVec Ideal S8192x1024 .f32)

/-- The arguments by row and channel. -/
abbrev args : Args (Fin 8192) where
  h s k := a0 (ix2 s k)
  pe s k := a1 (ix2 s k)
  g k := a2 (ix2 (0 : Fin 1) k)
  w k f := a3 (ix2 k f)
  q k f := a4 (ix2 k f)
  ct s k := a5 (ix2 s k)

/-- The rows' mean squares, their reciprocal roots, the rows over their roots, and the rows normalized. -/
def rvar : FVec Ideal S8192x1 .f32 :=
  addf (Host.divf (broadcastInDim S8192x1 ![0] bcast_S8192_S8192x1_0 (Host.reduceAdd (mulf a0 a0) (constant (F := Ideal) S_ .f32 0x00000000#32)
    reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))
def rrs : FVec Ideal S8192x1 .f32 := Host.rsqrt (rvar a0)
def rhs : FVec Ideal S8192x1024 .f32 := mulf a0 (broadcastInDim S8192x1024 ![0, 1] bcast_S8192x1_S8192x1024_0_1 (rrs a0))
def rn : FVec Ideal S8192x1024 .f32 := mulf (rhs a0) (broadcastInDim S8192x1024 ![0, 1] bcast_S1x1024_S8192x1024_0_1 a2)
def one : FVec Ideal S8192x1024 .f32 := broadcastInDim S8192x1024 ![] bcast_S_S8192x1024 (constant (F := Ideal) S_ .f32 0x3F800000#32)
/-- The gates. -/
def rsg : FVec Ideal S8192x1024 .f32 :=
  Host.divf (F := Ideal) one (addf one (Host.exp (Host.negf (Host.dotGeneral dot_S8192x1024_S1024x1024_S8192x1024_1_0_0_1_n_n none
    (rn a0 a2) (extf .f32 a3 bitsLt_bf16_f32)))))
def rct : FVec Ideal S8192x1024 .f32 := shapeCast _ a5 shapeCasts_S8192x1024_S8192x1024
/-- The gradients at the gates' logits and at the normalized rows. -/
def rdl : FVec Ideal S8192x1024 .f32 :=
  mulf (mulf (rct a5) (Host.dotGeneral (F := Ideal) dot_S8192x256_S256x1024_S8192x1024_1_0_0_1_n_n none a1 (extf .f32 a4 bitsLt_bf16_f32)))
    (mulf (rsg a0 a2 a3) (subf one (rsg a0 a2 a3)))
def rdn : FVec Ideal S8192x1024 .f32 :=
  Host.dotGeneral (F := Ideal) dot_S8192x1024_S1024x1024_S8192x1024_1_1_0_0_n_n none (rdl a0 a1 a2 a3 a4 a5) (extf .f32 a3 bitsLt_bf16_f32)
def rdng : FVec Ideal S8192x1024 .f32 :=
  mulf (rdn a0 a1 a2 a3 a4 a5) (broadcastInDim S8192x1024 ![0, 1] bcast_S1x1024_S8192x1024_0_1 a2)
/-- The gradient through the mean squares. -/
def rdv : FVec Ideal S8192x1 .f32 :=
  Host.divf (mulf (shapeCast _ (Host.reduceAdd (mulf a0 (rdng a0 a1 a2 a3 a4 a5)) (constant (F := Ideal) S_ .f32 0x00000000#32)
      reducesTo_S8192x1024_S8192_d1 h_S_) shapeCasts_S8192_S8192x1)
    (mulf (broadcastInDim S8192x1 ![] bcast_S_S8192x1 (constant (F := Ideal) S_ .f32 0xBF000000#32)) (Host.divf (rrs a0) (rvar a0))))
    (broadcastInDim S8192x1 ![] bcast_S_S8192x1 (constant (F := Ideal) S_ .f32 0x44800000#32))
def rdvb : FVec Ideal S8192x1024 .f32 :=
  broadcastInDim S8192x1024 ![0] bcast_S8192_S8192x1024_0 (Host.reduceAdd (rdv a0 a1 a2 a3 a4 a5) (constant (F := Ideal) S_ .f32 0x00000000#32)
    reducesTo_S8192x1_S8192_d1 h_S_)
def rdh : FVec Ideal S8192x1024 .f32 :=
  addf (addf (addf a5 (mulf (rdng a0 a1 a2 a3 a4 a5) (broadcastInDim S8192x1024 ![0, 1] bcast_S8192x1_S8192x1024_0_1 (rrs a0))))
    (mulf a0 (rdvb a0 a1 a2 a3 a4 a5))) (mulf (rdvb a0 a1 a2 a3 a4 a5) a0)

theorem rvar_at (s : Fin 8192) : rvar a0 (ix2 s (0 : Fin 1)) = var (fun s k => a0 (ix2 s k)) s := by
  pointwise [rvar]; rfl
theorem rrs_at (s : Fin 8192) : rrs a0 (ix2 s (0 : Fin 1)) = Ideal.rsqrt (var (fun s k => a0 (ix2 s k)) s) := by
  pointwise [rrs]; rw [rvar_at]
theorem rhs_at (s : Fin 8192) (k : Fin 1024) :
    rhs a0 (ix2 s k) = a0 (ix2 s k) * Ideal.rsqrt (var (fun s k => a0 (ix2 s k)) s) := by
  pointwise [rhs]; rw [rrs_at]
theorem rn_at (s : Fin 8192) (k : Fin 1024) :
    rn a0 a2 (ix2 s k) = rms (fun s k => a0 (ix2 s k)) (fun k => a2 (ix2 (0 : Fin 1) k)) s k := by
  pointwise [rn]; rw [rhs_at]; rfl
theorem rsg_at (s : Fin 8192) (f : Fin 1024) :
    rsg a0 a2 a3 (ix2 s f) = pgate (fun s k => a0 (ix2 s k)) (fun k => a2 (ix2 (0 : Fin 1) k)) (fun k f => a3 (ix2 k f)) s f := by
  pointwise [rsg, one]
  rw [Finset.sum_congr rfl fun k _ => by rw [rn_at]]; rfl
theorem rdl_at (s : Fin 8192) (f : Fin 1024) : rdl a0 a1 a2 a3 a4 a5 (ix2 s f) = dlog (args a0 a1 a2 a3 a4 a5) s f := by
  pointwise [rdl, rct, one]; rw [rsg_at]; rfl
theorem rdn_at (s : Fin 8192) (k : Fin 1024) : rdn a0 a1 a2 a3 a4 a5 (ix2 s k) = dn (args a0 a1 a2 a3 a4 a5) s k := by
  pointwise [rdn]
  exact Finset.sum_congr rfl fun f _ => congrArg (· * _) (rdl_at _ _ _ _ _ _ _ _)
theorem rdng_at (s : Fin 8192) (k : Fin 1024) :
    rdng a0 a1 a2 a3 a4 a5 (ix2 s k) = dn (args a0 a1 a2 a3 a4 a5) s k * a2 (ix2 (0 : Fin 1) k) := by
  pointwise [rdng]; rw [rdn_at]
theorem rdv_at (s : Fin 8192) : rdv a0 a1 a2 a3 a4 a5 (ix2 s (0 : Fin 1)) = dvar (args a0 a1 a2 a3 a4 a5) s := by
  pointwise [rdv]
  simp only [rdng_at, rrs_at, rvar_at]
  rfl
theorem rdvb_at (s : Fin 8192) (k : Fin 1024) : rdvb a0 a1 a2 a3 a4 a5 (ix2 s k) = dvar (args a0 a1 a2 a3 a4 a5) s := by
  pointwise [rdvb]
  exact (Fin.sum_univ_one _).trans (rdv_at _ _ _ _ _ _ _)

theorem dh_eq : rdh a0 a1 a2 a3 a4 a5 = fun j => dh (args a0 a1 a2 a3 a4 a5) (j 0) (j 1) := by
  funext j; idx_vars j; pointwise [rdh]
  rw [rdng_at, rrs_at, rdvb_at]; rfl
theorem dg_eq : shapeCast S1x1024 (Host.reduceAdd (mulf (rhs a0) (rdn a0 a1 a2 a3 a4 a5)) (constant (F := Ideal) S_ .f32 0x00000000#32)
      reducesTo_S8192x1024_S1024_d0 h_S_) shapeCasts_S1024_S1x1024
    = fun j => ∑ s, dgt (args a0 a1 a2 a3 a4 a5) s (j 1) := by
  funext j; idx_vars j; pointwise
  exact Finset.sum_congr rfl fun s _ => congrArg₂ (· * ·) (rhs_at _ _ _) (rdn_at _ _ _ _ _ _ _ _)
theorem dw_eq : transpose S1024x1024 [1, 0] (Host.dotGeneral (F := Ideal) dot_S8192x1024_S8192x1024_S1024x1024_0_0_1_1_n_n none
      (rdl a0 a1 a2 a3 a4 a5) (rn a0 a2)) transposes_S1024x1024_S1024x1024_1_0
    = fun j => ∑ s, dwt (args a0 a1 a2 a3 a4 a5) s (j 0) (j 1) := by
  funext j; idx_vars j; pointwise
  exact Finset.sum_congr rfl fun s _ => (mul_comm _ _).trans (congrArg₂ (· * ·) (rn_at _ _ _ _) (rdl_at _ _ _ _ _ _ _ _))
theorem dq_eq : transpose S256x1024 [1, 0] (Host.dotGeneral (F := Ideal) dot_S8192x1024_S8192x256_S1024x256_0_0_1_1_n_n none
      (mulf (rsg a0 a2 a3) (rct a5)) a1) transposes_S1024x256_S256x1024_1_0
    = fun j => ∑ s, dqt (args a0 a1 a2 a3 a4 a5) s (j 0) (j 1) := by
  funext j; idx_vars j; pointwise [rct]
  exact Finset.sum_congr rfl fun s _ => (mul_comm _ _).trans (congrArg (_ * ·) (congrArg (· * _) (rsg_at _ _ _ _ _)))

end

end Cert.Reference3Ideal.Ple

end
-- ==== Proof.PleEqual.lean ====
/- The embedding's backward call and the gradients of `jax.vjp` leave the same four arrays. -/
module

public import proofs.«01_k».proof.Proof.PleRun
public import proofs.«01_k».proof.Proof.PleRef
public import proofs.«01_k».proof.Defs

@[expose] public section

set_option maxRecDepth 16384

noncomputable section

namespace Cert.Ple

open Idealize.ShloMosaic Idealize.ShloMosaic.TcCoe Idealize.SL.Sem Cert.Kernel3Ideal.Ple

theorem algebraic : Cert.algebraic_Kernel3Ideal_Reference3Ideal := by
  pair_intro
  · run_from Cert.Kernel3Ideal.Value.run_blocks m g
  · refine θ_run_mono (Cert.Reference3Ideal.Value.run m' g') ?_
    intro r hr c
    obtain ⟨h0, h1, h2, h3, h4, h5⟩ := hagree c
    obtain ⟨r0, r1, r2, r3, k⟩ := hr c
    refine ⟨r0.trans ?_, r1.trans ?_, r2.trans ?_, r3.trans ?_, k⟩
    · refine (Cert.Reference3Ideal.Ple.dh_eq _ _ _ _ _ _).trans ?_
      rw [h0, h1, h2, h3, h4, h5]
      exact (final6 m c).symm
    · refine (Cert.Reference3Ideal.Ple.dg_eq _ _ _ _ _ _).trans ?_
      rw [h0, h1, h2, h3, h4, h5]
      exact (final7 m c).symm
    · refine (Cert.Reference3Ideal.Ple.dw_eq _ _ _ _ _ _).trans ?_
      rw [h0, h1, h2, h3, h4, h5]
      exact (final8 m c).symm
    · refine (Cert.Reference3Ideal.Ple.dq_eq _ _ _ _
        (m' ((c.tc : Thread Cert.Reference3Ideal.nD Cert.Reference3Ideal.τ).loc Cert.Reference3Ideal.main_arg4)) _).trans ?_
      rw [h0, h1, h2, h3, h4, h5]
      exact (final9 m c).symm

end Cert.Ple

end
-- ==== Proof.GateRun.lean ====
/- The three arrays the gates' backward call leaves: a point reads a block of rows and a mixer's gates, and a run of eight
   points adds up the weights' gradients over all the rows. -/
module

public import proofs.«01_k».proof.Proof.Gen.Kernel4Ideal.Value
public import Idealize.ShloMosaic.Lib.Pipeline.ValueKit
public import Idealize.ShloMosaic.Lib.KernelVsHost

@[expose] public section

set_option maxRecDepth 16384

noncomputable section

namespace Cert.Kernel4Ideal.Gate

open Idealize.ShloMosaic Idealize.ShloMosaic.TcCoe Cert.Kernel4Ideal Cert.Kernel4Ideal.Gen
open Idealize.ShloMosaic.Pipeline (Dat)

/-! ## One grid point -/

section
variable (v0 : FVec Ideal S1024x1024 .bf16) (v2 : FVec Ideal S1024x1024 .bf16) (v4 : FVec Ideal S1024x1024 .f32)

theorem dw_at (k f : Fin 1024) : k0_pay3 (F := Ideal) v0 v4 (ix2 k f) = ∑ r : Fin 1024, v0 (ix2 r k) * v4 (ix2 r f) := by
  pointwise [k0_pay3, k0_pay1]
theorem db_at (f : Fin 1024) : k0_pay2 (F := Ideal) v4 (ix2 (0 : Fin 1) f) = ∑ r : Fin 1024, v4 (ix2 r f) := by
  pointwise [k0_pay2]
theorem du_at (r k : Fin 1024) :
    k0_pay4 (F := Ideal) v2 v4 (ix3 (0 : Fin 1) r k) = ∑ f : Fin 1024, v4 (ix2 r f) * v2 (ix2 k f) := by
  pointwise [k0_pay4, k0_pay1]
theorem acc5 (a : FVec Ideal S1024x1024 .f32) (k f : Fin 1024) :
    k0_pay5 (F := Ideal) v0 v4 a (ix2 k f) = a (ix2 k f) + ∑ r : Fin 1024, v0 (ix2 r k) * v4 (ix2 r f) := by
  rw [← dw_at]
  pointwise [k0_pay5]
theorem acc6 (a : FVec Ideal S1x1024 .f32) (f : Fin 1024) :
    k0_pay6 (F := Ideal) v4 a (ix2 (0 : Fin 1) f) = a (ix2 (0 : Fin 1) f) + ∑ r : Fin 1024, v4 (ix2 r f) := by
  rw [← db_at]
  pointwise [k0_pay6]

end

/-! ## The run -/

variable (m : (ℓ : Loc nD τ sig) → Buf (Elt Ideal) ℓ) (c : Dev nD)

abbrev U : Fin 8192 → Fin 1024 → EReal := fun s k => m ((c : Thread nD τ).loc main_arg0) (ix2 s k)
abbrev W : Fin 1024 → Fin 4096 → EReal := fun k f => m ((c : Thread nD τ).loc main_arg1) (ix2 k f)
abbrev G : Fin 8192 → Fin 4096 → EReal := fun s f => m ((c : Thread nD τ).loc main_arg3) (ix2 s f)

theorem idx : ∀ t : Fin cfg0.N, win0_0.index t = ![t.val % 8, 0] ∧ win0_1.index t = ![0, t.val / 8]
    ∧ win0_3.index t = ![t.val % 8, t.val / 8] ∧ win0_4.index t = ![t.val / 8, t.val % 8, 0]
    ∧ win0_5.index t = ![0, t.val / 8] ∧ win0_6.index t = ![0, t.val / 8] ∧ t.val / 8 < 4 :=
  (by decide +kernel : ∀ t : Fin grid0.N, _)

/-- The row of the arguments at row `r` of point `t`'s blocks, and the gate at gate `f`. -/
abbrev row (t : Fin cfg0.N) (r : Fin 1024) : Fin 8192 := ⟨t.val % 8 * 1024 + r.val, by have := Nat.mod_lt t.val (by norm_num : 8 > 0); omega⟩
abbrev gate (t : Fin cfg0.N) (f : Fin 1024) : Fin 4096 := ⟨t.val / 8 * 1024 + f.val, by have := (idx t).2.2.2.2.2.2; omega⟩

/-- The blocks a point reads. -/
abbrev b0 (t : Fin cfg0.N) : FVec Ideal S1024x1024 .bf16 := iblk m c 0 t
abbrev b1 (t : Fin cfg0.N) : FVec Ideal S1024x1024 .bf16 := iblk m c 1 t
abbrev b3 (t : Fin cfg0.N) : FVec Ideal S1024x1024 .f32 := iblk m c 3 t

theorem rd0 (t : Fin cfg0.N) (r k : Fin 1024) : b0 m c t (ix2 r k) = U m c (row t r) k := by
  show iblk m c 0 t (ix2 r k) = m ((c : Thread nD τ).loc main_arg0) (ix2 (row t r) k)
  blk_ext [iblk, V, idx t]
theorem rd1 (t : Fin cfg0.N) (k f : Fin 1024) : b1 m c t (ix2 k f) = W m c k (gate t f) := by
  show iblk m c 1 t (ix2 k f) = m ((c : Thread nD τ).loc main_arg1) (ix2 k (gate t f))
  blk_ext [iblk, V, idx t]
theorem rd3 (t : Fin cfg0.N) (r f : Fin 1024) : b3 m c t (ix2 r f) = G m c (row t r) (gate t f) := by
  show iblk m c 3 t (ix2 r f) = m ((c : Thread nD τ).loc main_arg3) (ix2 (row t r) (gate t f))
  blk_ext [iblk, V, idx t]

/-- A run of eight points stays at one mixer's gates and walks the rows. -/
theorem row_run (t : Fin cfg0.N) (s : Fin 8) (h : 8 * (t.val / 8) + s.val < cfg0.N) (r : Fin 1024)
    (hl : s.val * 1024 + r.val < 8192) : row ⟨8 * (t.val / 8) + s.val, h⟩ r = ⟨s.val * 1024 + r.val, hl⟩ :=
  Fin.ext (by show (8 * (t.val / 8) + s.val) % 8 * 1024 + r.val = s.val * 1024 + r.val; omega)
theorem gate_run (t : Fin cfg0.N) (s : Fin 8) (h : 8 * (t.val / 8) + s.val < cfg0.N) (f : Fin 1024) :
    gate ⟨8 * (t.val / 8) + s.val, h⟩ f = gate t f :=
  Fin.ext (by show (8 * (t.val / 8) + s.val) / 8 * 1024 + f.val = t.val / 8 * 1024 + f.val; omega)

/-- The weights. -/
theorem final5 : (dats m 0 c).arrAt 5 cfg0.N = fun j => ∑ s, U m c s (j 0) * G m c s (j 1) := by
  refine (dats m 0 c).arrAt_eq_of_covers 5 _ (by decide +kernel) fun t hf y => ?_
  blk_simp
  idx_vars y
  rw [after0_5, Pipeline.eq_sum_fin_of_reset_step_apply_of_flush (fun n h => (outsAt0 m c n h).2.1) 8 (fun _ => 0)
    (fun p j => ∑ r : Fin 1024, b0 m c p (ix2 r (j 0)) * b3 m c p (ix2 r (j 1)))
    (fun t h j => by
      have h' : ¬ 1 ≤ t.val % 8 := by omega
      rw [outsAt0_A m c t h h' h h']; frame_out; idx_vars j
      exact (dw_at _ _ _ _).trans (zero_add _).symm)
    (fun t h j => by
      have h' : 1 ≤ t.val % 8 := by omega
      rw [outsAt0_B m c t h h' h h']; frame_out; idx_vars j
      exact acc5 _ _ _ _ _) t ((flush0_5 t).mp hf) _, zero_add]
  have hj : ((View.whole main_v0_1).slice (win0_5.rect t)).emb (ix2 y0 y1) = ix2 y0 (gate t y1) := by blk_ext [idx t]
  rw [hj]
  refine Fin.sum_mul_add_congr fun s r hl => ?_
  refine congrArg₂ (· * ·) ((rd0 m c _ r y0).trans ?_) ((rd3 m c _ r y1).trans ?_)
  · rw [row_run t s _ r hl]; rfl
  · rw [row_run t s _ r hl, gate_run t s]; rfl

/-- The bias. -/
theorem final6 : (dats m 0 c).arrAt 6 cfg0.N = fun j => ∑ s, G m c s (j 1) := by
  refine (dats m 0 c).arrAt_eq_of_covers 6 _ (by decide +kernel) fun t hf y => ?_
  blk_simp
  idx_vars y
  rw [after0_6, Pipeline.eq_sum_fin_of_reset_step_apply_of_flush (fun n h => (outsAt0 m c n h).2.2) 8 (fun _ => 0)
    (fun p j => ∑ r : Fin 1024, b3 m c p (ix2 r (j 1)))
    (fun t h j => by
      have h' : ¬ 1 ≤ t.val % 8 := by omega
      rw [outsAt0_A m c t h h' h h']; frame_out; idx_vars j
      obtain rfl : j0 = 0 := Subsingleton.elim _ _
      exact (db_at _ _).trans (zero_add _).symm)
    (fun t h j => by
      have h' : 1 ≤ t.val % 8 := by omega
      rw [outsAt0_B m c t h h' h h']; frame_out; idx_vars j
      obtain rfl : j0 = 0 := Subsingleton.elim _ _
      exact acc6 _ _ _) t ((flush0_6 t).mp hf) _, zero_add]
  have hj : ((View.whole main_v0_2).slice (win0_6.rect t)).emb (ix2 y0 y1) = ix2 (0 : Fin 1) (gate t y1) := by blk_ext [idx t]
  rw [hj]
  refine Fin.sum_mul_add_congr fun s r hl => ?_
  refine (rd3 m c _ r y1).trans ?_
  rw [row_run t s _ r hl, gate_run t s]; rfl

/-- Gate `f` of mixer `j`. -/
abbrev grp (j : Fin 4) (f : Fin 1024) : Fin 4096 := ⟨j.val * 1024 + f.val, by omega⟩

/-- The activations, mixer by mixer. -/
theorem final4 : (dats m 0 c).arrAt 4 cfg0.N
    = fun j => ∑ f, G m c (j 1) (grp (j 0) f) * W m c (j 2) (grp (j 0) f) := by
  refine (dats m 0 c).arrAt_eq_of_covers 4 _ (by decide +kernel) fun t hf y => ?_
  blk_simp
  idx_vars y
  have hj : ((View.whole main_v0_0).slice (win0_4.rect t)).emb (ix3 y0 y1 y2)
      = ix3 (⟨t.val / 8, (idx t).2.2.2.2.2.2⟩ : Fin 4) (row t y1) y2 := by blk_ext [idx t]
  have h0 : y0 = 0 := Subsingleton.elim _ _
  have key : (outsAt0 m c t.val t.isLt).1 (ix3 y0 y1 y2)
      = ∑ f : Fin 1024, b3 m c t (ix2 y1 f) * b1 m c t (ix2 y2 f) := by
    subst h0
    by_cases h : t.val % 8 = 0
    · have h' : ¬ 1 ≤ t.val % 8 := by omega
      rw [outsAt0_A m c t h h' h h']; frame_out
      exact du_at _ _ _ _
    · have h' : 1 ≤ t.val % 8 := by omega
      rw [outsAt0_B m c t h h' h h']; frame_out
      exact du_at _ _ _ _
  rw [after0_4, hj]
  refine key.trans ?_
  exact Finset.sum_congr rfl fun f _ => congrArg₂ (· * ·) (rd3 m c t y1 f) (rd1 m c t y2 f)

end Cert.Kernel4Ideal.Gate

end
-- ==== Proof.GateRef.lean ====
/- The reference's gradients of the gates' projection, at a row, a gate, or a channel and a gate. -/
module

public import proofs.«01_k».proof.Proof.Gen.Reference4Ideal.Run
public import Idealize.ShloMosaic.Lib.Pipeline.ValueKit
public import Idealize.ShloMosaic.Lib.KernelVsHost

@[expose] public section

set_option maxRecDepth 16384

noncomputable section

namespace Cert.Reference4Ideal.Gate

open Idealize.ShloMosaic Idealize.ShloMosaic.TcCoe Cert.Reference4Ideal Cert.Reference4Ideal.Gen

section
variable (a0 : FVec Ideal S8192x1024 .bf16) (a1 : FVec Ideal S1024x4096 .bf16) (a3 : FVec Ideal S8192x4096 .f32)

abbrev fu : Fin 8192 → Fin 1024 → EReal := fun s k => a0 (ix2 s k)
abbrev fw : Fin 1024 → Fin 4096 → EReal := fun k f => a1 (ix2 k f)
abbrev fg : Fin 8192 → Fin 4096 → EReal := fun s f => a3 (ix2 s f)

/-- Gate `f` of mixer `j`. -/
abbrev grp (j : Fin 4) (f : Fin 1024) : Fin 4096 := ⟨j.val * 1024 + f.val, by omega⟩

def gg : FVec Ideal S8192x4x1024 .f32 := shapeCast _ a3 shapeCasts_S8192x4096_S8192x4x1024
def gw : FVec Ideal S1024x4x1024 .f32 := shapeCast _ (extf .f32 a1 bitsLt_bf16_f32) shapeCasts_S1024x4096_S1024x4x1024

theorem gg_at (s : Fin 8192) (j : Fin 4) (f : Fin 1024) : gg a3 (ix3 s j f) = fg a3 s (grp j f) := by
  pointwise [gg]
theorem gw_at (k : Fin 1024) (j : Fin 4) (f : Fin 1024) : gw a1 (ix3 k j f) = fw a1 k (grp j f) := by
  pointwise [gw]

theorem du_eq : truncf .bf16 (Host.dotGeneral (F := Ideal) dot_S8192x4x1024_S1024x4x1024_S4x8192x1024_2_2_0_0_1_1 none
      (gg a3) (gw a1)) bitsLt_bf16_f32
    = fun j => ∑ f, fg a3 (j 1) (grp (j 0) f) * fw a1 (j 2) (grp (j 0) f) := by
  funext j; idx_vars j; pointwise
  exact Finset.sum_congr rfl fun f _ => by rw [gg_at, gw_at]
theorem dw_eq : transpose S1024x4096 [1, 0] (Host.dotGeneral (F := Ideal) dot_S8192x4096_S8192x1024_S4096x1024_0_0_1_1_n_n none
      (shapeCast _ a3 shapeCasts_S8192x4096_S8192x4096) (extf .f32 a0 bitsLt_bf16_f32)) transposes_S4096x1024_S1024x4096_1_0
    = fun j => ∑ s, fu a0 s (j 0) * fg a3 s (j 1) := by
  funext j; idx_vars j; pointwise
  exact Finset.sum_congr rfl fun s _ => mul_comm _ _
theorem db_eq : shapeCast S1x4096 (Host.reduceAdd a3 (constant (F := Ideal) S_ .f32 0x00000000#32) reducesTo_S8192x4096_S4096_d0 h_S_)
      shapeCasts_S4096_S1x4096
    = fun j => ∑ s, fg a3 s (j 1) := by
  funext j; idx_vars j; pointwise

end

end Cert.Reference4Ideal.Gate

end
-- ==== Proof.GateEqual.lean ====
/- The gates' backward call and the gradients of `jax.vjp` leave the same three arrays. -/
module

public import proofs.«01_k».proof.Proof.GateRun
public import proofs.«01_k».proof.Proof.GateRef
public import proofs.«01_k».proof.Defs

@[expose] public section

set_option maxRecDepth 16384

noncomputable section

namespace Cert.Gate

open Idealize.ShloMosaic Idealize.ShloMosaic.TcCoe Idealize.SL.Sem Cert.Kernel4Ideal.Gate

theorem algebraic : Cert.algebraic_Kernel4Ideal_Reference4Ideal := by
  pair_intro
  · run_from Cert.Kernel4Ideal.Value.run_blocks m g
  · refine θ_run_mono (Cert.Reference4Ideal.Value.run m' g') ?_
    intro r hr c
    obtain ⟨h0, h1, _, h3⟩ := hagree c
    obtain ⟨r0, r1, r2, k⟩ := hr c
    refine ⟨r0.trans ?_, r1.trans ?_, r2.trans ?_, k⟩
    · refine (Cert.Reference4Ideal.Gate.du_eq _ _).trans ?_
      rw [h1, h3]
      exact (final4 m c).symm
    · refine (Cert.Reference4Ideal.Gate.dw_eq _ _).trans ?_
      rw [h0, h3]
      exact (final5 m c).symm
    · refine (Cert.Reference4Ideal.Gate.db_eq _).trans ?_
      rw [h3]
      exact (final6 m c).symm

end Cert.Gate

end
-- ==== Proof.InprojRun.lean ====
/- The two arrays the backward call of the projection into the mixers leaves: a point reads a block of rows and a group of
   columns, and a run of eight points adds up the weights' gradients over all the rows. -/
module

public import proofs.«01_k».proof.Proof.Gen.Kernel5Ideal.Value
public import Idealize.ShloMosaic.Lib.Pipeline.ValueKit
public import Idealize.ShloMosaic.Lib.KernelVsHost

@[expose] public section

set_option maxRecDepth 16384

noncomputable section

namespace Cert.Kernel5Ideal.Inproj

open Idealize.ShloMosaic Idealize.ShloMosaic.TcCoe Cert.Kernel5Ideal Cert.Kernel5Ideal.Gen
open Idealize.ShloMosaic.Pipeline (Dat)

/-! ## One grid point -/

section
variable (v0 : FVec Ideal S1024x1024 .bf16) (v2 : FVec Ideal S1024x896 .bf16) (v4 : FVec Ideal S1024x896 .f32)

theorem dw_at (k : Fin 1024) (f : Fin 896) : k0_pay3 (F := Ideal) v0 v4 (ix2 k f) = ∑ r : Fin 1024, v0 (ix2 r k) * v4 (ix2 r f) := by
  pointwise [k0_pay3, k0_pay1]
theorem du_at (r k : Fin 1024) :
    k0_pay4 (F := Ideal) v2 v4 (ix3 (0 : Fin 1) r k) = ∑ f : Fin 896, v4 (ix2 r f) * v2 (ix2 k f) := by
  pointwise [k0_pay4, k0_pay1]
theorem acc5 (a : FVec Ideal S1024x896 .f32) (k : Fin 1024) (f : Fin 896) :
    k0_pay5 (F := Ideal) v0 v4 a (ix2 k f) = a (ix2 k f) + ∑ r : Fin 1024, v0 (ix2 r k) * v4 (ix2 r f) := by
  rw [← dw_at]
  pointwise [k0_pay5]

end

/-! ## The run -/

variable (m : (ℓ : Loc nD τ sig) → Buf (Elt Ideal) ℓ) (c : Dev nD)

abbrev U : Fin 8192 → Fin 1024 → EReal := fun s k => m ((c : Thread nD τ).loc main_arg0) (ix2 s k)
abbrev W : Fin 1024 → Fin 5376 → EReal := fun k f => m ((c : Thread nD τ).loc main_arg1) (ix2 k f)
abbrev G : Fin 8192 → Fin 5376 → EReal := fun s f => m ((c : Thread nD τ).loc main_arg2) (ix2 s f)

theorem idx : ∀ t : Fin cfg0.N, win0_0.index t = ![t.val % 8, 0] ∧ win0_1.index t = ![0, t.val / 8]
    ∧ win0_3.index t = ![t.val % 8, t.val / 8] ∧ win0_4.index t = ![t.val / 8, t.val % 8, 0]
    ∧ win0_5.index t = ![0, t.val / 8] ∧ win0_6.index t = ![0, t.val / 8] ∧ t.val / 8 < 6 :=
  (by decide +kernel : ∀ t : Fin grid0.N, _)

/-- The row of the arguments at row `r` of point `t`'s blocks, and the column at column `f`. -/
abbrev row (t : Fin cfg0.N) (r : Fin 1024) : Fin 8192 := ⟨t.val % 8 * 1024 + r.val, by have := Nat.mod_lt t.val (by norm_num : 8 > 0); omega⟩
abbrev col (t : Fin cfg0.N) (f : Fin 896) : Fin 5376 := ⟨t.val / 8 * 896 + f.val, by have := (idx t).2.2.2.2.2.2; omega⟩

/-- The blocks a point reads. -/
abbrev b0 (t : Fin cfg0.N) : FVec Ideal S1024x1024 .bf16 := iblk m c 0 t
abbrev b1 (t : Fin cfg0.N) : FVec Ideal S1024x896 .bf16 := iblk m c 1 t
abbrev b3 (t : Fin cfg0.N) : FVec Ideal S1024x896 .f32 := iblk m c 3 t

theorem rd0 (t : Fin cfg0.N) (r k : Fin 1024) : b0 m c t (ix2 r k) = U m c (row t r) k := by
  show iblk m c 0 t (ix2 r k) = m ((c : Thread nD τ).loc main_arg0) (ix2 (row t r) k)
  blk_ext [iblk, V, idx t]
theorem rd1 (t : Fin cfg0.N) (k : Fin 1024) (f : Fin 896) : b1 m c t (ix2 k f) = W m c k (col t f) := by
  show iblk m c 1 t (ix2 k f) = m ((c : Thread nD τ).loc main_arg1) (ix2 k (col t f))
  blk_ext [iblk, V, idx t]
theorem rd3 (t : Fin cfg0.N) (r : Fin 1024) (f : Fin 896) : b3 m c t (ix2 r f) = G m c (row t r) (col t f) := by
  show iblk m c 3 t (ix2 r f) = m ((c : Thread nD τ).loc main_arg2) (ix2 (row t r) (col t f))
  blk_ext [iblk, V, idx t]

/-- A run of eight points stays at one group of columns and walks the rows. -/
theorem row_run (t : Fin cfg0.N) (s : Fin 8) (h : 8 * (t.val / 8) + s.val < cfg0.N) (r : Fin 1024)
    (hl : s.val * 1024 + r.val < 8192) : row ⟨8 * (t.val / 8) + s.val, h⟩ r = ⟨s.val * 1024 + r.val, hl⟩ :=
  Fin.ext (by show (8 * (t.val / 8) + s.val) % 8 * 1024 + r.val = s.val * 1024 + r.val; omega)
theorem col_run (t : Fin cfg0.N) (s : Fin 8) (h : 8 * (t.val / 8) + s.val < cfg0.N) (f : Fin 896) :
    col ⟨8 * (t.val / 8) + s.val, h⟩ f = col t f :=
  Fin.ext (by show (8 * (t.val / 8) + s.val) / 8 * 896 + f.val = t.val / 8 * 896 + f.val; omega)

/-- The weights. -/
theorem final5 : (dats m 0 c).arrAt 5 cfg0.N = fun j => ∑ s, U m c s (j 0) * G m c s (j 1) := by
  refine (dats m 0 c).arrAt_eq_of_covers 5 _ (by decide +kernel) fun t hf y => ?_
  blk_simp
  idx_vars y
  rw [after0_5, Pipeline.eq_sum_fin_of_reset_step_apply_of_flush (fun n h => (outsAt0 m c n h).2.1) 8 (fun _ => 0)
    (fun p j => ∑ r : Fin 1024, b0 m c p (ix2 r (j 0)) * b3 m c p (ix2 r (j 1)))
    (fun t h j => by
      have h' : ¬ 1 ≤ t.val % 8 := by omega
      rw [outsAt0_A m c t h h' h h']; frame_out; idx_vars j
      exact (dw_at _ _ _ _).trans (zero_add _).symm)
    (fun t h j => by
      have h' : 1 ≤ t.val % 8 := by omega
      rw [outsAt0_B m c t h h' h h']; frame_out; idx_vars j
      exact acc5 _ _ _ _ _) t ((flush0_5 t).mp hf) _, zero_add]
  have hj : ((View.whole main_v1_1).slice (win0_5.rect t)).emb (ix2 y0 y1) = ix2 y0 (col t y1) := by blk_ext [idx t]
  rw [hj]
  refine Fin.sum_mul_add_congr fun s r hl => ?_
  refine congrArg₂ (· * ·) ((rd0 m c _ r y0).trans ?_) ((rd3 m c _ r y1).trans ?_)
  · rw [row_run t s _ r hl]; rfl
  · rw [row_run t s _ r hl, col_run t s]; rfl

/-- Column `f` of group `j`. -/
abbrev grp (j : Fin 6) (f : Fin 896) : Fin 5376 := ⟨j.val * 896 + f.val, by omega⟩

/-- The activations, group by group. -/
theorem final4 : (dats m 0 c).arrAt 4 cfg0.N
    = fun j => ∑ f, G m c (j 1) (grp (j 0) f) * W m c (j 2) (grp (j 0) f) := by
  refine (dats m 0 c).arrAt_eq_of_covers 4 _ (by decide +kernel) fun t hf y => ?_
  blk_simp
  idx_vars y
  have hj : ((View.whole main_v1_0).slice (win0_4.rect t)).emb (ix3 y0 y1 y2)
      = ix3 (⟨t.val / 8, (idx t).2.2.2.2.2.2⟩ : Fin 6) (row t y1) y2 := by blk_ext [idx t]
  have h0 : y0 = 0 := Subsingleton.elim _ _
  have key : (outsAt0 m c t.val t.isLt).1 (ix3 y0 y1 y2)
      = ∑ f : Fin 896, b3 m c t (ix2 y1 f) * b1 m c t (ix2 y2 f) := by
    subst h0
    by_cases h : t.val % 8 = 0
    · have h' : ¬ 1 ≤ t.val % 8 := by omega
      rw [outsAt0_A m c t h h' h h']; frame_out
      exact du_at _ _ _ _
    · have h' : 1 ≤ t.val % 8 := by omega
      rw [outsAt0_B m c t h h' h h']; frame_out
      exact du_at _ _ _ _
  rw [after0_4, hj]
  refine key.trans ?_
  exact Finset.sum_congr rfl fun f _ => congrArg₂ (· * ·) (rd3 m c t y1 f) (rd1 m c t y2 f)

end Cert.Kernel5Ideal.Inproj

end
-- ==== Proof.InprojRef.lean ====
/- The reference's gradients of the projection into the mixers, at a row, a column, or a channel and a column. -/
module

public import proofs.«01_k».proof.Proof.Gen.Reference5Ideal.Run
public import Idealize.ShloMosaic.Lib.Pipeline.ValueKit
public import Idealize.ShloMosaic.Lib.KernelVsHost

@[expose] public section

set_option maxRecDepth 16384

noncomputable section

namespace Cert.Reference5Ideal.Inproj

open Idealize.ShloMosaic Idealize.ShloMosaic.TcCoe Cert.Reference5Ideal Cert.Reference5Ideal.Gen

section
variable (a0 : FVec Ideal S8192x1024 .bf16) (a1 : FVec Ideal S1024x5376 .bf16) (a2 : FVec Ideal S8192x5376 .f32)

abbrev fu : Fin 8192 → Fin 1024 → EReal := fun s k => a0 (ix2 s k)
abbrev fw : Fin 1024 → Fin 5376 → EReal := fun k f => a1 (ix2 k f)
abbrev fg : Fin 8192 → Fin 5376 → EReal := fun s f => a2 (ix2 s f)

/-- Column `f` of group `j`. -/
abbrev grp (j : Fin 6) (f : Fin 896) : Fin 5376 := ⟨j.val * 896 + f.val, by omega⟩

def gg : FVec Ideal S8192x6x896 .f32 := shapeCast _ a2 shapeCasts_S8192x5376_S8192x6x896
def gw : FVec Ideal S1024x6x896 .f32 := shapeCast _ (extf .f32 a1 bitsLt_bf16_f32) shapeCasts_S1024x5376_S1024x6x896

theorem gg_at (s : Fin 8192) (j : Fin 6) (f : Fin 896) : gg a2 (ix3 s j f) = fg a2 s (grp j f) := by
  pointwise [gg]
theorem gw_at (k : Fin 1024) (j : Fin 6) (f : Fin 896) : gw a1 (ix3 k j f) = fw a1 k (grp j f) := by
  pointwise [gw]

theorem du_eq : truncf .bf16 (Host.dotGeneral (F := Ideal) dot_S8192x6x896_S1024x6x896_S6x8192x1024_2_2_0_0_1_1 none
      (gg a2) (gw a1)) bitsLt_bf16_f32
    = fun j => ∑ f, fg a2 (j 1) (grp (j 0) f) * fw a1 (j 2) (grp (j 0) f) := by
  funext j; idx_vars j; pointwise
  exact Finset.sum_congr rfl fun f _ => by rw [gg_at, gw_at]
theorem dw_eq : transpose S1024x5376 [1, 0] (Host.dotGeneral (F := Ideal) dot_S8192x5376_S8192x1024_S5376x1024_0_0_1_1_n_n none
      a2 (extf .f32 a0 bitsLt_bf16_f32)) transposes_S5376x1024_S1024x5376_1_0
    = fun j => ∑ s, fu a0 s (j 0) * fg a2 s (j 1) := by
  funext j; idx_vars j; pointwise
  exact Finset.sum_congr rfl fun s _ => mul_comm _ _

end

end Cert.Reference5Ideal.Inproj

end
-- ==== Proof.InprojEqual.lean ====
/- The backward call of the projection into the mixers and the gradients of `jax.vjp` leave the same two arrays. -/
module

public import proofs.«01_k».proof.Proof.InprojRun
public import proofs.«01_k».proof.Proof.InprojRef
public import proofs.«01_k».proof.Defs

@[expose] public section

set_option maxRecDepth 16384

noncomputable section

namespace Cert.Inproj

open Idealize.ShloMosaic Idealize.ShloMosaic.TcCoe Idealize.SL.Sem Cert.Kernel5Ideal.Inproj

theorem algebraic : Cert.algebraic_Kernel5Ideal_Reference5Ideal := by
  pair_intro
  · run_from Cert.Kernel5Ideal.Value.run_blocks m g
  · refine θ_run_mono (Cert.Reference5Ideal.Value.run m' g') ?_
    intro r hr c
    obtain ⟨h0, h1, h2⟩ := hagree c
    obtain ⟨r0, r1, k⟩ := hr c
    refine ⟨r0.trans ?_, r1.trans ?_, k⟩
    · refine (Cert.Reference5Ideal.Inproj.du_eq _ _).trans ?_
      rw [h1, h2]
      exact (final4 m c).symm
    · refine (Cert.Reference5Ideal.Inproj.dw_eq _ _).trans ?_
      rw [h0, h2]
      exact (final5 m c).symm

end Cert.Inproj

end
-- ==== Proof.FfnFwdRun.lean ====
/- The two arrays the feed-forward's call leaves: a point normalizes a block of rows and adds a half of the hidden channels. -/
module

public import proofs.«01_k».proof.Proof.FfnMath
public import proofs.«01_k».proof.Proof.NormMath
public import proofs.«01_k».proof.Proof.Gen.Kernel6Ideal.Value
public import Idealize.ShloMosaic.Lib.Pipeline.ValueKit
public import Idealize.ShloMosaic.Lib.KernelVsHost

@[expose] public section

set_option maxRecDepth 16384

noncomputable section

namespace Cert.Kernel6Ideal.FfnFwd

open Idealize.ShloMosaic Idealize.ShloMosaic.TcCoe Cert.Kernel6Ideal Cert.Kernel6Ideal.Gen Cert.Norm Cert.Ffn
open Idealize.ShloMosaic.Pipeline (Dat)

section
variable (v0 : FVec Ideal S512x1024 .f32) (v1 : FVec Ideal S1x1024 .f32) (v2 v3 : FVec Ideal S1024x1408 .bf16) (v4 : FVec Ideal S1408x1024 .bf16)

/-- The blocks by row and channel. -/
abbrev bh : Fin 512 → Fin 1024 → EReal := fun r k => v0 (ix2 r k)
abbrev bg : Fin 1024 → EReal := fun k => v1 (ix2 (0 : Fin 1) k)
abbrev bw : Fin 1024 → Fin 1408 → EReal := fun k f => v2 (ix2 k f)
abbrev bo : Fin 1408 → Fin 1024 → EReal := fun f k => v4 (ix2 f k)

theorem rms_at (r : Fin 512) (k : Fin 1024) : k0_pay3 (F := Ideal) v0 v1 (ix2 r k) = rms (bh v0) (bg v1) r k := by
  pointwise [k0_pay3]; rfl
theorem cast_at (r : Fin 512) (k : Fin 1024) : k0_pay2 (F := Ideal) (k0_pay3 v0 v1) (ix2 r k) = rms (bh v0) (bg v1) r k := by
  pointwise [k0_pay2]; exact rms_at _ _ _ _

/-- A point's product with the output weights. -/
def part (r : Fin 512) (k : Fin 1024) : EReal := ∑ f, hid (rms (bh v0) (bg v1)) (bw v2) (bw v3) r f * bo v4 f k

/-- The one that scales the residual at a row's first point, the zero at its second. -/
def first (i : grid0.Coords) : EReal :=
  Scalar.sitofp (F := Ideal) .f32 (Scalar.extui (Scalar.cmpi .eq (BitVec.ofNat 32 (i 1).val) 0#32) : BitVec 32)

theorem out_at (i : grid0.Coords) (r : Fin 512) (k : Fin 1024) :
    k0_pay4 (F := Ideal) i v0 v1 v2 v3 v4 (ix2 r k) = half * part v0 v1 v2 v3 v4 r k + first i * bh v0 r k := by
  pointwise [k0_pay4]
  refine congrArg₂ (· + ·) (congrArg (_ * ·) (Finset.sum_congr rfl fun f _ => congrArg (· * _) ?_)) rfl
  simp only [rms_at]
  rfl
theorem acc_at (i : grid0.Coords) (a : FVec Ideal S512x1024 .f32) (r : Fin 512) (k : Fin 1024) :
    k0_pay1 (F := Ideal) (k0_pay4 i v0 v1 v2 v3 v4) a (ix2 r k)
      = a (ix2 r k) + (half * part v0 v1 v2 v3 v4 r k + first i * bh v0 r k) := by
  rw [← out_at]
  pointwise [k0_pay1]

end

theorem first_zero : ∀ t : Fin cfg0.N, t.val % 2 = 0 → (grid0.coords t 1).val = 0 :=
  (by decide +kernel : ∀ t : Fin grid0.N, _)
theorem first_one : ∀ t : Fin cfg0.N, t.val % 2 = 1 → (grid0.coords t 1).val = 1 :=
  (by decide +kernel : ∀ t : Fin grid0.N, _)
theorem first_A (t : Fin cfg0.N) (h : t.val % 2 = 0) : first (grid0.coords t) = 1 := by
  unfold first; rw [first_zero t h]
  show (((1#32 : BitVec 32).toInt : ℝ) : EReal) = 1
  norm_num
theorem first_B (t : Fin cfg0.N) (h : t.val % 2 = 1) : first (grid0.coords t) = 0 := by
  unfold first; rw [first_one t h]
  show (((0#32 : BitVec 32).toInt : ℝ) : EReal) = 0
  norm_num

variable (m : (ℓ : Loc nD τ sig) → Buf (Elt Ideal) ℓ) (c : Dev nD)

abbrev H : Fin 8192 → Fin 1024 → EReal := fun s k => m ((c : Thread nD τ).loc main_arg0) (ix2 s k)
abbrev Gn : Fin 1024 → EReal := fun k => m ((c : Thread nD τ).loc main_arg1) (ix2 (0 : Fin 1) k)
abbrev Wg : Fin 1024 → Fin 2816 → EReal := fun k f => m ((c : Thread nD τ).loc main_arg2) (ix2 k f)
abbrev Wu : Fin 1024 → Fin 2816 → EReal := fun k f => m ((c : Thread nD τ).loc main_arg3) (ix2 k f)
abbrev Wo : Fin 2816 → Fin 1024 → EReal := fun f k => m ((c : Thread nD τ).loc main_arg4) (ix2 f k)

theorem idx : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0]
    ∧ win0_6.index t = ![t.val / 2, 0] ∧ t.val / 2 < 16 :=
  (by decide +kernel : ∀ t : Fin grid0.N, _)

/-- The row of the arguments at row `r` of point `t`'s blocks, and the hidden channel at channel `f`. -/
abbrev row (t : Fin cfg0.N) (r : Fin 512) : Fin 8192 := ⟨t.val / 2 * 512 + r.val, by have := (idx t).2.2.2.2.2.2.2; omega⟩
abbrev chan (t : Fin cfg0.N) (f : Fin 1408) : Fin 2816 := ⟨t.val % 2 * 1408 + f.val, by have := Nat.mod_lt t.val (by norm_num : 2 > 0); omega⟩

theorem rd0 (t : Fin cfg0.N) (r : Fin 512) (k : Fin 1024) : bh (iblk m c 0 t) r k = H m c (row t r) k := by
  show iblk m c 0 t (ix2 r k) = m ((c : Thread nD τ).loc main_arg0) (ix2 (row t r) k)
  blk_ext [iblk, V, idx t]
theorem rd1 (t : Fin cfg0.N) (k : Fin 1024) : bg (iblk m c 1 t) k = Gn m c k := by
  show iblk m c 1 t (ix2 (0 : Fin 1) k) = m ((c : Thread nD τ).loc main_arg1) (ix2 (0 : Fin 1) k)
  blk_ext [iblk, V, idx t]
theorem rd2 (t : Fin cfg0.N) (k : Fin 1024) (f : Fin 1408) : bw (iblk m c 2 t) k f = Wg m c k (chan t f) := by
  show iblk m c 2 t (ix2 k f) = m ((c : Thread nD τ).loc main_arg2) (ix2 k (chan t f))
  blk_ext [iblk, V, idx t]
theorem rd3 (t : Fin cfg0.N) (k : Fin 1024) (f : Fin 1408) : bw (iblk m c 3 t) k f = Wu m c k (chan t f) := by
  show iblk m c 3 t (ix2 k f) = m ((c : Thread nD τ).loc main_arg3) (ix2 k (chan t f))
  blk_ext [iblk, V, idx t]
theorem rd4 (t : Fin cfg0.N) (f : Fin 1408) (k : Fin 1024) : bo (iblk m c 4 t) f k = Wo m c (chan t f) k := by
  show iblk m c 4 t (ix2 f k) = m ((c : Thread nD τ).loc main_arg4) (ix2 (chan t f) k)
  blk_ext [iblk, V, idx t]

/-- The hidden channels' products at a row, of all the channels. -/
abbrev prod (s : Fin 8192) (f : Fin 2816) (k : Fin 1024) : EReal :=
  hid (rms (H m c) (Gn m c)) (Wg m c) (Wu m c) s f * Wo m c f k

theorem part_eq (t : Fin cfg0.N) (r : Fin 512) (k : Fin 1024) :
    part (iblk m c 0 t) (iblk m c 1 t) (iblk m c 2 t) (iblk m c 3 t) (iblk m c 4 t) r k
      = ∑ f : Fin 1408, prod m c (row t r) (chan t f) k :=
  Finset.sum_congr rfl fun f _ => congrArg₂ (· * ·)
    (hid_congr (rms_congr (rd0 m c t r) (rd1 m c t)) (fun k => rd2 m c t k f) (fun k => rd3 m c t k f)) (rd4 m c t f k)

theorem half_eq : half = ((1 / 2 : ℝ) : EReal) := by
  show Ideal.ofBits .f32 0x3F000000#32 = _
  simp [Ideal.ofBits, Ideal.ieee, -EReal.coe_mul]
  norm_num
theorem half_nonneg : 0 ≤ half := by
  rw [half_eq]; exact_mod_cast (by norm_num : (0 : ℝ) ≤ 1 / 2)
theorem half_ne_top : half ≠ ⊤ := by
  rw [half_eq]; exact EReal.coe_ne_top _

/-- The two halves of the hidden channels add up to all of them. -/
theorem split (F : Fin 2816 → EReal) :
    ∑ f, F f = (∑ f : Fin 1408, F ⟨f.val, by omega⟩) + ∑ f : Fin 1408, F ⟨1408 + f.val, by omega⟩ :=
  Fin.sum_univ_add (a := 1408) (b := 1408) F

theorem final5 : (dats m 0 c).arrAt 5 cfg0.N = fun j => H m c (j 0) (j 1) + half * ∑ f, prod m c (j 0) f (j 1) := by
  refine (dats m 0 c).arrAt_eq_of_covers 5 _ (by decide +kernel) fun t hf y => ?_
  blk_simp
  idx_vars y
  have hj : ((View.whole main_v0_0).slice (win0_5.rect t)).emb (ix2 y0 y1) = ix2 (row t y0) y1 := by blk_ext [idx t]
  have hB : t.val % 2 = 1 := (flush0_5 t).mp hf
  have hA : ¬ t.val % 2 = 0 := by omega
  have hlt : t.val - 1 < cfg0.N := lt_of_le_of_lt (Nat.sub_le _ _) t.isLt
  let t' : Fin cfg0.N := ⟨t.val - 1, hlt⟩
  have hA' : t'.val % 2 = 0 := by show (t.val - 1) % 2 = 0; omega
  have hB' : ¬ t'.val % 2 = 1 := by omega
  rw [after0_5, hj, outsAt0_B m c t hA hB]
  frame_out
  refine (acc_at _ _ _ _ _ _ _ _ _).trans ?_
  have hprev : (outsAt0 m c t'.val t'.isLt).1 (ix2 y0 y1)
      = half * part (iblk m c 0 t') (iblk m c 1 t') (iblk m c 2 t') (iblk m c 3 t') (iblk m c 4 t') y0 y1
        + first (grid0.coords t') * bh (iblk m c 0 t') y0 y1 := by
    rw [outsAt0_A m c t' hA' hB']
    frame_out
    exact out_at _ _ _ _ _ _ _ _
  have hr : row t' y0 = row t y0 := Fin.ext (by show (t.val - 1) / 2 * 512 + y0.val = t.val / 2 * 512 + y0.val; omega)
  refine (congrArg₂ (· + ·) hprev rfl).trans ?_
  show _ = H m c (row t y0) y1 + half * ∑ f, prod m c (row t y0) f y1
  rw [first_A t' hA', first_B t hB, part_eq, part_eq, one_mul, zero_mul, add_zero, rd0, hr, split (fun f => prod m c (row t y0) f y1),
    EReal.left_distrib_of_nonneg_of_ne_top half_nonneg half_ne_top]
  have e0 : ∀ f : Fin 1408, chan t' f = ⟨f.val, by omega⟩ := fun f =>
    Fin.ext (by show (t.val - 1) % 2 * 1408 + f.val = f.val; omega)
  have e1 : ∀ f : Fin 1408, chan t f = ⟨1408 + f.val, by omega⟩ := fun f =>
    Fin.ext (by show t.val % 2 * 1408 + f.val = 1408 + f.val; omega)
  simp only [e0, e1]
  rw [add_comm (half * _) (H m c _ _), add_assoc]

theorem final6 : (dats m 0 c).arrAt 6 cfg0.N = fun j => rms (H m c) (Gn m c) (j 0) (j 1) := by
  refine (dats m 0 c).arrAt_eq_of_covers 6 _ (by decide +kernel) fun t hf y => ?_
  blk_simp
  idx_vars y
  have hj : ((View.whole main_v0_1).slice (win0_6.rect t)).emb (ix2 y0 y1) = ix2 (row t y0) y1 := by blk_ext [idx t]
  have hB : t.val % 2 = 1 := (flush0_6 t).mp hf
  have hA : ¬ t.val % 2 = 0 := by omega
  rw [after0_6, hj, outsAt0_B m c t hA hB]
  frame_out
  exact (cast_at _ _ _ _).trans (rms_congr (rd0 m c t y0) (rd1 m c t) y1)

end Cert.Kernel6Ideal.FfnFwd

end
-- ==== Proof.FfnFwdRef.lean ====
/- The reference's normalized rows and its feed-forward at a row and a channel. -/
module

public import proofs.«01_k».proof.Proof.FfnMath
public import proofs.«01_k».proof.Proof.NormMath
public import proofs.«01_k».proof.Proof.Gen.Reference6Ideal.Run
public import Idealize.ShloMosaic.Lib.Pipeline.ValueKit
public import Idealize.ShloMosaic.Lib.KernelVsHost

@[expose] public section

set_option maxRecDepth 16384

noncomputable section

namespace Cert.Reference6Ideal.FfnFwd

open Idealize.ShloMosaic Idealize.ShloMosaic.TcCoe Cert.Reference6Ideal Cert.Reference6Ideal.Gen Cert.Norm Cert.Ffn

section
variable (a0 : FVec Ideal S8192x1024 .f32) (ag : FVec Ideal S1x1024 .f32) (a2 a3 : FVec Ideal S1024x2816 .bf16)
  (a4 : FVec Ideal S2816x1024 .bf16)

abbrev fh : Fin 8192 → Fin 1024 → EReal := fun s k => a0 (ix2 s k)
abbrev fgn : Fin 1024 → EReal := fun k => ag (ix2 (0 : Fin 1) k)
abbrev fw : Fin 1024 → Fin 2816 → EReal := fun k f => a2 (ix2 k f)
abbrev fo : Fin 2816 → Fin 1024 → EReal := fun f k => a4 (ix2 f k)

/-- The rows normalized. -/
def rn : FVec Ideal S8192x1024 .f32 :=
  mulf (mulf a0 (broadcastInDim S8192x1024 ![0, 1] bcast_S8192x1_S8192x1024_0_1 (Host.rsqrt (addf (Host.divf
    (broadcastInDim S8192x1 ![0] bcast_S8192_S8192x1_0 (Host.reduceAdd (mulf a0 a0) (constant (F := Ideal) S_ .f32 0x00000000#32)
      reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))))))
    (broadcastInDim S8192x1024 ![0, 1] bcast_S1x1024_S8192x1024_0_1 ag)

theorem rn_at (s : Fin 8192) (k : Fin 1024) : rn a0 ag (ix2 s k) = rms (fh a0) (fgn ag) s k := by
  pointwise [rn]; rfl

def rpre : FVec Ideal S8192x2816 .f32 :=
  Host.dotGeneral (F := Ideal) dot_S8192x1024_S1024x2816_S8192x2816_1_0_0_1_n_n none (rn a0 ag) (extf .f32 a2 bitsLt_bf16_f32)
def rone : FVec Ideal S8192x2816 .f32 := broadcastInDim S8192x2816 ![] bcast_S_S8192x2816 (constant (F := Ideal) S_ .f32 0x3F800000#32)
def rhid : FVec Ideal S8192x2816 .f32 :=
  mulf (mulf (rpre a0 ag a2) (Host.divf (F := Ideal) rone (addf rone (Host.exp (Host.negf (rpre a0 ag a2)))))) (rpre a0 ag a3)

theorem rpre_at (s : Fin 8192) (f : Fin 2816) : rpre a0 ag a2 (ix2 s f) = pre (rms (fh a0) (fgn ag)) (fw a2) s f := by
  pointwise [rpre]
  exact Finset.sum_congr rfl fun k _ => by rw [rn_at]
theorem rhid_at (s : Fin 8192) (f : Fin 2816) :
    rhid a0 ag a2 a3 (ix2 s f) = hid (rms (fh a0) (fgn ag)) (fw a2) (fw a3) s f := by
  pointwise [rhid, rone]; rw [rpre_at, rpre_at]; rfl

theorem out_eq : addf a0 (mulf (broadcastInDim S8192x1024 ![] bcast_S_S8192x1024 (constant (F := Ideal) S_ .f32 0x3F000000#32))
      (Host.dotGeneral (F := Ideal) dot_S8192x2816_S2816x1024_S8192x1024_1_0_0_1_n_n none (rhid a0 ag a2 a3) (extf .f32 a4 bitsLt_bf16_f32)))
    = fun j => fh a0 (j 0) (j 1) + half * ∑ f, hid (rms (fh a0) (fgn ag)) (fw a2) (fw a3) (j 0) f * fo a4 f (j 1) := by
  funext j; idx_vars j; pointwise
  rw [Finset.sum_congr rfl fun f _ => by rw [rhid_at]]; rfl
theorem n_eq : truncf (F := Ideal) .bf16 (rn a0 ag) bitsLt_bf16_f32 = fun j => rms (fh a0) (fgn ag) (j 0) (j 1) := by
  funext j; idx_vars j; pointwise
  exact rn_at _ _ _ _

end

end Cert.Reference6Ideal.FfnFwd

end
-- ==== Proof.FfnFwdEqual.lean ====
/- The feed-forward's call and the reference leave the same two arrays. -/
module

public import proofs.«01_k».proof.Proof.FfnFwdRun
public import proofs.«01_k».proof.Proof.FfnFwdRef
public import proofs.«01_k».proof.Defs

@[expose] public section

set_option maxRecDepth 16384

noncomputable section

namespace Cert.FfnFwd

open Idealize.ShloMosaic Idealize.ShloMosaic.TcCoe Idealize.SL.Sem Cert.Kernel6Ideal.FfnFwd

theorem algebraic : Cert.algebraic_Kernel6Ideal_Reference6Ideal := by
  pair_intro
  · run_from Cert.Kernel6Ideal.Value.run_blocks m g
  · refine θ_run_mono (Cert.Reference6Ideal.Value.run m' g') ?_
    intro r hr c
    obtain ⟨h0, h1, h2, h3, h4⟩ := hagree c
    obtain ⟨r0, r1, k⟩ := hr c
    refine ⟨r0.trans ?_, r1.trans ?_, k⟩
    · refine (Cert.Reference6Ideal.FfnFwd.out_eq _ _ _ _ _).trans ?_
      rw [h0, h1, h2, h3, h4]
      exact (final5 m c).symm
    · refine (Cert.Reference6Ideal.FfnFwd.n_eq _ _).trans ?_
      rw [h0, h1]
      exact (final6 m c).symm

end Cert.FfnFwd

end
-- ==== Proof.InprojFwdRun.lean ====
/- The two arrays the forward projection into the mixers leaves: a point normalizes a block of rows and multiplies it by a
   group of columns. -/
module

public import proofs.«01_k».proof.Proof.NormMath
public import proofs.«01_k».proof.Proof.Gen.Kernel7Ideal.Value
public import Idealize.ShloMosaic.Lib.Pipeline.ValueKit
public import Idealize.ShloMosaic.Lib.KernelVsHost

@[expose] public section

set_option maxRecDepth 16384

noncomputable section

namespace Cert.Kernel7Ideal.InprojFwd

open Idealize.ShloMosaic Idealize.ShloMosaic.TcCoe Cert.Kernel7Ideal Cert.Kernel7Ideal.Gen Cert.Norm
open Idealize.ShloMosaic.Pipeline (Dat)

section
variable (v0 : FVec Ideal S1024x1024 .f32) (v1 : FVec Ideal S1x1024 .f32) (v2 : FVec Ideal S1024x896 .bf16) (v3 : FVec Ideal S1x896 .f32)

/-- The blocks by row and channel. -/
abbrev bh : Fin 1024 → Fin 1024 → EReal := fun r k => v0 (ix2 r k)
abbrev bg : Fin 1024 → EReal := fun k => v1 (ix2 (0 : Fin 1) k)

theorem rms_at (r k : Fin 1024) : k0_pay1 (F := Ideal) v0 v1 (ix2 r k) = rms (bh v0) (bg v1) r k := by
  pointwise [k0_pay1]; rfl
theorem cast_at (r k : Fin 1024) : k0_pay3 (F := Ideal) v0 v1 (ix2 r k) = rms (bh v0) (bg v1) r k := by
  pointwise [k0_pay3]; exact rms_at _ _ _ _
theorem out_at (r : Fin 1024) (f : Fin 896) :
    k0_pay2 (F := Ideal) v0 v1 v2 v3 (ix2 r f) = (∑ k : Fin 1024, rms (bh v0) (bg v1) r k * v2 (ix2 k f)) + v3 (ix2 (0 : Fin 1) f) := by
  pointwise [k0_pay2]
  exact congrArg (· + _) (Finset.sum_congr rfl fun k _ => by rw [rms_at])

end

variable (m : (ℓ : Loc nD τ sig) → Buf (Elt Ideal) ℓ) (c : Dev nD)

abbrev H : Fin 8192 → Fin 1024 → EReal := fun s k => m ((c : Thread nD τ).loc main_arg0) (ix2 s k)
abbrev Gn : Fin 1024 → EReal := fun k => m ((c : Thread nD τ).loc main_arg1) (ix2 (0 : Fin 1) k)
abbrev W : Fin 1024 → Fin 5376 → EReal := fun k f => m ((c : Thread nD τ).loc main_arg2) (ix2 k f)

theorem idx : ∀ t : Fin cfg0.N, win0_0.index t = ![t.val / 6, 0] ∧ win0_1.index t = ![0, 0] ∧ win0_2.index t = ![0, t.val % 6]
    ∧ win0_3.index t = ![0, t.val % 6] ∧ win0_4.index t = ![t.val / 6, t.val % 6] ∧ win0_5.index t = ![t.val / 6, 0]
    ∧ t.val / 6 < 8 :=
  (by decide +kernel : ∀ t : Fin grid0.N, _)

/-- The row of the arguments at row `r` of point `t`'s blocks, and the column at column `f`. -/
abbrev row (t : Fin cfg0.N) (r : Fin 1024) : Fin 8192 := ⟨t.val / 6 * 1024 + r.val, by have := (idx t).2.2.2.2.2.2; omega⟩
abbrev col (t : Fin cfg0.N) (f : Fin 896) : Fin 5376 := ⟨t.val % 6 * 896 + f.val, by have := Nat.mod_lt t.val (by norm_num : 6 > 0); omega⟩

/-- The blocks a point reads. -/
abbrev b0 (t : Fin cfg0.N) : FVec Ideal S1024x1024 .f32 := iblk m c 0 t
abbrev b1 (t : Fin cfg0.N) : FVec Ideal S1x1024 .f32 := iblk m c 1 t
abbrev b2 (t : Fin cfg0.N) : FVec Ideal S1024x896 .bf16 := iblk m c 2 t
abbrev b3 (t : Fin cfg0.N) : FVec Ideal S1x896 .f32 := iblk m c 3 t

theorem rd0 (t : Fin cfg0.N) (r k : Fin 1024) : b0 m c t (ix2 r k) = H m c (row t r) k := by
  show iblk m c 0 t (ix2 r k) = m ((c : Thread nD τ).loc main_arg0) (ix2 (row t r) k)
  blk_ext [iblk, V, idx t]
theorem rd1 (t : Fin cfg0.N) (k : Fin 1024) : b1 m c t (ix2 (0 : Fin 1) k) = Gn m c k := by
  show iblk m c 1 t (ix2 (0 : Fin 1) k) = m ((c : Thread nD τ).loc main_arg1) (ix2 (0 : Fin 1) k)
  blk_ext [iblk, V, idx t]
theorem rd2 (t : Fin cfg0.N) (k : Fin 1024) (f : Fin 896) : b2 m c t (ix2 k f) = W m c k (col t f) := by
  show iblk m c 2 t (ix2 k f) = m ((c : Thread nD τ).loc main_arg2) (ix2 k (col t f))
  blk_ext [iblk, V, idx t]
/-- The bias is zero. -/
theorem rd3 (t : Fin cfg0.N) (f : Fin 896) : b3 m c t (ix2 (0 : Fin 1) f) = 0 := by
  show b3 m c t (ix2 (0 : Fin 1) f) = (0 : EReal)
  blk_simp [iblk, idx t]
  entry_read
  pointwise

theorem final4 : (dats m 0 c).arrAt 4 cfg0.N = fun j => ∑ k, rms (H m c) (Gn m c) (j 0) k * W m c k (j 1) := by
  refine (dats m 0 c).arrAt_eq_of_covers 4 _ (by decide +kernel) fun t hf y => ?_
  blk_simp
  idx_vars y
  have hj : ((View.whole main_v1_0).slice (win0_4.rect t)).emb (ix2 y0 y1) = ix2 (row t y0) (col t y1) := by blk_ext [idx t]
  rw [after0_4, hj]
  frame_out
  refine (out_at _ _ _ _ _ _).trans ?_
  refine (congrArg _ (rd3 m c t y1)).trans ((add_zero _).trans ?_)
  exact Finset.sum_congr rfl fun k _ => congrArg₂ (· * ·) (rms_congr (rd0 m c t y0) (rd1 m c t) k) (rd2 m c t k y1)

theorem final5 : (dats m 0 c).arrAt 5 cfg0.N = fun j => rms (H m c) (Gn m c) (j 0) (j 1) := by
  refine (dats m 0 c).arrAt_eq_of_covers 5 _ (by decide +kernel) fun t hf y => ?_
  blk_simp
  idx_vars y
  have hj : ((View.whole main_v1_1).slice (win0_5.rect t)).emb (ix2 y0 y1) = ix2 (row t y0) y1 := by blk_ext [idx t]
  rw [after0_5, hj]
  frame_out
  exact (cast_at _ _ _ _).trans (rms_congr (rd0 m c t y0) (rd1 m c t) y1)

end Cert.Kernel7Ideal.InprojFwd

end
-- ==== Proof.InprojFwdRef.lean ====
/- The reference's normalized rows and their projection, at a row and a column. -/
module

public import proofs.«01_k».proof.Proof.NormMath
public import proofs.«01_k».proof.Proof.Gen.Reference7Ideal.Run
public import Idealize.ShloMosaic.Lib.Pipeline.ValueKit
public import Idealize.ShloMosaic.Lib.KernelVsHost

@[expose] public section

set_option maxRecDepth 16384

noncomputable section

namespace Cert.Reference7Ideal.InprojFwd

open Idealize.ShloMosaic Idealize.ShloMosaic.TcCoe Cert.Reference7Ideal Cert.Reference7Ideal.Gen Cert.Norm

section
variable (a0 : FVec Ideal S8192x1024 .f32) (ag : FVec Ideal S1x1024 .f32) (a2 : FVec Ideal S1024x5376 .bf16)

abbrev fh : Fin 8192 → Fin 1024 → EReal := fun s k => a0 (ix2 s k)
abbrev fgn : Fin 1024 → EReal := fun k => ag (ix2 (0 : Fin 1) k)

/-- The rows normalized. -/
def rn : FVec Ideal S8192x1024 .f32 :=
  mulf (mulf a0 (broadcastInDim S8192x1024 ![0, 1] bcast_S8192x1_S8192x1024_0_1 (Host.rsqrt (addf (Host.divf
    (broadcastInDim S8192x1 ![0] bcast_S8192_S8192x1_0 (Host.reduceAdd (mulf a0 a0) (constant (F := Ideal) S_ .f32 0x00000000#32)
      reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))))))
    (broadcastInDim S8192x1024 ![0, 1] bcast_S1x1024_S8192x1024_0_1 ag)

theorem rn_at (s : Fin 8192) (k : Fin 1024) : rn a0 ag (ix2 s k) = rms (fh a0) (fgn ag) s k := by
  pointwise [rn]; rfl

theorem out_eq : Host.dotGeneral (F := Ideal) dot_S8192x1024_S1024x5376_S8192x5376_1_0_0_1_n_n none (rn a0 ag) (extf .f32 a2 bitsLt_bf16_f32)
    = fun j => ∑ k : Fin 1024, rms (fh a0) (fgn ag) (j 0) k * a2 (ix2 k (j 1)) := by
  funext j; idx_vars j; pointwise
  exact Finset.sum_congr rfl fun k _ => by rw [rn_at]
theorem u_eq : truncf (F := Ideal) .bf16 (rn a0 ag) bitsLt_bf16_f32 = fun j => rms (fh a0) (fgn ag) (j 0) (j 1) := by
  funext j; idx_vars j; pointwise
  exact rn_at _ _ _ _

end

end Cert.Reference7Ideal.InprojFwd

end
-- ==== Proof.InprojFwdEqual.lean ====
/- The forward projection into the mixers and the reference leave the same two arrays. -/
module

public import proofs.«01_k».proof.Proof.InprojFwdRun
public import proofs.«01_k».proof.Proof.InprojFwdRef
public import proofs.«01_k».proof.Defs

@[expose] public section

set_option maxRecDepth 16384

noncomputable section

namespace Cert.InprojFwd

open Idealize.ShloMosaic Idealize.ShloMosaic.TcCoe Idealize.SL.Sem Cert.Kernel7Ideal.InprojFwd

theorem algebraic : Cert.algebraic_Kernel7Ideal_Reference7Ideal := by
  pair_intro
  · run_from Cert.Kernel7Ideal.Value.run_blocks m g
  · refine θ_run_mono (Cert.Reference7Ideal.Value.run m' g') ?_
    intro r hr c
    obtain ⟨h0, h1, h2⟩ := hagree c
    obtain ⟨r0, r1, k⟩ := hr c
    refine ⟨r0.trans ?_, r1.trans ?_, k⟩
    · refine (Cert.Reference7Ideal.InprojFwd.out_eq _ _ _).trans ?_
      rw [h0, h1, h2]
      exact (final4 m c).symm
    · refine (Cert.Reference7Ideal.InprojFwd.u_eq _ _).trans ?_
      rw [h0, h1]
      exact (final5 m c).symm

end Cert.InprojFwd

end
-- ==== Proof.GateFwdRun.lean ====
/- The array the gates' forward call leaves: a point multiplies a block of rows by a mixer's gates. -/
module

public import proofs.«01_k».proof.Proof.Gen.Kernel8Ideal.Value
public import Idealize.ShloMosaic.Lib.Pipeline.ValueKit
public import Idealize.ShloMosaic.Lib.KernelVsHost

@[expose] public section

set_option maxRecDepth 16384

noncomputable section

namespace Cert.Kernel8Ideal.GateFwd

open Idealize.ShloMosaic Idealize.ShloMosaic.TcCoe Cert.Kernel8Ideal Cert.Kernel8Ideal.Gen
open Idealize.ShloMosaic.Pipeline (Dat)

theorem out_at (v0 v1 : FVec Ideal S1024x1024 .bf16) (v2 : FVec Ideal S1x1024 .f32) (r f : Fin 1024) :
    k0_pay1 (F := Ideal) v0 v1 v2 (ix2 r f) = (∑ k : Fin 1024, v0 (ix2 r k) * v1 (ix2 k f)) + v2 (ix2 (0 : Fin 1) f) := by
  pointwise [k0_pay1]

variable (m : (ℓ : Loc nD τ sig) → Buf (Elt Ideal) ℓ) (c : Dev nD)

abbrev U : Fin 8192 → Fin 1024 → EReal := fun s k => m ((c : Thread nD τ).loc main_arg0) (ix2 s k)
abbrev W : Fin 1024 → Fin 4096 → EReal := fun k f => m ((c : Thread nD τ).loc main_arg1) (ix2 k f)
abbrev B : Fin 4096 → EReal := fun f => m ((c : Thread nD τ).loc main_arg2) (ix2 (0 : Fin 1) f)

theorem idx : ∀ t : Fin cfg0.N, win0_0.index t = ![t.val / 4, 0] ∧ win0_1.index t = ![0, t.val % 4]
    ∧ win0_2.index t = ![0, t.val % 4] ∧ win0_3.index t = ![t.val / 4, t.val % 4] ∧ t.val / 4 < 8 :=
  (by decide +kernel : ∀ t : Fin grid0.N, _)

/-- The row of the arguments at row `r` of point `t`'s blocks, and the gate at gate `f`. -/
abbrev row (t : Fin cfg0.N) (r : Fin 1024) : Fin 8192 := ⟨t.val / 4 * 1024 + r.val, by have := (idx t).2.2.2.2; omega⟩
abbrev gate (t : Fin cfg0.N) (f : Fin 1024) : Fin 4096 := ⟨t.val % 4 * 1024 + f.val, by have := Nat.mod_lt t.val (by norm_num : 4 > 0); omega⟩

/-- The blocks a point reads. -/
abbrev b0 (t : Fin cfg0.N) : FVec Ideal S1024x1024 .bf16 := iblk m c 0 t
abbrev b1 (t : Fin cfg0.N) : FVec Ideal S1024x1024 .bf16 := iblk m c 1 t
abbrev b2 (t : Fin cfg0.N) : FVec Ideal S1x1024 .f32 := iblk m c 2 t

theorem rd0 (t : Fin cfg0.N) (r k : Fin 1024) : b0 m c t (ix2 r k) = U m c (row t r) k := by
  show iblk m c 0 t (ix2 r k) = m ((c : Thread nD τ).loc main_arg0) (ix2 (row t r) k)
  blk_ext [iblk, V, idx t]
theorem rd1 (t : Fin cfg0.N) (k f : Fin 1024) : b1 m c t (ix2 k f) = W m c k (gate t f) := by
  show iblk m c 1 t (ix2 k f) = m ((c : Thread nD τ).loc main_arg1) (ix2 k (gate t f))
  blk_ext [iblk, V, idx t]
theorem rd2 (t : Fin cfg0.N) (f : Fin 1024) : b2 m c t (ix2 (0 : Fin 1) f) = B m c (gate t f) := by
  show iblk m c 2 t (ix2 (0 : Fin 1) f) = m ((c : Thread nD τ).loc main_arg2) (ix2 (0 : Fin 1) (gate t f))
  blk_ext [iblk, V, idx t]

theorem final3 : (dats m 0 c).arrAt 3 cfg0.N = fun j => (∑ k, U m c (j 0) k * W m c k (j 1)) + B m c (j 1) := by
  refine (dats m 0 c).arrAt_eq_of_covers 3 _ (by decide +kernel) fun t hf y => ?_
  blk_simp
  idx_vars y
  have hj : ((View.whole main_v0).slice (win0_3.rect t)).emb (ix2 y0 y1) = ix2 (row t y0) (gate t y1) := by blk_ext [idx t]
  rw [after0_3, hj]
  frame_out
  refine (out_at _ _ _ _ _).trans ?_
  exact congrArg₂ (· + ·) (Finset.sum_congr rfl fun k _ => congrArg₂ (· * ·) (rd0 m c t y0 k) (rd1 m c t k y1)) (rd2 m c t y1)

end Cert.Kernel8Ideal.GateFwd

end
-- ==== Proof.GateFwdRef.lean ====
/- The reference's gates at a row and a gate. -/
module

public import proofs.«01_k».proof.Proof.Gen.Reference8Ideal.Run
public import Idealize.ShloMosaic.Lib.Pipeline.ValueKit
public import Idealize.ShloMosaic.Lib.KernelVsHost

@[expose] public section

set_option maxRecDepth 16384

noncomputable section

namespace Cert.Reference8Ideal.GateFwd

open Idealize.ShloMosaic Idealize.ShloMosaic.TcCoe Cert.Reference8Ideal Cert.Reference8Ideal.Gen

theorem out_eq (a0 : FVec Ideal S8192x1024 .bf16) (a1 : FVec Ideal S1024x4096 .bf16) (a2 : FVec Ideal S1x4096 .f32) :
    addf (Host.dotGeneral (F := Ideal) dot_S8192x1024_S1024x4096_S8192x4096_1_0_0_1_n_n none (extf .f32 a0 bitsLt_bf16_f32)
      (extf .f32 a1 bitsLt_bf16_f32)) (broadcastInDim S8192x4096 ![0, 1] bcast_S1x4096_S8192x4096_0_1 a2)
    = fun j => (∑ k : Fin 1024, a0 (ix2 (j 0) k) * a1 (ix2 k (j 1))) + a2 (ix2 (0 : Fin 1) (j 1)) := by
  funext j; idx_vars j; pointwise

end Cert.Reference8Ideal.GateFwd

end
-- ==== Proof.GateFwdEqual.lean ====
/- The gates' forward call and the reference leave the same array. -/
module

public import proofs.«01_k».proof.Proof.GateFwdRun
public import proofs.«01_k».proof.Proof.GateFwdRef
public import proofs.«01_k».proof.Defs

@[expose] public section

set_option maxRecDepth 16384

noncomputable section

namespace Cert.GateFwd

open Idealize.ShloMosaic Idealize.ShloMosaic.TcCoe Idealize.SL.Sem Cert.Kernel8Ideal.GateFwd

theorem algebraic : Cert.algebraic_Kernel8Ideal_Reference8Ideal := by
  pair_intro
  · run_from Cert.Kernel8Ideal.Value.run_blocks m g
  · refine θ_run_mono (Cert.Reference8Ideal.Value.run m' g') ?_
    intro r hr c
    obtain ⟨h0, h1, h2⟩ := hagree c
    obtain ⟨r0, k⟩ := hr c
    refine ⟨r0.trans ?_, k⟩
    · refine (Cert.Reference8Ideal.GateFwd.out_eq _ _ _).trans ?_
      rw [h0, h1, h2]
      exact (final3 m c).symm

end Cert.GateFwd

end
-- ==== Proof.MergeFwdRun.lean ====
/- The array the merge's call leaves: a run of four points adds up the branches' products over a block of rows. -/
module

public import proofs.«01_k».proof.Proof.MergeMath
public import proofs.«01_k».proof.Proof.Gen.Kernel9Ideal.Value
public import Idealize.ShloMosaic.Lib.Pipeline.ValueKit
public import Idealize.ShloMosaic.Lib.KernelVsHost

@[expose] public section

set_option maxRecDepth 16384

noncomputable section

namespace Cert.Kernel9Ideal.MergeFwd

open Idealize.ShloMosaic Idealize.ShloMosaic.TcCoe Cert.Kernel9Ideal Cert.Kernel9Ideal.Gen Cert.Merge
open Idealize.ShloMosaic.Pipeline (Dat)

section
variable (v0 : FVec Ideal S512x1024 .f32) (v1 : FVec Ideal S512x512 .f32) (v2 : FVec Ideal S512x1024 .f32)
  (v3 : FVec Ideal S1x512x1024 .bf16) (v5 : FVec Ideal S1024x1024 .bf16)

/-- The blocks by row and channel. -/
abbrev bh : Fin 512 → Fin 1024 → EReal := fun r k => v0 (ix2 r k)
abbrev by' : Fin 512 → Fin 512 → EReal := fun r k => v1 (ix2 r k)
abbrev bw : Fin 512 → Fin 1024 → EReal := fun k d => v3 (ix3 (0 : Fin 1) k d)
abbrev bo : Fin 1024 → Fin 1024 → EReal := fun d k => v5 (ix2 d k)

/-- A point's product with the output weights. -/
def part (r : Fin 512) (k : Fin 1024) : EReal := ∑ d, gated (bh v2) (by' v1) (bw v3) r d * bo v5 d k

/-- The one that adds the residual at a row's first point, the zero at the others. -/
def first (i : grid0.Coords) : EReal :=
  Scalar.sitofp (F := Ideal) .f32 (Scalar.extui (Scalar.cmpi .eq (BitVec.ofNat 32 (i 1).val) 0#32) : BitVec 32)

theorem out_at (i : grid0.Coords) (r : Fin 512) (k : Fin 1024) :
    k0_pay1 (F := Ideal) i v0 v1 v2 v3 v5 (ix2 r k) = part v1 v2 v3 v5 r k + first i * bh v0 r k := by
  pointwise [k0_pay1]; rfl
theorem acc_at (i : grid0.Coords) (a : FVec Ideal S512x1024 .f32) (r : Fin 512) (k : Fin 1024) :
    k0_pay2 (F := Ideal) i v0 v1 v2 v3 v5 a (ix2 r k) = a (ix2 r k) + (part v1 v2 v3 v5 r k + first i * bh v0 r k) := by
  rw [← out_at]
  pointwise [k0_pay2]

end

theorem coord : ∀ t : Fin cfg0.N, (grid0.coords t 1).val = t.val % 4 := (by decide +kernel : ∀ t : Fin grid0.N, _)
theorem first_A (t : Fin cfg0.N) (h : t.val % 4 = 0) : first (grid0.coords t) = 1 := by
  unfold first; rw [coord, h]
  show (((1#32 : BitVec 32).toInt : ℝ) : EReal) = 1
  norm_num
theorem first_B (t : Fin cfg0.N) (h : ¬ t.val % 4 = 0) : first (grid0.coords t) = 0 := by
  unfold first; rw [coord]
  have : t.val % 4 = 1 ∨ t.val % 4 = 2 ∨ t.val % 4 = 3 := by omega
  rcases this with h | h | h <;> rw [h] <;> show (((0#32 : BitVec 32).toInt : ℝ) : EReal) = 0 <;> norm_num

variable (m : (ℓ : Loc nD τ sig) → Buf (Elt Ideal) ℓ) (c : Dev nD)

abbrev H : Fin 8192 → Fin 1024 → EReal := fun s k => m ((c : Thread nD τ).loc main_arg0) (ix2 s k)
abbrev Y (n : Fin 4) : Fin 8192 → Fin 512 → EReal := fun s k => m ((c : Thread nD τ).loc main_arg1) (ix2 s (chan n k))
abbrev P (n : Fin 4) : Fin 8192 → Fin 1024 → EReal := fun s d => m ((c : Thread nD τ).loc main_arg2) (ix2 s (gate n d))
abbrev B (n : Fin 4) : Fin 512 → Fin 1024 → EReal := fun k d => m ((c : Thread nD τ).loc main_arg3) (ix3 n k d)
abbrev O : Fin 1024 → Fin 1024 → EReal := fun d k => m ((c : Thread nD τ).loc main_arg4) (ix2 d k)

theorem idx : ∀ t : Fin cfg0.N, win0_0.index t = ![t.val / 4, 0] ∧ win0_1.index t = ![t.val / 4, t.val % 4]
    ∧ win0_2.index t = ![t.val / 4, t.val % 4] ∧ win0_3.index t = ![t.val % 4, 0, 0] ∧ win0_4.index t = ![0, 0]
    ∧ win0_5.index t = ![t.val / 4, 0] ∧ t.val / 4 < 16 :=
  (by decide +kernel : ∀ t : Fin grid0.N, _)

/-- The row of the arguments at row `r` of point `t`'s blocks, and the point's branch. -/
abbrev row (t : Fin cfg0.N) (r : Fin 512) : Fin 8192 := ⟨t.val / 4 * 512 + r.val, by have := (idx t).2.2.2.2.2.2; omega⟩
abbrev br (t : Fin cfg0.N) : Fin 4 := ⟨t.val % 4, Nat.mod_lt _ (by norm_num)⟩

theorem rd0 (t : Fin cfg0.N) (r : Fin 512) (k : Fin 1024) : bh (iblk m c 0 t) r k = H m c (row t r) k := by
  show iblk m c 0 t (ix2 r k) = m ((c : Thread nD τ).loc main_arg0) (ix2 (row t r) k)
  blk_ext [iblk, V, idx t]
theorem rd1 (t : Fin cfg0.N) (r : Fin 512) (k : Fin 512) : by' (iblk m c 1 t) r k = Y m c (br t) (row t r) k := by
  show iblk m c 1 t (ix2 r k) = m ((c : Thread nD τ).loc main_arg1) (ix2 (row t r) (chan (br t) k))
  blk_ext [iblk, V, idx t]
theorem rd2 (t : Fin cfg0.N) (r : Fin 512) (d : Fin 1024) : bh (iblk m c 2 t) r d = P m c (br t) (row t r) d := by
  show iblk m c 2 t (ix2 r d) = m ((c : Thread nD τ).loc main_arg2) (ix2 (row t r) (gate (br t) d))
  blk_ext [iblk, V, idx t]
theorem rd3 (t : Fin cfg0.N) (k : Fin 512) (d : Fin 1024) : bw (iblk m c 3 t) k d = B m c (br t) k d := by
  show iblk m c 3 t (ix3 (0 : Fin 1) k d) = m ((c : Thread nD τ).loc main_arg3) (ix3 (br t) k d)
  blk_ext [iblk, V, idx t]
theorem rd4 (t : Fin cfg0.N) (d k : Fin 1024) : bo (iblk m c 4 t) d k = O m c d k := by
  show iblk m c 4 t (ix2 d k) = m ((c : Thread nD τ).loc main_arg4) (ix2 d k)
  blk_ext [iblk, V, idx t]

/-- A branch's product at a row, and what a point adds. -/
abbrev prod (n : Fin 4) (s : Fin 8192) (k : Fin 1024) : EReal :=
  ∑ d, gated (P m c n) (Y m c n) (B m c n) s d * O m c d k
abbrev term (p : Fin cfg0.N) (r : Fin 512) (k : Fin 1024) : EReal :=
  part (iblk m c 1 p) (iblk m c 2 p) (iblk m c 3 p) (iblk m c 4 p) r k + first (grid0.coords p) * bh (iblk m c 0 p) r k

theorem term_eq (t : Fin cfg0.N) (r : Fin 512) (k : Fin 1024) :
    term m c t r k = prod m c (br t) (row t r) k + first (grid0.coords t) * H m c (row t r) k :=
  congrArg₂ (· + ·) (Finset.sum_congr rfl fun d _ => congrArg₂ (· * ·) (gated_congr (rd2 m c t r) (rd1 m c t r) (rd3 m c t) d) (rd4 m c t d k))
    (congrArg (_ * ·) (rd0 m c t r k))

/-- A run of four points stays at a block of rows and walks the branches. -/
theorem run_eq (t : Fin cfg0.N) (s : Fin 4) (h : 4 * (t.val / 4) + s.val < cfg0.N) (r : Fin 512) (k : Fin 1024) :
    term m c ⟨4 * (t.val / 4) + s.val, h⟩ r k
      = prod m c s (row t r) k + first (grid0.coords ⟨4 * (t.val / 4) + s.val, h⟩) * H m c (row t r) k := by
  rw [term_eq]
  have e0 : row ⟨4 * (t.val / 4) + s.val, h⟩ r = row t r :=
    Fin.ext (by show (4 * (t.val / 4) + s.val) / 4 * 512 + r.val = t.val / 4 * 512 + r.val; omega)
  have e1 : br ⟨4 * (t.val / 4) + s.val, h⟩ = s := Fin.ext (by show (4 * (t.val / 4) + s.val) % 4 = s.val; omega)
  rw [e0, e1]

theorem final5 : (dats m 0 c).arrAt 5 cfg0.N = fun j => H m c (j 0) (j 1) + ∑ n, prod m c n (j 0) (j 1) := by
  refine (dats m 0 c).arrAt_eq_of_covers 5 _ (by decide +kernel) fun t hf y => ?_
  blk_simp
  idx_vars y
  rw [after0_5, Pipeline.eq_sum_fin_of_reset_step_apply_of_flush (fun n h => outsAt0 m c n h) 4 (fun _ => 0)
    (fun p j => term m c p (j 0) (j 1))
    (fun t h j => by
      have h' : ¬ 1 ≤ t.val % 4 := by omega
      rw [outsAt0_A m c t h h']; frame_out; idx_vars j
      exact (out_at _ _ _ _ _ _ _ _).trans (zero_add _).symm)
    (fun t h j => by
      have h' : 1 ≤ t.val % 4 := by omega
      rw [outsAt0_B m c t h h']; frame_out; idx_vars j
      exact acc_at _ _ _ _ _ _ _ _ _) t ((flush0_5 t).mp hf) _, zero_add]
  have hj : ((View.whole main_v0).slice (win0_5.rect t)).emb (ix2 y0 y1) = ix2 (row t y0) y1 := by blk_ext [idx t]
  rw [hj]
  show ∑ s : Fin 4, term m c ⟨4 * (t.val / 4) + s.val, _⟩ y0 y1 = H m c (row t y0) y1 + ∑ n, prod m c n (row t y0) y1
  rw [Finset.sum_congr rfl fun s _ => run_eq m c t s _ y0 y1, Finset.sum_add_distrib, add_comm]
  refine congrArg (· + _) ?_
  rw [Fin.sum_univ_four, first_A _ (by show (4 * (t.val / 4) + 0) % 4 = 0; omega),
    first_B _ (by show ¬ (4 * (t.val / 4) + 1) % 4 = 0; omega), first_B _ (by show ¬ (4 * (t.val / 4) + 2) % 4 = 0; omega),
    first_B _ (by show ¬ (4 * (t.val / 4) + 3) % 4 = 0; omega)]
  simp only [one_mul, zero_mul, add_zero]

end Cert.Kernel9Ideal.MergeFwd

end
-- ==== Proof.MergeFwdRef.lean ====
/- The reference's merge at a row and a channel. -/
module

public import proofs.«01_k».proof.Proof.MergeMath
public import proofs.«01_k».proof.Proof.Gen.Reference9Ideal.Run
public import Idealize.ShloMosaic.Lib.Pipeline.ValueKit
public import Idealize.ShloMosaic.Lib.KernelVsHost

@[expose] public section

set_option maxRecDepth 16384

noncomputable section

namespace Cert.Reference9Ideal.MergeFwd

open Idealize.ShloMosaic Idealize.ShloMosaic.TcCoe Cert.Reference9Ideal Cert.Reference9Ideal.Gen Cert.Merge

section
variable (a0 : FVec Ideal S8192x1024 .f32) (a1 : FVec Ideal S8192x2048 .f32) (a2 : FVec Ideal S8192x4096 .f32)
  (a3 : FVec Ideal S4x512x1024 .bf16) (a4 : FVec Ideal S1024x1024 .bf16)

/-- The arguments by row, branch and channel. -/
abbrev fy (n : Fin 4) : Fin 8192 → Fin 512 → EReal := fun s k => a1 (ix2 s (chan n k))
abbrev fp (n : Fin 4) : Fin 8192 → Fin 1024 → EReal := fun s d => a2 (ix2 s (gate n d))
abbrev fb (n : Fin 4) : Fin 512 → Fin 1024 → EReal := fun k d => a3 (ix3 n k d)
abbrev fo : Fin 1024 → Fin 1024 → EReal := fun d k => a4 (ix2 d k)

def one : FVec Ideal S8192x4096 .f32 := broadcastInDim S8192x4096 ![] bcast_S_S8192x4096 (constant (F := Ideal) S_ .f32 0x3F800000#32)
/-- The gates, and by branch. -/
def sg : FVec Ideal S8192x4096 .f32 := Host.divf (F := Ideal) one (addf one (Host.exp (Host.negf a2)))
def sg3 : FVec Ideal S8192x4x1024 .f32 := shapeCast _ (sg a2) shapeCasts_S8192x4096_S8192x4x1024
/-- The branches brought up to the trunk's channels. -/
def yb3 : FVec Ideal S8192x4x1024 .f32 :=
  transpose S8192x4x1024 [2, 0, 1] (Host.dotGeneral (F := Ideal) dot_S4x512x1024_S8192x4x512_S4x1024x8192_1_2_2_0_0_1 none
    (extf .f32 a3 bitsLt_bf16_f32) (shapeCast _ a1 shapeCasts_S8192x2048_S8192x4x512)) transposes_S4x1024x8192_S8192x4x1024_2_0_1

theorem sg_at (s : Fin 8192) (f : Fin 4096) : sg a2 (ix2 s f) = Ideal.logistic (a2 (ix2 s f)) := by
  pointwise [sg, one]; rfl
theorem sg3_at (s : Fin 8192) (n : Fin 4) (d : Fin 1024) : sg3 a2 (ix3 s n d) = Ideal.logistic (fp a2 n s d) := by
  pointwise [sg3]; exact sg_at _ _ _
theorem yb3_at (s : Fin 8192) (n : Fin 4) (d : Fin 1024) : yb3 a1 a3 (ix3 s n d) = lift (fy a1 n) (fb a3 n) s d := by
  pointwise [yb3]
  exact Finset.sum_congr rfl fun k _ => mul_comm _ _

theorem out_eq : addf a0 (Host.dotGeneral (F := Ideal) dot_S8192x1024_S1024x1024_S8192x1024_1_0_0_1_n_n none
      (Host.dotGeneral (F := Ideal) dot_S8192x4x1024_S8192x4x1024_S8192x1024_1_1_n_n_02_02 none (sg3 a2) (yb3 a1 a3))
      (extf .f32 a4 bitsLt_bf16_f32))
    = fun j => a0 (ix2 (j 0) (j 1)) + ∑ d, (∑ n, gated (fp a2 n) (fy a1 n) (fb a3 n) (j 0) d) * fo a4 d (j 1) := by
  funext j; idx_vars j; pointwise
  refine congrArg (_ + ·) (Finset.sum_congr rfl fun d _ => congrArg (· * _) (Finset.sum_congr rfl fun n _ => ?_))
  rw [sg3_at, yb3_at]; rfl

end

end Cert.Reference9Ideal.MergeFwd

end
-- ==== Proof.MergeFwdEqual.lean ====
/- The merge's call and the reference leave the same array where the branches and the weights are finite. -/
module

public import proofs.«01_k».proof.Proof.MergeFwdRun
public import proofs.«01_k».proof.Proof.MergeFwdRef
public import proofs.«01_k».proof.Proof.Gen.Pre_finite9
public import proofs.«01_k».proof.Defs

@[expose] public section

set_option maxRecDepth 16384

noncomputable section

namespace Cert.MergeFwd

open Idealize.ShloMosaic Idealize.ShloMosaic.TcCoe Idealize.SL.Sem Cert.Kernel9Ideal.MergeFwd Cert.Merge

section
variable {m : (ℓ : Loc Cert.Kernel9Ideal.nD Cert.Kernel9Ideal.τ Cert.Kernel9Ideal.sig) → Buf (Elt Ideal) ℓ}
  (h : Cert.Pre_Kernel9Ideal_finite9 m) (c : Dev Cert.Kernel9Ideal.nD)
include h

theorem real_y (n : Fin 4) (s : Fin 8192) (k : Fin 512) : IsReal (Y m c n s k) :=
  real_of_lt (congrFun (h c).1 (ix2 s (chan n k)))
theorem real_b (n : Fin 4) (k : Fin 512) (d : Fin 1024) : IsReal (B m c n k d) :=
  real_of_lt (congrFun (h c).2.1 (ix3 n k d))
theorem real_o (d k : Fin 1024) : IsReal (O m c d k) :=
  real_of_lt (congrFun (h c).2.2 (ix2 d k))

end

theorem algebraic : Cert.algebraic_Kernel9Ideal_Reference9Ideal_pre_finite9 := by
  pair_intro
  · run_from Cert.Kernel9Ideal.Value.run_blocks m g
  · refine θ_run_mono (Cert.Reference9Ideal.Value.run m' g') ?_
    intro r hr c
    obtain ⟨h0, h1, h2, h3, h4⟩ := hagree c
    obtain ⟨r0, k⟩ := hr c
    refine ⟨r0.trans ?_, k⟩
    refine (Cert.Reference9Ideal.MergeFwd.out_eq _ _ _ _ _).trans ?_
    rw [h0, h1, h2, h3, h4]
    refine Eq.trans ?_ (final5 m c).symm
    funext j
    exact congrArg (fun z : EReal => H m c (j 0) (j 1) + z) (sum_branches (fun n d => real_gated (real_y hpre c n) (real_b hpre c n) _ d) fun d => real_o hpre c d _).symm

end Cert.MergeFwd

end
-- ==== Proof.PleFwdRun.lean ====
/- The array the embedding's forward call leaves, a block of rows at a point. -/
module

public import proofs.«01_k».proof.Proof.PleMath
public import proofs.«01_k».proof.Proof.Gen.Kernel10Ideal.Value
public import Idealize.ShloMosaic.Lib.Pipeline.ValueKit
public import Idealize.ShloMosaic.Lib.KernelVsHost

@[expose] public section

set_option maxRecDepth 16384

noncomputable section

namespace Cert.Kernel10Ideal.PleFwd

open Idealize.ShloMosaic Idealize.ShloMosaic.TcCoe Cert.Kernel10Ideal Cert.Kernel10Ideal.Gen Cert.Norm Cert.Ple
open Idealize.ShloMosaic.Pipeline (Dat)

section
variable (v0 : FVec Ideal S512x1024 .f32) (v1 : FVec Ideal S512x256 .f32) (v2 : FVec Ideal S1x1024 .f32)
  (v3 : FVec Ideal S1024x1024 .bf16) (v4 : FVec Ideal S256x1024 .bf16)

/-- The blocks by row and channel. -/
abbrev bh : Fin 512 → Fin 1024 → EReal := fun r k => v0 (ix2 r k)
abbrev bp : Fin 512 → Fin 256 → EReal := fun r k => v1 (ix2 r k)
abbrev bg : Fin 1024 → EReal := fun k => v2 (ix2 (0 : Fin 1) k)
abbrev bw : Fin 1024 → Fin 1024 → EReal := fun k f => v3 (ix2 k f)
abbrev bq : Fin 256 → Fin 1024 → EReal := fun k f => v4 (ix2 k f)

theorem out_at (r : Fin 512) (f : Fin 1024) : k0_pay1 (F := Ideal) v0 v1 v2 v3 v4 (ix2 r f)
    = pgate (bh v0) (bg v2) (bw v3) r f * proj (bp v1) (bq v4) r f + bh v0 r f := by
  pointwise [k0_pay1]; rfl

end

variable (m : (ℓ : Loc nD τ sig) → Buf (Elt Ideal) ℓ) (c : Dev nD)

abbrev H : Fin 8192 → Fin 1024 → EReal := fun s k => m ((c : Thread nD τ).loc main_arg0) (ix2 s k)
abbrev E : Fin 8192 → Fin 256 → EReal := fun s k => m ((c : Thread nD τ).loc main_arg1) (ix2 s k)
abbrev Gn : Fin 1024 → EReal := fun k => m ((c : Thread nD τ).loc main_arg2) (ix2 (0 : Fin 1) k)
abbrev W : Fin 1024 → Fin 1024 → EReal := fun k f => m ((c : Thread nD τ).loc main_arg3) (ix2 k f)
abbrev Q : Fin 256 → Fin 1024 → EReal := fun k f => m ((c : Thread nD τ).loc main_arg4) (ix2 k f)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ t.val < 16 :=
  (by decide +kernel : ∀ t : Fin grid0.N, _)

/-- The row of the arguments at row `r` of point `t`'s blocks. -/
abbrev row (t : Fin cfg0.N) (r : Fin 512) : Fin 8192 := ⟨t.val * 512 + r.val, by have := (idx t).2.2.2.2.2.2; omega⟩

theorem rd0 (t : Fin cfg0.N) (r : Fin 512) (k : Fin 1024) : bh (iblk m c 0 t) r k = H m c (row t r) k := by
  show iblk m c 0 t (ix2 r k) = m ((c : Thread nD τ).loc main_arg0) (ix2 (row t r) k)
  blk_ext [iblk, V, idx t]
theorem rd1 (t : Fin cfg0.N) (r : Fin 512) (k : Fin 256) : bp (iblk m c 1 t) r k = E m c (row t r) k := by
  show iblk m c 1 t (ix2 r k) = m ((c : Thread nD τ).loc main_arg1) (ix2 (row t r) k)
  blk_ext [iblk, V, idx t]
theorem rd2 (t : Fin cfg0.N) (k : Fin 1024) : bg (iblk m c 2 t) k = Gn m c k := by
  show iblk m c 2 t (ix2 (0 : Fin 1) k) = m ((c : Thread nD τ).loc main_arg2) (ix2 (0 : Fin 1) k)
  blk_ext [iblk, V, idx t]
theorem rd3 (t : Fin cfg0.N) (k f : Fin 1024) : bw (iblk m c 3 t) k f = W m c k f := by
  show iblk m c 3 t (ix2 k f) = m ((c : Thread nD τ).loc main_arg3) (ix2 k f)
  blk_ext [iblk, V, idx t]
theorem rd4 (t : Fin cfg0.N) (k : Fin 256) (f : Fin 1024) : bq (iblk m c 4 t) k f = Q m c k f := by
  show iblk m c 4 t (ix2 k f) = m ((c : Thread nD τ).loc main_arg4) (ix2 k f)
  blk_ext [iblk, V, idx t]

theorem final5 : (dats m 0 c).arrAt 5 cfg0.N
    = fun j => H m c (j 0) (j 1) + pgate (H m c) (Gn m c) (W m c) (j 0) (j 1) * proj (E m c) (Q m c) (j 0) (j 1) := by
  refine (dats m 0 c).arrAt_eq_of_covers 5 _ (by decide +kernel) fun t hf y => ?_
  blk_simp
  idx_vars y
  have hj : ((View.whole main_v0).slice (win0_5.rect t)).emb (ix2 y0 y1) = ix2 (row t y0) y1 := by blk_ext [idx t]
  rw [after0_5, hj]
  frame_out
  refine (out_at _ _ _ _ _ _ _).trans ((add_comm _ _).trans ?_)
  exact congrArg₂ (· + ·) (rd0 m c t y0 y1) (congrArg₂ (· * ·) (pgate_congr (rd0 m c t y0) (rd2 m c t) (rd3 m c t) y1)
    (proj_congr (rd1 m c t y0) (rd4 m c t) y1))

end Cert.Kernel10Ideal.PleFwd

end
-- ==== Proof.PleFwdRef.lean ====
/- The reference's embedding at a row and a channel. -/
module

public import proofs.«01_k».proof.Proof.PleMath
public import proofs.«01_k».proof.Proof.Gen.Reference10Ideal.Run
public import Idealize.ShloMosaic.Lib.Pipeline.ValueKit
public import Idealize.ShloMosaic.Lib.KernelVsHost

@[expose] public section

set_option maxRecDepth 16384

noncomputable section

namespace Cert.Reference10Ideal.PleFwd

open Idealize.ShloMosaic Idealize.ShloMosaic.TcCoe Cert.Reference10Ideal Cert.Reference10Ideal.Gen Cert.Norm Cert.Ple

section
variable (a0 : FVec Ideal S8192x1024 .f32) (a1 : FVec Ideal S8192x256 .f32) (ag : FVec Ideal S1x1024 .f32)
  (a3 : FVec Ideal S1024x1024 .bf16) (a4 : FVec Ideal S256x1024 .bf16)

abbrev fh : Fin 8192 → Fin 1024 → EReal := fun s k => a0 (ix2 s k)
abbrev fp : Fin 8192 → Fin 256 → EReal := fun s k => a1 (ix2 s k)
abbrev fgn : Fin 1024 → EReal := fun k => ag (ix2 (0 : Fin 1) k)
abbrev fw : Fin 1024 → Fin 1024 → EReal := fun k f => a3 (ix2 k f)
abbrev fq : Fin 256 → Fin 1024 → EReal := fun k f => a4 (ix2 k f)

/-- The rows normalized. -/
def rn : FVec Ideal S8192x1024 .f32 :=
  mulf (mulf a0 (broadcastInDim S8192x1024 ![0, 1] bcast_S8192x1_S8192x1024_0_1 (Host.rsqrt (addf (Host.divf
    (broadcastInDim S8192x1 ![0] bcast_S8192_S8192x1_0 (Host.reduceAdd (mulf a0 a0) (constant (F := Ideal) S_ .f32 0x00000000#32)
      reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))))))
    (broadcastInDim S8192x1024 ![0, 1] bcast_S1x1024_S8192x1024_0_1 ag)

theorem rn_at (s : Fin 8192) (k : Fin 1024) : rn a0 ag (ix2 s k) = rms (fh a0) (fgn ag) s k := by
  pointwise [rn]; rfl

def rone : FVec Ideal S8192x1024 .f32 := broadcastInDim S8192x1024 ![] bcast_S_S8192x1024 (constant (F := Ideal) S_ .f32 0x3F800000#32)
def rsig : FVec Ideal S8192x1024 .f32 :=
  Host.divf (F := Ideal) rone (addf rone (Host.exp (Host.negf (Host.dotGeneral (F := Ideal)
    dot_S8192x1024_S1024x1024_S8192x1024_1_0_0_1_n_n none (rn a0 ag) (extf .f32 a3 bitsLt_bf16_f32)))))

theorem rsig_at (s : Fin 8192) (f : Fin 1024) : rsig a0 ag a3 (ix2 s f) = pgate (fh a0) (fgn ag) (fw a3) s f := by
  pointwise [rsig, rone]
  rw [Finset.sum_congr rfl fun k _ => by rw [rn_at]]
  rfl

theorem out_eq : addf a0 (mulf (rsig a0 ag a3) (Host.dotGeneral (F := Ideal) dot_S8192x256_S256x1024_S8192x1024_1_0_0_1_n_n none a1
      (extf .f32 a4 bitsLt_bf16_f32)))
    = fun j => fh a0 (j 0) (j 1) + pgate (fh a0) (fgn ag) (fw a3) (j 0) (j 1) * proj (fp a1) (fq a4) (j 0) (j 1) := by
  funext j; idx_vars j; pointwise
  rw [rsig_at]; rfl

end

end Cert.Reference10Ideal.PleFwd

end
-- ==== Proof.PleFwdEqual.lean ====
/- The embedding's forward call and the reference leave the same array. -/
module

public import proofs.«01_k».proof.Proof.PleFwdRun
public import proofs.«01_k».proof.Proof.PleFwdRef
public import proofs.«01_k».proof.Defs

@[expose] public section

set_option maxRecDepth 16384

noncomputable section

namespace Cert.PleFwd

open Idealize.ShloMosaic Idealize.ShloMosaic.TcCoe Idealize.SL.Sem Cert.Kernel10Ideal.PleFwd

theorem algebraic : Cert.algebraic_Kernel10Ideal_Reference10Ideal := by
  pair_intro
  · run_from Cert.Kernel10Ideal.Value.run_blocks m g
  · refine θ_run_mono (Cert.Reference10Ideal.Value.run m' g') ?_
    intro r hr c
    obtain ⟨h0, h1, h2, h3, h4⟩ := hagree c
    obtain ⟨r0, k⟩ := hr c
    refine ⟨r0.trans ?_, k⟩
    · refine (Cert.Reference10Ideal.PleFwd.out_eq _ _ _ _ _).trans ?_
      rw [h0, h1, h2, h3, h4]
      exact (final5 m c).symm

end Cert.PleFwd

end
-- ==== Proof.NormGrad.lean ====
/- The gradients of a row's normalization, over any kind of rows. -/
module

public import proofs.«01_k».proof.Proof.NormMath

@[expose] public section

noncomputable section

namespace Cert.NormGrad

open Idealize.ShloMosaic Cert.Norm

/-- The rows, the scale, what the rows' gradient is added to, and the gradient of the normalized rows. -/
structure Args (R : Type) where
  h : R → Fin 1024 → EReal
  g : Fin 1024 → EReal
  base : R → Fin 1024 → EReal
  dn : R → Fin 1024 → EReal

/-- Two readings agree at a row of each. -/
structure Same {R R' : Type} (a : Args R) (b : Args R') (r : R) (r' : R') : Prop where
  h : ∀ k, a.h r k = b.h r' k
  g : ∀ k, a.g k = b.g k
  base : ∀ k, a.base r k = b.base r' k
  dn : ∀ k, a.dn r k = b.dn r' k

variable {R R' : Type} (a : Args R) (r : R)

/-- The gradient through the row's mean square. -/
def dvar : EReal :=
  Ideal.div ((∑ k, a.h r k * (a.dn r k * a.g k))
    * (Ideal.ofBits .f32 0xBF000000#32 * Ideal.div (Ideal.rsqrt (var a.h r)) (var a.h r))) (Ideal.ofBits .f32 0x44800000#32)
/-- The gradient at the row, that gradient added to what it is added to, and a row's term of the scale's gradient. -/
def dx (k : Fin 1024) : EReal :=
  a.dn r k * a.g k * Ideal.rsqrt (var a.h r) + a.h r k * dvar a r + dvar a r * a.h r k
def dh (k : Fin 1024) : EReal := a.base r k + dx a r k
def dgt (k : Fin 1024) : EReal := a.h r k * Ideal.rsqrt (var a.h r) * a.dn r k

section
variable {a} {b : Args R'} {r} {r' : R'} (e : Same a b r r')
include e

theorem Same.dvar : dvar a r = dvar b r' := by
  unfold NormGrad.dvar
  rw [Finset.sum_congr rfl fun k _ => by rw [e.h, e.dn, e.g], var_congr e.h]
theorem Same.dx (k : Fin 1024) : dx a r k = dx b r' k := by
  unfold NormGrad.dx; rw [e.dn, e.g, e.h, e.dvar, var_congr e.h]
theorem Same.dh (k : Fin 1024) : dh a r k = dh b r' k := by
  unfold NormGrad.dh; rw [e.base, e.dx]
theorem Same.dgt (k : Fin 1024) : dgt a r k = dgt b r' k := by
  unfold NormGrad.dgt; rw [e.dn, e.h, var_congr e.h]

end

end Cert.NormGrad

end
-- ==== Proof.FfnNormRun.lean ====
/- The two arrays the backward call of the feed-forward's norm leaves: a point adds up a block of rows' addends, and the sixteen points
   add up the scale's gradient. -/
module

public import proofs.«01_k».proof.Proof.NormGrad
public import proofs.«01_k».proof.Proof.Gen.Kernel11Ideal.Value
public import Idealize.ShloMosaic.Lib.Pipeline.ValueKit
public import Idealize.ShloMosaic.Lib.KernelVsHost

@[expose] public section

set_option maxRecDepth 16384

noncomputable section

namespace Cert.Kernel11Ideal.FfnNorm

open Idealize.ShloMosaic Idealize.ShloMosaic.TcCoe Cert.Kernel11Ideal Cert.Kernel11Ideal.Gen Cert.Norm Cert.NormGrad
open Idealize.ShloMosaic.Pipeline (Dat)

/-! ## One grid point -/

section
variable (v0 : FVec Ideal S512x1024 .f32) (v1 : FVec Ideal S1x1024 .f32) (v2 : FVec Ideal S512x1024 .f32)
  (x0 x1 x2 x3 x4 x5 x6 x7 x8 x9 : FVec Ideal S512x1024 .bf16) (x10 : FVec Ideal S1x512x1024 .bf16)

/-- The blocks by row and channel, the addends added up. -/
abbrev blk : Args (Fin 512) where
  h r k := v0 (ix2 r k)
  g k := v1 (ix2 (0 : Fin 1) k)
  base r k := v2 (ix2 r k)
  dn r k := k0_pay13 (F := Ideal) x0 x1 x2 x3 x4 x5 x6 x7 x8 x9 x10 (ix2 r k)

theorem var_at (r : Fin 512) : k0_pay14 (F := Ideal) v0 (ix2 r (0 : Fin 1)) = var (fun r k => v0 (ix2 r k)) r := by
  pointwise [k0_pay14]; rfl
theorem rs_at (r : Fin 512) : k0_pay15 (F := Ideal) v0 (ix2 r (0 : Fin 1)) = Ideal.rsqrt (var (fun r k => v0 (ix2 r k)) r) := by
  pointwise [k0_pay15]; rw [var_at]
theorem dv_at (r : Fin 512) : k0_pay19 (F := Ideal) v0 v1 x0 x1 x2 x3 x4 x5 x6 x7 x8 x9 x10 (ix2 r (0 : Fin 1)) = dvar (blk v0 v1 v2 x0 x1 x2 x3 x4 x5 x6 x7 x8 x9 x10) r := by
  pointwise [k0_pay19, k0_pay17]; rw [rs_at, var_at]; rfl
theorem dh_at (r : Fin 512) (k : Fin 1024) :
    k0_pay1 (F := Ideal) v0 v2 (k0_pay18 v0 v1 x0 x1 x2 x3 x4 x5 x6 x7 x8 x9 x10) (k0_pay19 v0 v1 x0 x1 x2 x3 x4 x5 x6 x7 x8 x9 x10) (ix2 r k)
      = dh (blk v0 v1 v2 x0 x1 x2 x3 x4 x5 x6 x7 x8 x9 x10) r k := by
  pointwise [k0_pay1, k0_pay18, k0_pay17]
  rw [Fin.sum_univ_one, dv_at v0 v1 v2, rs_at]; rfl
theorem dg_at (k : Fin 1024) :
    k0_pay16 (F := Ideal) v0 x0 x1 x2 x3 x4 x5 x6 x7 x8 x9 x10 (ix2 (0 : Fin 1) k) = ∑ r, dgt (blk v0 v1 v2 x0 x1 x2 x3 x4 x5 x6 x7 x8 x9 x10) r k := by
  pointwise [k0_pay16]
  exact Finset.sum_congr rfl fun r _ => congrArg (· * _) (congrArg (_ * ·) (rs_at _ _))
theorem dg1 (x : FVec Ideal S1x1024 .f32) (k : Fin 1024) :
    k0_pay2 (F := Ideal) (k0_pay16 v0 x0 x1 x2 x3 x4 x5 x6 x7 x8 x9 x10) x (ix2 (0 : Fin 1) k)
      = x (ix2 (0 : Fin 1) k) + ∑ r, dgt (blk v0 v1 v2 x0 x1 x2 x3 x4 x5 x6 x7 x8 x9 x10) r k := by
  rw [← dg_at]
  pointwise [k0_pay2]

end

/-! ## The run -/

variable (m : (ℓ : Loc nD τ sig) → Buf (Elt Ideal) ℓ) (c : Dev nD)

/-- The addends. -/
abbrev part3 (p : Fin 11) (s : Fin 8192) (k : Fin 1024) : EReal := m ((c : Thread nD τ).loc main_arg3) (ix3 p s k)
/-- The arguments by row and channel, the addends added up. -/
abbrev args : Args (Fin 8192) where
  h s k := m ((c : Thread nD τ).loc main_arg0) (ix2 s k)
  g k := m ((c : Thread nD τ).loc main_arg1) (ix2 (0 : Fin 1) k)
  base s k := m ((c : Thread nD τ).loc main_arg2) (ix2 s k)
  dn s k := ∑ p : Fin 11, part3 m c p s k

theorem idx : ∀ t : Fin cfg0.N, win0_0.index t = ![t.val, 0] ∧ win0_1.index t = ![0, 0] ∧ win0_2.index t = ![t.val, 0]
    ∧ win0_3.index t = ![0, t.val, 0] ∧ win0_4.index t = ![1, t.val, 0] ∧ win0_5.index t = ![2, t.val, 0]
    ∧ win0_6.index t = ![3, t.val, 0] ∧ win0_7.index t = ![4, t.val, 0] ∧ win0_8.index t = ![5, t.val, 0]
    ∧ win0_9.index t = ![6, t.val, 0] ∧ win0_10.index t = ![7, t.val, 0] ∧ win0_11.index t = ![8, t.val, 0]
    ∧ win0_12.index t = ![9, t.val, 0] ∧ win0_13.index t = ![10, t.val, 0] ∧ win0_14.index t = ![t.val, 0]
    ∧ win0_15.index t = ![0, 0] ∧ t.val < 16 :=
  (by decide +kernel : ∀ t : Fin grid0.N, _)
theorem lt16 (t : Fin cfg0.N) : t.val < 16 := (idx t).2.2.2.2.2.2.2.2.2.2.2.2.2.2.2.2

/-- The row of the arguments at row `r` of point `t`'s blocks. -/
abbrev row (t : Fin cfg0.N) (r : Fin 512) : Fin 8192 := ⟨t.val * 512 + r.val, by have := lt16 t; omega⟩
/-- The blocks a point reads. -/
abbrev pt (t : Fin cfg0.N) : Args (Fin 512) :=
  blk (iblk m c 0 t) (iblk m c 1 t) (iblk m c 2 t)
    (k0_pay3 (iblk m c 3 t)) (k0_pay4 (iblk m c 4 t)) (k0_pay5 (iblk m c 5 t)) (k0_pay6 (iblk m c 6 t))
    (k0_pay7 (iblk m c 7 t)) (k0_pay8 (iblk m c 8 t)) (k0_pay9 (iblk m c 9 t)) (k0_pay10 (iblk m c 10 t))
    (k0_pay11 (iblk m c 11 t)) (k0_pay12 (iblk m c 12 t)) (iblk m c 13 t)

theorem rp3 (t : Fin cfg0.N) (r : Fin 512) (k : Fin 1024) : iblk m c 3 t (ix3 (0 : Fin 1) r k)
    = m ((c : Thread nD τ).loc main_arg3) (ix3 (0 : Fin 11) (row t r) k) := by
  blk_ext [iblk, V, idx t]
theorem rp4 (t : Fin cfg0.N) (r : Fin 512) (k : Fin 1024) : iblk m c 4 t (ix3 (0 : Fin 1) r k)
    = m ((c : Thread nD τ).loc main_arg3) (ix3 (1 : Fin 11) (row t r) k) := by
  blk_ext [iblk, V, idx t]
theorem rp5 (t : Fin cfg0.N) (r : Fin 512) (k : Fin 1024) : iblk m c 5 t (ix3 (0 : Fin 1) r k)
    = m ((c : Thread nD τ).loc main_arg3) (ix3 (2 : Fin 11) (row t r) k) := by
  blk_ext [iblk, V, idx t]
theorem rp6 (t : Fin cfg0.N) (r : Fin 512) (k : Fin 1024) : iblk m c 6 t (ix3 (0 : Fin 1) r k)
    = m ((c : Thread nD τ).loc main_arg3) (ix3 (3 : Fin 11) (row t r) k) := by
  blk_ext [iblk, V, idx t]
theorem rp7 (t : Fin cfg0.N) (r : Fin 512) (k : Fin 1024) : iblk m c 7 t (ix3 (0 : Fin 1) r k)
    = m ((c : Thread nD τ).loc main_arg3) (ix3 (4 : Fin 11) (row t r) k) := by
  blk_ext [iblk, V, idx t]
theorem rp8 (t : Fin cfg0.N) (r : Fin 512) (k : Fin 1024) : iblk m c 8 t (ix3 (0 : Fin 1) r k)
    = m ((c : Thread nD τ).loc main_arg3) (ix3 (5 : Fin 11) (row t r) k) := by
  blk_ext [iblk, V, idx t]
theorem rp9 (t : Fin cfg0.N) (r : Fin 512) (k : Fin 1024) : iblk m c 9 t (ix3 (0 : Fin 1) r k)
    = m ((c : Thread nD τ).loc main_arg3) (ix3 (6 : Fin 11) (row t r) k) := by
  blk_ext [iblk, V, idx t]
theorem rp10 (t : Fin cfg0.N) (r : Fin 512) (k : Fin 1024) : iblk m c 10 t (ix3 (0 : Fin 1) r k)
    = m ((c : Thread nD τ).loc main_arg3) (ix3 (7 : Fin 11) (row t r) k) := by
  blk_ext [iblk, V, idx t]
theorem rp11 (t : Fin cfg0.N) (r : Fin 512) (k : Fin 1024) : iblk m c 11 t (ix3 (0 : Fin 1) r k)
    = m ((c : Thread nD τ).loc main_arg3) (ix3 (8 : Fin 11) (row t r) k) := by
  blk_ext [iblk, V, idx t]
theorem rp12 (t : Fin cfg0.N) (r : Fin 512) (k : Fin 1024) : iblk m c 12 t (ix3 (0 : Fin 1) r k)
    = m ((c : Thread nD τ).loc main_arg3) (ix3 (9 : Fin 11) (row t r) k) := by
  blk_ext [iblk, V, idx t]
theorem rp13 (t : Fin cfg0.N) (r : Fin 512) (k : Fin 1024) : iblk m c 13 t (ix3 (0 : Fin 1) r k)
    = m ((c : Thread nD τ).loc main_arg3) (ix3 (10 : Fin 11) (row t r) k) := by
  blk_ext [iblk, V, idx t]

theorem rd (t : Fin cfg0.N) (r : Fin 512) : Same (pt m c t) (args m c) r (row t r) where
  h k := by
    show iblk m c 0 t (ix2 r k) = m ((c : Thread nD τ).loc main_arg0) (ix2 (row t r) k)
    blk_ext [iblk, V, idx t]
  g k := by
    show iblk m c 1 t (ix2 (0 : Fin 1) k) = m ((c : Thread nD τ).loc main_arg1) (ix2 (0 : Fin 1) k)
    blk_ext [iblk, V, idx t]
  base k := by
    show iblk m c 2 t (ix2 r k) = m ((c : Thread nD τ).loc main_arg2) (ix2 (row t r) k)
    blk_ext [iblk, V, idx t]
  dn k := by
    show k0_pay13 (F := Ideal) _ _ _ _ _ _ _ _ _ _ _ (ix2 r k) = ∑ p : Fin 11, part3 m c p (row t r) k
    simp only [Fin.sum_univ_castSucc, Fin.sum_univ_zero, zero_add]
    pointwise [k0_pay3, k0_pay4, k0_pay5, k0_pay6, k0_pay7, k0_pay8, k0_pay9, k0_pay10, k0_pay11, k0_pay12, k0_pay13]
    rw [rp3, rp4, rp5, rp6, rp7, rp8, rp9, rp10, rp11, rp12, rp13]
    rfl

/-- The rows. -/
theorem final14 : (dats m 0 c).arrAt 14 cfg0.N = fun j => dh (args m c) (j 0) (j 1) := by
  refine (dats m 0 c).arrAt_eq_of_covers 14 _ (by decide +kernel) fun t hf y => ?_
  blk_simp
  idx_vars y
  have hj : ((View.whole main_v0_0).slice (win0_14.rect t)).emb (ix2 y0 y1) = ix2 (row t y0) y1 := by blk_ext [idx t]
  have key : (outsAt0 m c t.val t.isLt).1 (ix2 y0 y1) = dh (pt m c t) y0 y1 := by
    have := lt16 t
    by_cases h : t.val % 16 = 0
    · rw [outsAt0_A m c t h (by omega)]; frame_out; exact dh_at _ _ _ _ _ _ _ _ _ _ _ _ _ _ _ _
    · rw [outsAt0_B m c t h (by omega)]; frame_out; exact dh_at _ _ _ _ _ _ _ _ _ _ _ _ _ _ _ _
  rw [after0_14, hj]
  exact key.trans ((rd m c t y0).dh y1)

/-- The sixteen points are the sixteen blocks of rows. -/
theorem sum_rows (t : Fin cfg0.N) (p : Fin cfg0.N → Fin 512 → EReal) (f : Fin 8192 → EReal) (h : ∀ t r, p t r = f (row t r))
    (hs : ∀ s : Fin 16, 16 * (t.val / 16) + s.val < cfg0.N) :
    ∑ s : Fin 16, ∑ r, p ⟨16 * (t.val / 16) + s.val, hs s⟩ r = ∑ s, f s := by
  refine Fin.sum_mul_add_congr fun s r hl => (h _ r).trans (congrArg f (Fin.ext ?_))
  show (16 * (t.val / 16) + s.val) * 512 + r.val = s.val * 512 + r.val
  have := lt16 t
  omega

/-- The scale. -/
theorem final15 : (dats m 0 c).arrAt 15 cfg0.N = fun j => ∑ s, dgt (args m c) s (j 1) := by
  refine (dats m 0 c).arrAt_eq_of_covers 15 _ (by decide +kernel) fun t hf y => ?_
  blk_simp
  idx_vars y
  rw [after0_15, Pipeline.eq_sum_fin_of_reset_step_apply_of_flush (fun n h => (outsAt0 m c n h).2) 16 (fun _ => 0)
    (fun p j => ∑ r, dgt (pt m c p) r (j 1))
    (fun t h j => by
      have := lt16 t
      rw [outsAt0_A m c t h (by omega)]; frame_out; idx_vars j
      obtain rfl : j0 = 0 := Subsingleton.elim _ _
      exact (dg_at _ _ _ _ _ _ _ _ _ _ _ _ _ _ _).trans (zero_add _).symm)
    (fun t h j => by
      rw [outsAt0_B m c t h (by omega)]; frame_out; idx_vars j
      obtain rfl : j0 = 0 := Subsingleton.elim _ _
      exact dg1 _ _ _ _ _ _ _ _ _ _ _ _ _ _ _ _) t ((flush0_15 t).mp hf) _, zero_add]
  have hj : ((View.whole main_v0_1).slice (win0_15.rect t)).emb (ix2 y0 y1) = ix2 (0 : Fin 1) y1 := by blk_ext [idx t]
  rw [hj]
  exact sum_rows t (fun p r => dgt (pt m c p) r y1) _ (fun p r => (rd m c p r).dgt y1) _

end Cert.Kernel11Ideal.FfnNorm

end
-- ==== Proof.FfnNormRef.lean ====
/- The reference's gradients of the feed-forward's norm, at a row and a channel, or at the scale's places. -/
module

public import proofs.«01_k».proof.Proof.NormGrad
public import proofs.«01_k».proof.Proof.Gen.Reference11Ideal.Run
public import Idealize.ShloMosaic.Lib.Pipeline.ValueKit
public import Idealize.ShloMosaic.Lib.KernelVsHost

@[expose] public section

set_option maxRecDepth 16384

noncomputable section

namespace Cert.Reference11Ideal.FfnNorm

open Idealize.ShloMosaic Idealize.ShloMosaic.TcCoe Cert.Reference11Ideal Cert.Reference11Ideal.Gen Cert.Norm Cert.NormGrad

section
variable (a0 : FVec Ideal S8192x1024 .f32) (a1 : FVec Ideal S1x1024 .f32) (a2 : FVec Ideal S8192x1024 .f32)
  (a3 : FVec Ideal S11x8192x1024 .bf16)

/-- The arguments by row and channel, the addends added up. -/
abbrev args : Args (Fin 8192) where
  h s k := a0 (ix2 s k)
  g k := a1 (ix2 (0 : Fin 1) k)
  base s k := a2 (ix2 s k)
  dn s k := ∑ p : Fin 11, a3 (ix3 p s k)

/-- The rows' mean squares, their reciprocal roots, and the rows over their roots. -/
def rvar : FVec Ideal S8192x1 .f32 :=
  addf (Host.divf (broadcastInDim S8192x1 ![0] bcast_S8192_S8192x1_0 (Host.reduceAdd (mulf a0 a0) (constant (F := Ideal) S_ .f32 0x00000000#32)
    reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))
def rrs : FVec Ideal S8192x1 .f32 := Host.rsqrt (rvar a0)
def rhs : FVec Ideal S8192x1024 .f32 := mulf a0 (broadcastInDim S8192x1024 ![0, 1] bcast_S8192x1_S8192x1024_0_1 (rrs a0))
/-- The addends added up. -/
def rdn : FVec Ideal S8192x1024 .f32 :=
  Host.reduceAdd (extf .f32 a3 bitsLt_bf16_f32) (constant (F := Ideal) S_ .f32 0x00000000#32) reducesTo_S11x8192x1024_S8192x1024_d0 h_S_
def rdng : FVec Ideal S8192x1024 .f32 := mulf (rdn a3) (broadcastInDim S8192x1024 ![0, 1] bcast_S1x1024_S8192x1024_0_1 a1)
/-- The gradient through the mean squares. -/
def rdv : FVec Ideal S8192x1 .f32 :=
  Host.divf (mulf (shapeCast _ (Host.reduceAdd (mulf a0 (rdng a1 a3)) (constant (F := Ideal) S_ .f32 0x00000000#32)
      reducesTo_S8192x1024_S8192_d1 h_S_) shapeCasts_S8192_S8192x1)
    (mulf (broadcastInDim S8192x1 ![] bcast_S_S8192x1 (constant (F := Ideal) S_ .f32 0xBF000000#32)) (Host.divf (rrs a0) (rvar a0))))
    (broadcastInDim S8192x1 ![] bcast_S_S8192x1 (constant (F := Ideal) S_ .f32 0x44800000#32))
def rdvb : FVec Ideal S8192x1024 .f32 :=
  broadcastInDim S8192x1024 ![0] bcast_S8192_S8192x1024_0 (Host.reduceAdd (rdv a0 a1 a3) (constant (F := Ideal) S_ .f32 0x00000000#32)
    reducesTo_S8192x1_S8192_d1 h_S_)
def rdh : FVec Ideal S8192x1024 .f32 :=
  addf a2 (addf (addf (mulf (rdng a1 a3) (broadcastInDim S8192x1024 ![0, 1] bcast_S8192x1_S8192x1024_0_1 (rrs a0)))
    (mulf a0 (rdvb a0 a1 a3))) (mulf (rdvb a0 a1 a3) a0))

theorem rvar_at (s : Fin 8192) : rvar a0 (ix2 s (0 : Fin 1)) = var (fun s k => a0 (ix2 s k)) s := by
  pointwise [rvar]; rfl
theorem rrs_at (s : Fin 8192) : rrs a0 (ix2 s (0 : Fin 1)) = Ideal.rsqrt (var (fun s k => a0 (ix2 s k)) s) := by
  pointwise [rrs]; rw [rvar_at]
theorem rhs_at (s : Fin 8192) (k : Fin 1024) :
    rhs a0 (ix2 s k) = a0 (ix2 s k) * Ideal.rsqrt (var (fun s k => a0 (ix2 s k)) s) := by
  pointwise [rhs]; rw [rrs_at]
theorem rdn_at (s : Fin 8192) (k : Fin 1024) : rdn a3 (ix2 s k) = (args a0 a1 a2 a3).dn s k := by
  pointwise [rdn]
theorem rdng_at (s : Fin 8192) (k : Fin 1024) :
    rdng a1 a3 (ix2 s k) = (args a0 a1 a2 a3).dn s k * a1 (ix2 (0 : Fin 1) k) := by
  pointwise [rdng]; rw [rdn_at a0 a1 a2]
theorem rdv_at (s : Fin 8192) : rdv a0 a1 a3 (ix2 s (0 : Fin 1)) = dvar (args a0 a1 a2 a3) s := by
  pointwise [rdv]
  simp only [rdng_at a0 a1 a2, rrs_at, rvar_at]
  rfl
theorem rdvb_at (s : Fin 8192) (k : Fin 1024) : rdvb a0 a1 a3 (ix2 s k) = dvar (args a0 a1 a2 a3) s := by
  pointwise [rdvb]
  exact (Fin.sum_univ_one _).trans (rdv_at a0 a1 a2 _ _)

theorem dh_eq : rdh a0 a1 a2 a3 = fun j => dh (args a0 a1 a2 a3) (j 0) (j 1) := by
  funext j; idx_vars j; pointwise [rdh]
  rw [rdng_at a0 a1 a2, rrs_at, rdvb_at a0 a1 a2]; rfl
theorem dg_eq : shapeCast S1x1024 (Host.reduceAdd (mulf (rhs a0) (rdn a3)) (constant (F := Ideal) S_ .f32 0x00000000#32)
      reducesTo_S8192x1024_S1024_d0 h_S_) shapeCasts_S1024_S1x1024
    = fun j => ∑ s, dgt (args a0 a1 a2 a3) s (j 1) := by
  funext j; idx_vars j; pointwise
  exact Finset.sum_congr rfl fun s _ => congrArg₂ (· * ·) (rhs_at _ _ _) (rdn_at a0 a1 a2 _ _ _)

end

end Cert.Reference11Ideal.FfnNorm

end
-- ==== Proof.FfnNormEqual.lean ====
/- The backward call of the feed-forward's norm and the gradients of `jax.vjp` leave the same two arrays. -/
module

public import proofs.«01_k».proof.Proof.FfnNormRun
public import proofs.«01_k».proof.Proof.FfnNormRef
public import proofs.«01_k».proof.Defs

@[expose] public section

set_option maxRecDepth 16384

noncomputable section

namespace Cert.FfnNorm

open Idealize.ShloMosaic Idealize.ShloMosaic.TcCoe Idealize.SL.Sem Cert.Kernel11Ideal.FfnNorm

theorem algebraic : Cert.algebraic_Kernel11Ideal_Reference11Ideal := by
  pair_intro
  · run_from Cert.Kernel11Ideal.Value.run_blocks m g
  · refine θ_run_mono (Cert.Reference11Ideal.Value.run m' g') ?_
    intro r hr c
    obtain ⟨h0, h1, h2, h3⟩ := hagree c
    obtain ⟨r0, r1, k⟩ := hr c
    refine ⟨r0.trans ?_, r1.trans ?_, k⟩
    · refine (Cert.Reference11Ideal.FfnNorm.dh_eq _ _ _ _).trans ?_
      rw [h0, h1, h2, h3]
      exact (final14 m c).symm
    · refine (Cert.Reference11Ideal.FfnNorm.dg_eq _
        (m' ((c.tc : Thread Cert.Reference11Ideal.nD Cert.Reference11Ideal.τ).loc Cert.Reference11Ideal.main_arg1))
        (m' ((c.tc : Thread Cert.Reference11Ideal.nD Cert.Reference11Ideal.τ).loc Cert.Reference11Ideal.main_arg2)) _).trans ?_
      rw [h0, h1, h2, h3]
      exact (final15 m c).symm

end Cert.FfnNorm

end
-- ==== Proof.MixNormRun.lean ====
/- The two arrays the backward call of the mixers' norm leaves: a point adds up a block of rows' addends, and the sixteen points
   add up the scale's gradient. -/
module

public import proofs.«01_k».proof.Proof.NormGrad
public import proofs.«01_k».proof.Proof.Gen.Kernel12Ideal.Value
public import Idealize.ShloMosaic.Lib.Pipeline.ValueKit
public import Idealize.ShloMosaic.Lib.KernelVsHost

@[expose] public section

set_option maxRecDepth 16384

noncomputable section

namespace Cert.Kernel12Ideal.MixNorm

open Idealize.ShloMosaic Idealize.ShloMosaic.TcCoe Cert.Kernel12Ideal Cert.Kernel12Ideal.Gen Cert.Norm Cert.NormGrad
open Idealize.ShloMosaic.Pipeline (Dat)

/-! ## One grid point -/

section
variable (v0 : FVec Ideal S512x1024 .f32) (v1 : FVec Ideal S1x1024 .f32) (v2 : FVec Ideal S512x1024 .f32)
  (x0 x1 x2 x3 x4 x5 x6 x7 x8 x9 : FVec Ideal S512x1024 .bf16)

/-- The blocks by row and channel, the addends added up. -/
abbrev blk : Args (Fin 512) where
  h r k := v0 (ix2 r k)
  g k := v1 (ix2 (0 : Fin 1) k)
  base r k := v2 (ix2 r k)
  dn r k := k0_pay13 (F := Ideal) x0 x1 x2 x3 x4 x5 x6 x7 x8 x9 (ix2 r k)

theorem var_at (r : Fin 512) : k0_pay14 (F := Ideal) v0 (ix2 r (0 : Fin 1)) = var (fun r k => v0 (ix2 r k)) r := by
  pointwise [k0_pay14]; rfl
theorem rs_at (r : Fin 512) : k0_pay15 (F := Ideal) v0 (ix2 r (0 : Fin 1)) = Ideal.rsqrt (var (fun r k => v0 (ix2 r k)) r) := by
  pointwise [k0_pay15]; rw [var_at]
theorem dh_at (r : Fin 512) (k : Fin 1024) :
    k0_pay1 (F := Ideal) v2 (k0_pay17 v0 v1 x0 x1 x2 x3 x4 x5 x6 x7 x8 x9) (ix2 r k) = dh (blk v0 v1 v2 x0 x1 x2 x3 x4 x5 x6 x7 x8 x9) r k := by
  pointwise [k0_pay1, k0_pay17]
  rw [Fin.sum_univ_one, rs_at, var_at]; rfl
theorem dg_at (k : Fin 1024) :
    k0_pay16 (F := Ideal) v0 x0 x1 x2 x3 x4 x5 x6 x7 x8 x9 (ix2 (0 : Fin 1) k) = ∑ r, dgt (blk v0 v1 v2 x0 x1 x2 x3 x4 x5 x6 x7 x8 x9) r k := by
  pointwise [k0_pay16]
  exact Finset.sum_congr rfl fun r _ => congrArg (· * _) (congrArg (_ * ·) (rs_at _ _))
theorem dg1 (x : FVec Ideal S1x1024 .f32) (k : Fin 1024) :
    k0_pay2 (F := Ideal) (k0_pay16 v0 x0 x1 x2 x3 x4 x5 x6 x7 x8 x9) x (ix2 (0 : Fin 1) k)
      = x (ix2 (0 : Fin 1) k) + ∑ r, dgt (blk v0 v1 v2 x0 x1 x2 x3 x4 x5 x6 x7 x8 x9) r k := by
  rw [← dg_at]
  pointwise [k0_pay2]

end

/-! ## The run -/

variable (m : (ℓ : Loc nD τ sig) → Buf (Elt Ideal) ℓ) (c : Dev nD)

/-- The addends. -/
abbrev part3 (p : Fin 6) (s : Fin 8192) (k : Fin 1024) : EReal := m ((c : Thread nD τ).loc main_arg3) (ix3 p s k)
abbrev part4 (p : Fin 4) (s : Fin 8192) (k : Fin 1024) : EReal := m ((c : Thread nD τ).loc main_arg4) (ix3 p s k)
/-- The arguments by row and channel, the addends added up. -/
abbrev args : Args (Fin 8192) where
  h s k := m ((c : Thread nD τ).loc main_arg0) (ix2 s k)
  g k := m ((c : Thread nD τ).loc main_arg1) (ix2 (0 : Fin 1) k)
  base s k := m ((c : Thread nD τ).loc main_arg2) (ix2 s k)
  dn s k := ∑ p : Fin 6, part3 m c p s k + ∑ p : Fin 4, part4 m c p s k

theorem idx : ∀ t : Fin cfg0.N, win0_0.index t = ![t.val, 0] ∧ win0_1.index t = ![0, 0] ∧ win0_2.index t = ![t.val, 0]
    ∧ win0_3.index t = ![0, t.val, 0] ∧ win0_4.index t = ![1, t.val, 0] ∧ win0_5.index t = ![2, t.val, 0]
    ∧ win0_6.index t = ![3, t.val, 0] ∧ win0_7.index t = ![4, t.val, 0] ∧ win0_8.index t = ![5, t.val, 0]
    ∧ win0_9.index t = ![0, t.val, 0] ∧ win0_10.index t = ![1, t.val, 0] ∧ win0_11.index t = ![2, t.val, 0]
    ∧ win0_12.index t = ![3, t.val, 0] ∧ win0_13.index t = ![t.val, 0] ∧ win0_14.index t = ![0, 0] ∧ t.val < 16 :=
  (by decide +kernel : ∀ t : Fin grid0.N, _)
theorem lt16 (t : Fin cfg0.N) : t.val < 16 := (idx t).2.2.2.2.2.2.2.2.2.2.2.2.2.2.2

/-- The row of the arguments at row `r` of point `t`'s blocks. -/
abbrev row (t : Fin cfg0.N) (r : Fin 512) : Fin 8192 := ⟨t.val * 512 + r.val, by have := lt16 t; omega⟩
/-- The blocks a point reads. -/
abbrev pt (t : Fin cfg0.N) : Args (Fin 512) :=
  blk (iblk m c 0 t) (iblk m c 1 t) (iblk m c 2 t)
    (k0_pay3 (iblk m c 3 t)) (k0_pay4 (iblk m c 4 t)) (k0_pay5 (iblk m c 5 t)) (k0_pay6 (iblk m c 6 t))
    (k0_pay7 (iblk m c 7 t)) (k0_pay8 (iblk m c 8 t)) (k0_pay9 (iblk m c 9 t)) (k0_pay10 (iblk m c 10 t))
    (k0_pay11 (iblk m c 11 t)) (k0_pay12 (iblk m c 12 t))

theorem rp3 (t : Fin cfg0.N) (r : Fin 512) (k : Fin 1024) : iblk m c 3 t (ix3 (0 : Fin 1) r k)
    = m ((c : Thread nD τ).loc main_arg3) (ix3 (0 : Fin 6) (row t r) k) := by
  blk_ext [iblk, V, idx t]
theorem rp4 (t : Fin cfg0.N) (r : Fin 512) (k : Fin 1024) : iblk m c 4 t (ix3 (0 : Fin 1) r k)
    = m ((c : Thread nD τ).loc main_arg3) (ix3 (1 : Fin 6) (row t r) k) := by
  blk_ext [iblk, V, idx t]
theorem rp5 (t : Fin cfg0.N) (r : Fin 512) (k : Fin 1024) : iblk m c 5 t (ix3 (0 : Fin 1) r k)
    = m ((c : Thread nD τ).loc main_arg3) (ix3 (2 : Fin 6) (row t r) k) := by
  blk_ext [iblk, V, idx t]
theorem rp6 (t : Fin cfg0.N) (r : Fin 512) (k : Fin 1024) : iblk m c 6 t (ix3 (0 : Fin 1) r k)
    = m ((c : Thread nD τ).loc main_arg3) (ix3 (3 : Fin 6) (row t r) k) := by
  blk_ext [iblk, V, idx t]
theorem rp7 (t : Fin cfg0.N) (r : Fin 512) (k : Fin 1024) : iblk m c 7 t (ix3 (0 : Fin 1) r k)
    = m ((c : Thread nD τ).loc main_arg3) (ix3 (4 : Fin 6) (row t r) k) := by
  blk_ext [iblk, V, idx t]
theorem rp8 (t : Fin cfg0.N) (r : Fin 512) (k : Fin 1024) : iblk m c 8 t (ix3 (0 : Fin 1) r k)
    = m ((c : Thread nD τ).loc main_arg3) (ix3 (5 : Fin 6) (row t r) k) := by
  blk_ext [iblk, V, idx t]
theorem rp9 (t : Fin cfg0.N) (r : Fin 512) (k : Fin 1024) : iblk m c 9 t (ix3 (0 : Fin 1) r k)
    = m ((c : Thread nD τ).loc main_arg4) (ix3 (0 : Fin 4) (row t r) k) := by
  blk_ext [iblk, V, idx t]
theorem rp10 (t : Fin cfg0.N) (r : Fin 512) (k : Fin 1024) : iblk m c 10 t (ix3 (0 : Fin 1) r k)
    = m ((c : Thread nD τ).loc main_arg4) (ix3 (1 : Fin 4) (row t r) k) := by
  blk_ext [iblk, V, idx t]
theorem rp11 (t : Fin cfg0.N) (r : Fin 512) (k : Fin 1024) : iblk m c 11 t (ix3 (0 : Fin 1) r k)
    = m ((c : Thread nD τ).loc main_arg4) (ix3 (2 : Fin 4) (row t r) k) := by
  blk_ext [iblk, V, idx t]
theorem rp12 (t : Fin cfg0.N) (r : Fin 512) (k : Fin 1024) : iblk m c 12 t (ix3 (0 : Fin 1) r k)
    = m ((c : Thread nD τ).loc main_arg4) (ix3 (3 : Fin 4) (row t r) k) := by
  blk_ext [iblk, V, idx t]

theorem rd (t : Fin cfg0.N) (r : Fin 512) : Same (pt m c t) (args m c) r (row t r) where
  h k := by
    show iblk m c 0 t (ix2 r k) = m ((c : Thread nD τ).loc main_arg0) (ix2 (row t r) k)
    blk_ext [iblk, V, idx t]
  g k := by
    show iblk m c 1 t (ix2 (0 : Fin 1) k) = m ((c : Thread nD τ).loc main_arg1) (ix2 (0 : Fin 1) k)
    blk_ext [iblk, V, idx t]
  base k := by
    show iblk m c 2 t (ix2 r k) = m ((c : Thread nD τ).loc main_arg2) (ix2 (row t r) k)
    blk_ext [iblk, V, idx t]
  dn k := by
    show k0_pay13 (F := Ideal) _ _ _ _ _ _ _ _ _ _ (ix2 r k) = ∑ p : Fin 6, part3 m c p (row t r) k
      + ∑ p : Fin 4, part4 m c p (row t r) k
    rw [Fin.sum_univ_six, Fin.sum_univ_four]
    pointwise [k0_pay3, k0_pay4, k0_pay5, k0_pay6, k0_pay7, k0_pay8, k0_pay9, k0_pay10, k0_pay11, k0_pay12, k0_pay13]
    rw [rp3, rp4, rp5, rp6, rp7, rp8, rp9, rp10, rp11, rp12]
    simp only [add_assoc]

/-- The rows. -/
theorem final13 : (dats m 0 c).arrAt 13 cfg0.N = fun j => dh (args m c) (j 0) (j 1) := by
  refine (dats m 0 c).arrAt_eq_of_covers 13 _ (by decide +kernel) fun t hf y => ?_
  blk_simp
  idx_vars y
  have hj : ((View.whole main_v0_0).slice (win0_13.rect t)).emb (ix2 y0 y1) = ix2 (row t y0) y1 := by blk_ext [idx t]
  have key : (outsAt0 m c t.val t.isLt).1 (ix2 y0 y1) = dh (pt m c t) y0 y1 := by
    have := lt16 t
    by_cases h : t.val % 16 = 0
    · rw [outsAt0_A m c t h (by omega)]; frame_out; exact dh_at _ _ _ _ _ _ _ _ _ _ _ _ _ _ _
    · rw [outsAt0_B m c t h (by omega)]; frame_out; exact dh_at _ _ _ _ _ _ _ _ _ _ _ _ _ _ _
  rw [after0_13, hj]
  exact key.trans ((rd m c t y0).dh y1)

/-- The sixteen points are the sixteen blocks of rows. -/
theorem sum_rows (t : Fin cfg0.N) (p : Fin cfg0.N → Fin 512 → EReal) (f : Fin 8192 → EReal) (h : ∀ t r, p t r = f (row t r))
    (hs : ∀ s : Fin 16, 16 * (t.val / 16) + s.val < cfg0.N) :
    ∑ s : Fin 16, ∑ r, p ⟨16 * (t.val / 16) + s.val, hs s⟩ r = ∑ s, f s := by
  refine Fin.sum_mul_add_congr fun s r hl => (h _ r).trans (congrArg f (Fin.ext ?_))
  show (16 * (t.val / 16) + s.val) * 512 + r.val = s.val * 512 + r.val
  have := lt16 t
  omega

/-- The scale. -/
theorem final14 : (dats m 0 c).arrAt 14 cfg0.N = fun j => ∑ s, dgt (args m c) s (j 1) := by
  refine (dats m 0 c).arrAt_eq_of_covers 14 _ (by decide +kernel) fun t hf y => ?_
  blk_simp
  idx_vars y
  rw [after0_14, Pipeline.eq_sum_fin_of_reset_step_apply_of_flush (fun n h => (outsAt0 m c n h).2) 16 (fun _ => 0)
    (fun p j => ∑ r, dgt (pt m c p) r (j 1))
    (fun t h j => by
      have := lt16 t
      rw [outsAt0_A m c t h (by omega)]; frame_out; idx_vars j
      obtain rfl : j0 = 0 := Subsingleton.elim _ _
      exact (dg_at _ _ _ _ _ _ _ _ _ _ _ _ _ _).trans (zero_add _).symm)
    (fun t h j => by
      rw [outsAt0_B m c t h (by omega)]; frame_out; idx_vars j
      obtain rfl : j0 = 0 := Subsingleton.elim _ _
      exact dg1 _ _ _ _ _ _ _ _ _ _ _ _ _ _ _) t ((flush0_14 t).mp hf) _, zero_add]
  have hj : ((View.whole main_v0_1).slice (win0_14.rect t)).emb (ix2 y0 y1) = ix2 (0 : Fin 1) y1 := by blk_ext [idx t]
  rw [hj]
  exact sum_rows t (fun p r => dgt (pt m c p) r y1) _ (fun p r => (rd m c p r).dgt y1) _

end Cert.Kernel12Ideal.MixNorm

end
-- ==== Proof.MixNormRef.lean ====
/- The reference's gradients of the mixers' norm, at a row and a channel, or at the scale's places. -/
module

public import proofs.«01_k».proof.Proof.NormGrad
public import proofs.«01_k».proof.Proof.Gen.Reference12Ideal.Run
public import Idealize.ShloMosaic.Lib.Pipeline.ValueKit
public import Idealize.ShloMosaic.Lib.KernelVsHost

@[expose] public section

set_option maxRecDepth 16384

noncomputable section

namespace Cert.Reference12Ideal.MixNorm

open Idealize.ShloMosaic Idealize.ShloMosaic.TcCoe Cert.Reference12Ideal Cert.Reference12Ideal.Gen Cert.Norm Cert.NormGrad

section
variable (a0 : FVec Ideal S8192x1024 .f32) (a1 : FVec Ideal S1x1024 .f32) (a2 : FVec Ideal S8192x1024 .f32)
  (a3 : FVec Ideal S6x8192x1024 .bf16) (a4 : FVec Ideal S4x8192x1024 .bf16)

/-- The arguments by row and channel, the addends added up. -/
abbrev args : Args (Fin 8192) where
  h s k := a0 (ix2 s k)
  g k := a1 (ix2 (0 : Fin 1) k)
  base s k := a2 (ix2 s k)
  dn s k := ∑ p : Fin 6, a3 (ix3 p s k) + ∑ p : Fin 4, a4 (ix3 p s k)

/-- The rows' mean squares, their reciprocal roots, and the rows over their roots. -/
def rvar : FVec Ideal S8192x1 .f32 :=
  addf (Host.divf (broadcastInDim S8192x1 ![0] bcast_S8192_S8192x1_0 (Host.reduceAdd (mulf a0 a0) (constant (F := Ideal) S_ .f32 0x00000000#32)
    reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))
def rrs : FVec Ideal S8192x1 .f32 := Host.rsqrt (rvar a0)
def rhs : FVec Ideal S8192x1024 .f32 := mulf a0 (broadcastInDim S8192x1024 ![0, 1] bcast_S8192x1_S8192x1024_0_1 (rrs a0))
/-- The addends added up. -/
def rdn : FVec Ideal S8192x1024 .f32 :=
  addf (Host.reduceAdd (extf .f32 a3 bitsLt_bf16_f32) (constant (F := Ideal) S_ .f32 0x00000000#32) reducesTo_S6x8192x1024_S8192x1024_d0 h_S_)
    (Host.reduceAdd (extf .f32 a4 bitsLt_bf16_f32) (constant (F := Ideal) S_ .f32 0x00000000#32) reducesTo_S4x8192x1024_S8192x1024_d0 h_S_)
def rdng : FVec Ideal S8192x1024 .f32 := mulf (rdn a3 a4) (broadcastInDim S8192x1024 ![0, 1] bcast_S1x1024_S8192x1024_0_1 a1)
/-- The gradient through the mean squares. -/
def rdv : FVec Ideal S8192x1 .f32 :=
  Host.divf (mulf (shapeCast _ (Host.reduceAdd (mulf a0 (rdng a1 a3 a4)) (constant (F := Ideal) S_ .f32 0x00000000#32)
      reducesTo_S8192x1024_S8192_d1 h_S_) shapeCasts_S8192_S8192x1)
    (mulf (broadcastInDim S8192x1 ![] bcast_S_S8192x1 (constant (F := Ideal) S_ .f32 0xBF000000#32)) (Host.divf (rrs a0) (rvar a0))))
    (broadcastInDim S8192x1 ![] bcast_S_S8192x1 (constant (F := Ideal) S_ .f32 0x44800000#32))
def rdvb : FVec Ideal S8192x1024 .f32 :=
  broadcastInDim S8192x1024 ![0] bcast_S8192_S8192x1024_0 (Host.reduceAdd (rdv a0 a1 a3 a4) (constant (F := Ideal) S_ .f32 0x00000000#32)
    reducesTo_S8192x1_S8192_d1 h_S_)
def rdh : FVec Ideal S8192x1024 .f32 :=
  addf a2 (addf (addf (mulf (rdng a1 a3 a4) (broadcastInDim S8192x1024 ![0, 1] bcast_S8192x1_S8192x1024_0_1 (rrs a0)))
    (mulf a0 (rdvb a0 a1 a3 a4))) (mulf (rdvb a0 a1 a3 a4) a0))

theorem rvar_at (s : Fin 8192) : rvar a0 (ix2 s (0 : Fin 1)) = var (fun s k => a0 (ix2 s k)) s := by
  pointwise [rvar]; rfl
theorem rrs_at (s : Fin 8192) : rrs a0 (ix2 s (0 : Fin 1)) = Ideal.rsqrt (var (fun s k => a0 (ix2 s k)) s) := by
  pointwise [rrs]; rw [rvar_at]
theorem rhs_at (s : Fin 8192) (k : Fin 1024) :
    rhs a0 (ix2 s k) = a0 (ix2 s k) * Ideal.rsqrt (var (fun s k => a0 (ix2 s k)) s) := by
  pointwise [rhs]; rw [rrs_at]
theorem rdn_at (s : Fin 8192) (k : Fin 1024) : rdn a3 a4 (ix2 s k) = (args a0 a1 a2 a3 a4).dn s k := by
  pointwise [rdn]
theorem rdng_at (s : Fin 8192) (k : Fin 1024) :
    rdng a1 a3 a4 (ix2 s k) = (args a0 a1 a2 a3 a4).dn s k * a1 (ix2 (0 : Fin 1) k) := by
  pointwise [rdng]; rw [rdn_at a0 a1 a2]
theorem rdv_at (s : Fin 8192) : rdv a0 a1 a3 a4 (ix2 s (0 : Fin 1)) = dvar (args a0 a1 a2 a3 a4) s := by
  pointwise [rdv]
  simp only [rdng_at a0 a1 a2, rrs_at, rvar_at]
  rfl
theorem rdvb_at (s : Fin 8192) (k : Fin 1024) : rdvb a0 a1 a3 a4 (ix2 s k) = dvar (args a0 a1 a2 a3 a4) s := by
  pointwise [rdvb]
  exact (Fin.sum_univ_one _).trans (rdv_at a0 a1 a2 _ _ _)

theorem dh_eq : rdh a0 a1 a2 a3 a4 = fun j => dh (args a0 a1 a2 a3 a4) (j 0) (j 1) := by
  funext j; idx_vars j; pointwise [rdh]
  rw [rdng_at a0 a1 a2, rrs_at, rdvb_at a0 a1 a2]; rfl
theorem dg_eq : shapeCast S1x1024 (Host.reduceAdd (mulf (rhs a0) (rdn a3 a4)) (constant (F := Ideal) S_ .f32 0x00000000#32)
      reducesTo_S8192x1024_S1024_d0 h_S_) shapeCasts_S1024_S1x1024
    = fun j => ∑ s, dgt (args a0 a1 a2 a3 a4) s (j 1) := by
  funext j; idx_vars j; pointwise
  exact Finset.sum_congr rfl fun s _ => congrArg₂ (· * ·) (rhs_at _ _ _) (rdn_at a0 a1 a2 _ _ _ _)

end

end Cert.Reference12Ideal.MixNorm

end
-- ==== Proof.MixNormEqual.lean ====
/- The backward call of the mixers' norm and the gradients of `jax.vjp` leave the same two arrays. -/
module

public import proofs.«01_k».proof.Proof.MixNormRun
public import proofs.«01_k».proof.Proof.MixNormRef
public import proofs.«01_k».proof.Defs

@[expose] public section

set_option maxRecDepth 16384

noncomputable section

namespace Cert.MixNorm

open Idealize.ShloMosaic Idealize.ShloMosaic.TcCoe Idealize.SL.Sem Cert.Kernel12Ideal.MixNorm

theorem algebraic : Cert.algebraic_Kernel12Ideal_Reference12Ideal := by
  pair_intro
  · run_from Cert.Kernel12Ideal.Value.run_blocks m g
  · refine θ_run_mono (Cert.Reference12Ideal.Value.run m' g') ?_
    intro r hr c
    obtain ⟨h0, h1, h2, h3, h4⟩ := hagree c
    obtain ⟨r0, r1, k⟩ := hr c
    refine ⟨r0.trans ?_, r1.trans ?_, k⟩
    · refine (Cert.Reference12Ideal.MixNorm.dh_eq _ _ _ _ _).trans ?_
      rw [h0, h1, h2, h3, h4]
      exact (final13 m c).symm
    · refine (Cert.Reference12Ideal.MixNorm.dg_eq _
        (m' ((c.tc : Thread Cert.Reference12Ideal.nD Cert.Reference12Ideal.τ).loc Cert.Reference12Ideal.main_arg1))
        (m' ((c.tc : Thread Cert.Reference12Ideal.nD Cert.Reference12Ideal.τ).loc Cert.Reference12Ideal.main_arg2)) _ _).trans ?_
      rw [h0, h1, h2, h3, h4]
      exact (final14 m c).symm

end Cert.MixNorm

end
-- ==== Proof.LossMath.lean ====
/- The loss of a row after the last normalization, and its gradients, over any kind of rows. -/
module

public import proofs.«01_k».proof.Proof.NormGrad

@[expose] public section

noncomputable section

namespace Cert.Loss

open Idealize.ShloMosaic Cert.Norm

/-- The rows, the scale, and the targets. -/
structure Args (R : Type) where
  h : R → Fin 1024 → EReal
  g : Fin 1024 → EReal
  t : R → Fin 1024 → EReal

/-- Two readings agree at a row of each. -/
structure Same {R R' : Type} (a : Args R) (b : Args R') (r : R) (r' : R') : Prop where
  h : ∀ k, a.h r k = b.h r' k
  g : ∀ k, a.g k = b.g k
  t : ∀ k, a.t r k = b.t r' k

abbrev half : EReal := Ideal.ofBits .f32 0x3F000000#32
abbrev width : EReal := Ideal.ofBits .f32 0x44800000#32
/-- The gradient of a row's mean, at each of its squares. -/
abbrev each : EReal := Ideal.div half width

variable {R R' : Type} (a : Args R) (r : R)

def err (k : Fin 1024) : EReal := rms a.h a.g r k - a.t r k
/-- Half a row's mean square. -/
def loss : EReal := half * Ideal.div (∑ k, err a r k * err a r k) width
/-- The gradient at the normalized row. -/
def dn (k : Fin 1024) : EReal := err a r k * each + each * err a r k
/-- What the normalization's gradients read; nothing is added to the row's. -/
abbrev nrm : NormGrad.Args R where
  h := a.h
  g := a.g
  base _ _ := 0
  dn := dn a

section
variable {a} {b : Args R'} {r} {r' : R'} (e : Same a b r r')
include e

theorem Same.err (k : Fin 1024) : err a r k = err b r' k := by
  unfold Loss.err; rw [rms_congr e.h e.g, e.t]
theorem Same.loss : loss a r = loss b r' := by
  unfold Loss.loss; rw [Finset.sum_congr rfl fun k _ => by rw [e.err]]
theorem Same.nrm : NormGrad.Same (nrm a) (nrm b) r r' where
  h := e.h
  g := e.g
  base _ := rfl
  dn k := by show Loss.dn a r k = Loss.dn b r' k; unfold Loss.dn; rw [e.err]

end

theorem ofBits_half : half = ((1 / 2 : ℝ) : EReal) := by
  simp [half, Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem two_mul (x : EReal) : ((2 : ℝ) : EReal) * x = x + x := by
  have h : ((2 : ℝ) : EReal) = 1 + 1 := by norm_cast
  rw [h, EReal.right_distrib_of_nonneg (by norm_num) (by norm_num), one_mul]

/-- The square's gradient as one product. -/
theorem dn_eq (x : EReal) : each * (Ideal.ofBits .f32 0x40000000#32 * x) = x * each + each * x := by
  rw [ofBits_two, mul_left_comm, two_mul, mul_comm x]

/-- A half of a sum is the sum of the halves. -/
theorem half_sum {ι : Type} (s : Finset ι) (f : ι → EReal) : half * ∑ i ∈ s, f i = ∑ i ∈ s, half * f i := by
  classical
  have h0 : (0 : EReal) ≤ half := by rw [ofBits_half]; exact EReal.coe_nonneg.mpr (by norm_num)
  have h1 : half ≠ ⊤ := by rw [ofBits_half]; exact EReal.coe_ne_top _
  induction s using Finset.induction_on with
  | empty => rw [Finset.sum_empty, Finset.sum_empty, mul_zero]
  | insert i s hi ih =>
    rw [Finset.sum_insert hi, Finset.sum_insert hi, EReal.left_distrib_of_nonneg_of_ne_top h0 h1, ih]

end Cert.Loss

end
-- ==== Proof.LossRun.lean ====
/- The three arrays the loss's call leaves: a point reads a block of rows, and the sixteen points add up the loss and the
   scale's gradient. -/
module

public import proofs.«01_k».proof.Proof.LossMath
public import proofs.«01_k».proof.Proof.Gen.Kernel13Ideal.Value
public import Idealize.ShloMosaic.Lib.Pipeline.ValueKit
public import Idealize.ShloMosaic.Lib.KernelVsHost

@[expose] public section

set_option maxRecDepth 16384

noncomputable section

namespace Cert.Kernel13Ideal.Loss

open Idealize.ShloMosaic Idealize.ShloMosaic.TcCoe Cert.Kernel13Ideal Cert.Kernel13Ideal.Gen Cert.Norm Cert.Loss
open Idealize.ShloMosaic.Pipeline (Dat)

/-! ## One grid point -/

section
variable (v0 : FVec Ideal S512x1024 .f32) (v1 : FVec Ideal S1x1024 .f32) (v2 : FVec Ideal S512x1024 .f32)

/-- The blocks by row and channel. -/
abbrev blk : Args (Fin 512) where
  h r k := v0 (ix2 r k)
  g k := v1 (ix2 (0 : Fin 1) k)
  t r k := v2 (ix2 r k)

theorem var_at (r : Fin 512) : k0_pay6 (F := Ideal) v0 (ix2 r (0 : Fin 1)) = var (fun r k => v0 (ix2 r k)) r := by
  pointwise [k0_pay6]; rfl
theorem rs_at (r : Fin 512) : k0_pay7 (F := Ideal) v0 (ix2 r (0 : Fin 1)) = Ideal.rsqrt (var (fun r k => v0 (ix2 r k)) r) := by
  pointwise [k0_pay7]; rw [var_at]
theorem hs_at (r : Fin 512) (k : Fin 1024) :
    k0_pay9 (F := Ideal) v0 (ix2 r k) = v0 (ix2 r k) * Ideal.rsqrt (var (fun r k => v0 (ix2 r k)) r) := by
  pointwise [k0_pay9]; rw [rs_at]
theorem err_at (r : Fin 512) (k : Fin 1024) : k0_pay10 (F := Ideal) v0 v1 v2 (ix2 r k) = err (blk v0 v1 v2) r k := by
  pointwise [k0_pay10]; rw [hs_at]; rfl
theorem each_at (r : Fin 512) : k0_pay12 (F := Ideal) (ix2 r (0 : Fin 1)) = each := by
  pointwise [k0_pay12]
  simp only [Fin.sum_univ_one]
theorem loss_at : k0_pay11 (F := Ideal) v0 v1 v2 (ix2 (0 : Fin 1) (0 : Fin 1)) = ∑ r, loss (blk v0 v1 v2) r := by
  pointwise [k0_pay11]
  refine (half_sum _ _).trans (Finset.sum_congr rfl fun r _ => ?_)
  rw [Finset.sum_congr rfl fun k _ => by rw [err_at]]; rfl
theorem dn_at (r : Fin 512) (k : Fin 1024) :
    k0_pay1 (F := Ideal) (k0_pay10 v0 v1 v2) k0_pay12 (ix2 r k) = dn (blk v0 v1 v2) r k := by
  pointwise [k0_pay1]; rw [Fin.sum_univ_one, each_at, err_at]; rfl
theorem dh_at (r : Fin 512) (k : Fin 1024) :
    k0_pay3 (F := Ideal) v0 v1 (k0_pay7 v0) (k0_pay8 v0) (k0_pay10 v0 v1 v2) k0_pay12 (ix2 r k)
      = NormGrad.dx (nrm (blk v0 v1 v2)) r k := by
  pointwise [k0_pay3, k0_pay8]
  simp only [dn_at, Fin.sum_univ_one, rs_at, var_at]
  rfl
theorem dg_at (k : Fin 1024) :
    k0_pay2 (F := Ideal) (k0_pay9 v0) (k0_pay10 v0 v1 v2) k0_pay12 (ix2 (0 : Fin 1) k)
      = ∑ r, NormGrad.dgt (nrm (blk v0 v1 v2)) r k := by
  pointwise [k0_pay2]
  refine Finset.sum_congr rfl fun r _ => ?_
  rw [dn_at, hs_at]; rfl
theorem loss1 (x : FVec Ideal S1x1 .f32) :
    k0_pay4 (F := Ideal) (k0_pay11 v0 v1 v2) x (ix2 (0 : Fin 1) (0 : Fin 1))
      = x (ix2 (0 : Fin 1) (0 : Fin 1)) + ∑ r, loss (blk v0 v1 v2) r := by
  rw [← loss_at]
  pointwise [k0_pay4]
theorem dg1 (x : FVec Ideal S1x1024 .f32) (k : Fin 1024) :
    k0_pay5 (F := Ideal) (k0_pay9 v0) (k0_pay10 v0 v1 v2) k0_pay12 x (ix2 (0 : Fin 1) k)
      = x (ix2 (0 : Fin 1) k) + ∑ r, NormGrad.dgt (nrm (blk v0 v1 v2)) r k := by
  rw [← dg_at]
  pointwise [k0_pay5]

end

/-! ## The run -/

variable (m : (ℓ : Loc nD τ sig) → Buf (Elt Ideal) ℓ) (c : Dev nD)

/-- The arguments by row and channel. -/
abbrev args : Args (Fin 8192) where
  h s k := m ((c : Thread nD τ).loc main_arg0) (ix2 s k)
  g k := m ((c : Thread nD τ).loc main_arg1) (ix2 (0 : Fin 1) k)
  t s k := m ((c : Thread nD τ).loc main_arg2) (ix2 s k)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ t.val < 16 :=
  (by decide +kernel : ∀ t : Fin grid0.N, _)
theorem lt16 (t : Fin cfg0.N) : t.val < 16 := (idx t).2.2.2.2.2.2

/-- The row of the arguments at row `r` of point `t`'s blocks. -/
abbrev row (t : Fin cfg0.N) (r : Fin 512) : Fin 8192 := ⟨t.val * 512 + r.val, by have := lt16 t; omega⟩
/-- The blocks a point reads. -/
abbrev pt (t : Fin cfg0.N) : Args (Fin 512) := blk (iblk m c 0 t) (iblk m c 1 t) (iblk m c 2 t)

theorem rd (t : Fin cfg0.N) (r : Fin 512) : Same (pt m c t) (args m c) r (row t r) where
  h k := by
    show iblk m c 0 t (ix2 r k) = m ((c : Thread nD τ).loc main_arg0) (ix2 (row t r) k)
    blk_ext [iblk, V, idx t]
  g k := by
    show iblk m c 1 t (ix2 (0 : Fin 1) k) = m ((c : Thread nD τ).loc main_arg1) (ix2 (0 : Fin 1) k)
    blk_ext [iblk, V, idx t]
  t k := by
    show iblk m c 2 t (ix2 r k) = m ((c : Thread nD τ).loc main_arg2) (ix2 (row t r) k)
    blk_ext [iblk, V, idx t]

/-- The sixteen points are the sixteen blocks of rows. -/
theorem sum_rows (t : Fin cfg0.N) (p : Fin cfg0.N → Fin 512 → EReal) (f : Fin 8192 → EReal) (h : ∀ t r, p t r = f (row t r))
    (hs : ∀ s : Fin 16, 16 * (t.val / 16) + s.val < cfg0.N) :
    ∑ s : Fin 16, ∑ r, p ⟨16 * (t.val / 16) + s.val, hs s⟩ r = ∑ s, f s := by
  refine Fin.sum_mul_add_congr fun s r hl => (h _ r).trans (congrArg f (Fin.ext ?_))
  show (16 * (t.val / 16) + s.val) * 512 + r.val = s.val * 512 + r.val
  have := lt16 t
  omega

/-- The loss. -/
theorem final3 : (dats m 0 c).arrAt 3 cfg0.N = fun _ => ∑ s, loss (args m c) s := by
  refine (dats m 0 c).arrAt_eq_of_covers 3 _ (by decide +kernel) fun t hf y => ?_
  blk_simp
  idx_vars y
  rw [after0_3, Pipeline.eq_sum_fin_of_reset_step_apply_of_flush (fun n h => (outsAt0 m c n h).1) 16 (fun _ => 0)
    (fun p _ => ∑ r, loss (pt m c p) r)
    (fun t h j => by
      have := lt16 t
      rw [outsAt0_A m c t h (by omega) h (by omega)]; frame_out; idx_vars j
      obtain rfl : j0 = 0 := Subsingleton.elim _ _
      obtain rfl : j1 = 0 := Subsingleton.elim _ _
      exact (loss_at _ _ _).trans (zero_add _).symm)
    (fun t h j => by
      rw [outsAt0_B m c t h (by omega) h (by omega)]; frame_out; idx_vars j
      obtain rfl : j0 = 0 := Subsingleton.elim _ _
      obtain rfl : j1 = 0 := Subsingleton.elim _ _
      exact loss1 _ _ _ _) t ((flush0_3 t).mp hf) _, zero_add]
  exact sum_rows t (fun p r => loss (pt m c p) r) _ (fun p r => (rd m c p r).loss) _

/-- The rows. -/
theorem final4 : (dats m 0 c).arrAt 4 cfg0.N = fun j => NormGrad.dx (nrm (args m c)) (j 0) (j 1) := by
  refine (dats m 0 c).arrAt_eq_of_covers 4 _ (by decide +kernel) fun t hf y => ?_
  blk_simp
  idx_vars y
  have hj : ((View.whole main_v0_1).slice (win0_4.rect t)).emb (ix2 y0 y1) = ix2 (row t y0) y1 := by blk_ext [idx t]
  have key : (outsAt0 m c t.val t.isLt).2.1 (ix2 y0 y1) = NormGrad.dx (nrm (pt m c t)) y0 y1 := by
    have := lt16 t
    by_cases h : t.val % 16 = 0
    · rw [outsAt0_A m c t h (by omega) h (by omega)]; frame_out; exact dh_at _ _ _ _ _
    · rw [outsAt0_B m c t h (by omega) h (by omega)]; frame_out; exact dh_at _ _ _ _ _
  rw [after0_4, hj]
  exact key.trans ((rd m c t y0).nrm.dx y1)

/-- The scale. -/
theorem final5 : (dats m 0 c).arrAt 5 cfg0.N = fun j => ∑ s, NormGrad.dgt (nrm (args m c)) s (j 1) := by
  refine (dats m 0 c).arrAt_eq_of_covers 5 _ (by decide +kernel) fun t hf y => ?_
  blk_simp
  idx_vars y
  rw [after0_5, Pipeline.eq_sum_fin_of_reset_step_apply_of_flush (fun n h => (outsAt0 m c n h).2.2) 16 (fun _ => 0)
    (fun p j => ∑ r, NormGrad.dgt (nrm (pt m c p)) r (j 1))
    (fun t h j => by
      have := lt16 t
      rw [outsAt0_A m c t h (by omega) h (by omega)]; frame_out; idx_vars j
      obtain rfl : j0 = 0 := Subsingleton.elim _ _
      exact (dg_at _ _ _ _).trans (zero_add _).symm)
    (fun t h j => by
      rw [outsAt0_B m c t h (by omega) h (by omega)]; frame_out; idx_vars j
      obtain rfl : j0 = 0 := Subsingleton.elim _ _
      exact dg1 _ _ _ _ _) t ((flush0_5 t).mp hf) _, zero_add]
  have hj : ((View.whole main_v0_2).slice (win0_5.rect t)).emb (ix2 y0 y1) = ix2 (0 : Fin 1) y1 := by blk_ext [idx t]
  rw [hj]
  exact sum_rows t (fun p r => NormGrad.dgt (nrm (pt m c p)) r y1) _ (fun p r => (rd m c p r).nrm.dgt y1) _

end Cert.Kernel13Ideal.Loss

end
-- ==== Proof.LossRef.lean ====
/- The reference's loss and its gradients, at a row and a channel, or at the scale's places. -/
module

public import proofs.«01_k».proof.Proof.LossMath
public import proofs.«01_k».proof.Proof.Gen.Reference13Ideal.Run
public import Idealize.ShloMosaic.Lib.Pipeline.ValueKit
public import Idealize.ShloMosaic.Lib.KernelVsHost

@[expose] public section

set_option maxRecDepth 16384

noncomputable section

namespace Cert.Reference13Ideal.Loss

open Idealize.ShloMosaic Idealize.ShloMosaic.TcCoe Cert.Reference13Ideal Cert.Reference13Ideal.Gen Cert.Norm Cert.Loss

section
variable (a0 : FVec Ideal S8192x1024 .f32) (a1 : FVec Ideal S1x1024 .f32) (a2 : FVec Ideal S8192x1024 .f32)

/-- The arguments by row and channel. -/
abbrev args : Args (Fin 8192) where
  h s k := a0 (ix2 s k)
  g k := a1 (ix2 (0 : Fin 1) k)
  t s k := a2 (ix2 s k)

/-- The rows' mean squares, their reciprocal roots, the rows over their roots, and the errors. -/
def rvar : FVec Ideal S8192x1 .f32 :=
  addf (Host.divf (broadcastInDim S8192x1 ![0] bcast_S8192_S8192x1_0 (Host.reduceAdd (mulf a0 a0) (constant (F := Ideal) S_ .f32 0x00000000#32)
    reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))
def rrs : FVec Ideal S8192x1 .f32 := Host.rsqrt (rvar a0)
def rhs : FVec Ideal S8192x1024 .f32 := mulf a0 (broadcastInDim S8192x1024 ![0, 1] bcast_S8192x1_S8192x1024_0_1 (rrs a0))
def rerr : FVec Ideal S8192x1024 .f32 := subf (mulf (rhs a0) (broadcastInDim S8192x1024 ![0, 1] bcast_S1x1024_S8192x1024_0_1 a1)) a2
/-- The gradient at the normalized rows. -/
def rdn : FVec Ideal S8192x1024 .f32 :=
  mulf (broadcastInDim S8192x1024 ![0] bcast_S8192_S8192x1024_0 (Host.divf (broadcastInDim S8192 ![] bcast_S_S8192
      (mulf (constant (F := Ideal) S_ .f32 0x3F000000#32) (constant S_ .f32 0x3F800000#32)))
      (broadcastInDim S8192 ![] bcast_S_S8192 (constant S_ .f32 0x44800000#32))))
    (mulf (broadcastInDim S8192x1024 ![] bcast_S_S8192x1024 (constant S_ .f32 0x40000000#32)) (rerr a0 a1 a2))
def rdng : FVec Ideal S8192x1024 .f32 := mulf (rdn a0 a1 a2) (broadcastInDim S8192x1024 ![0, 1] bcast_S1x1024_S8192x1024_0_1 a1)
/-- The gradient through the mean squares. -/
def rdv : FVec Ideal S8192x1 .f32 :=
  Host.divf (mulf (shapeCast _ (Host.reduceAdd (mulf a0 (rdng a0 a1 a2)) (constant (F := Ideal) S_ .f32 0x00000000#32)
      reducesTo_S8192x1024_S8192_d1 h_S_) shapeCasts_S8192_S8192x1)
    (mulf (broadcastInDim S8192x1 ![] bcast_S_S8192x1 (constant (F := Ideal) S_ .f32 0xBF000000#32)) (Host.divf (rrs a0) (rvar a0))))
    (broadcastInDim S8192x1 ![] bcast_S_S8192x1 (constant (F := Ideal) S_ .f32 0x44800000#32))
def rdvb : FVec Ideal S8192x1024 .f32 :=
  broadcastInDim S8192x1024 ![0] bcast_S8192_S8192x1024_0 (Host.reduceAdd (rdv a0 a1 a2) (constant (F := Ideal) S_ .f32 0x00000000#32)
    reducesTo_S8192x1_S8192_d1 h_S_)
def rdh : FVec Ideal S8192x1024 .f32 :=
  addf (addf (mulf (rdng a0 a1 a2) (broadcastInDim S8192x1024 ![0, 1] bcast_S8192x1_S8192x1024_0_1 (rrs a0)))
    (mulf a0 (rdvb a0 a1 a2))) (mulf (rdvb a0 a1 a2) a0)

theorem rvar_at (s : Fin 8192) : rvar a0 (ix2 s (0 : Fin 1)) = var (fun s k => a0 (ix2 s k)) s := by
  pointwise [rvar]; rfl
theorem rrs_at (s : Fin 8192) : rrs a0 (ix2 s (0 : Fin 1)) = Ideal.rsqrt (var (fun s k => a0 (ix2 s k)) s) := by
  pointwise [rrs]; rw [rvar_at]
theorem rhs_at (s : Fin 8192) (k : Fin 1024) :
    rhs a0 (ix2 s k) = a0 (ix2 s k) * Ideal.rsqrt (var (fun s k => a0 (ix2 s k)) s) := by
  pointwise [rhs]; rw [rrs_at]
theorem rerr_at (s : Fin 8192) (k : Fin 1024) : rerr a0 a1 a2 (ix2 s k) = err (args a0 a1 a2) s k := by
  pointwise [rerr]; rw [rhs_at]; rfl
theorem rdn_at (s : Fin 8192) (k : Fin 1024) : rdn a0 a1 a2 (ix2 s k) = dn (args a0 a1 a2) s k := by
  pointwise [rdn]; rw [rerr_at]; exact dn_eq _
theorem rdng_at (s : Fin 8192) (k : Fin 1024) :
    rdng a0 a1 a2 (ix2 s k) = dn (args a0 a1 a2) s k * a1 (ix2 (0 : Fin 1) k) := by
  pointwise [rdng]; rw [rdn_at]
theorem rdv_at (s : Fin 8192) : rdv a0 a1 a2 (ix2 s (0 : Fin 1)) = NormGrad.dvar (nrm (args a0 a1 a2)) s := by
  pointwise [rdv]
  simp only [rdng_at, rrs_at, rvar_at]
  rfl
theorem rdvb_at (s : Fin 8192) (k : Fin 1024) : rdvb a0 a1 a2 (ix2 s k) = NormGrad.dvar (nrm (args a0 a1 a2)) s := by
  pointwise [rdvb]
  exact (Fin.sum_univ_one _).trans (rdv_at _ _ _ _)

theorem loss_eq : shapeCast S1x1 (mulf (constant (F := Ideal) S_ .f32 0x3F000000#32) (Host.reduceAdd (Host.divf (Host.reduceAdd
      (mulf (rerr a0 a1 a2) (rerr a0 a1 a2)) (constant (F := Ideal) S_ .f32 0x00000000#32) reducesTo_S8192x1024_S8192_d1 h_S_)
      (broadcastInDim S8192 ![] bcast_S_S8192 (constant S_ .f32 0x44800000#32))) (constant S_ .f32 0x00000000#32)
      reducesTo_S8192_S_d0 h_S_)) shapeCasts_S_S1x1
    = fun _ => ∑ s, loss (args a0 a1 a2) s := by
  funext j; idx_vars j; pointwise
  refine (half_sum _ _).trans (Finset.sum_congr rfl fun s _ => ?_)
  rw [Finset.sum_congr rfl fun k _ => by rw [rerr_at]]; rfl
theorem dh_eq : rdh a0 a1 a2 = fun j => NormGrad.dx (nrm (args a0 a1 a2)) (j 0) (j 1) := by
  funext j; idx_vars j; pointwise [rdh]
  rw [rdng_at, rrs_at, rdvb_at]; rfl
theorem dg_eq : shapeCast S1x1024 (Host.reduceAdd (mulf (rhs a0) (rdn a0 a1 a2)) (constant (F := Ideal) S_ .f32 0x00000000#32)
      reducesTo_S8192x1024_S1024_d0 h_S_) shapeCasts_S1024_S1x1024
    = fun j => ∑ s, NormGrad.dgt (nrm (args a0 a1 a2)) s (j 1) := by
  funext j; idx_vars j; pointwise
  exact Finset.sum_congr rfl fun s _ => congrArg₂ (· * ·) (rhs_at _ _ _) (rdn_at _ _ _ _ _)

end

end Cert.Reference13Ideal.Loss

end
-- ==== Proof.LossEqual.lean ====
/- The loss's call, and the loss and the gradients of `jax.vjp`, leave the same three arrays. -/
module

public import proofs.«01_k».proof.Proof.LossRun
public import proofs.«01_k».proof.Proof.LossRef
public import proofs.«01_k».proof.Defs

@[expose] public section

set_option maxRecDepth 16384

noncomputable section

namespace Cert.Loss

open Idealize.ShloMosaic Idealize.ShloMosaic.TcCoe Idealize.SL.Sem Cert.Kernel13Ideal.Loss

theorem algebraic : Cert.algebraic_Kernel13Ideal_Reference13Ideal := by
  pair_intro
  · run_from Cert.Kernel13Ideal.Value.run_blocks m g
  · refine θ_run_mono (Cert.Reference13Ideal.Value.run m' g') ?_
    intro r hr c
    obtain ⟨h0, h1, h2⟩ := hagree c
    obtain ⟨r0, r1, r2, k⟩ := hr c
    refine ⟨r0.trans ?_, r1.trans ?_, r2.trans ?_, k⟩
    · refine (Cert.Reference13Ideal.Loss.loss_eq _ _ _).trans ?_
      rw [h0, h1, h2]
      exact (final3 m c).symm
    · refine (Cert.Reference13Ideal.Loss.dh_eq _ _ _).trans ?_
      rw [h0, h1, h2]
      exact (final4 m c).symm
    · refine (Cert.Reference13Ideal.Loss.dg_eq _ _ _).trans ?_
      rw [h0, h1, h2]
      exact (final5 m c).symm

end Cert.Loss

end
-- ==== Proof.GluMath.lean ====
/- A row gated by its own activations, and its gradients, over any kind of rows. -/
module

public import Idealize.ShloMosaic.Lib.KernelVsHost

@[expose] public section

noncomputable section

namespace Cert.Glu

open Idealize.ShloMosaic

/-- The rows before the activation, the gate's weights and bias, and the gradient of the result. -/
structure Args (R : Type) where
  y : R → Fin 512 → EReal
  w : Fin 512 → Fin 512 → EReal
  b : Fin 512 → EReal
  ct : R → Fin 512 → EReal

/-- Two readings agree at a row of each. -/
structure Same {R R' : Type} (a : Args R) (a' : Args R') (r : R) (r' : R') : Prop where
  y : ∀ k, a.y r k = a'.y r' k
  w : ∀ k f, a.w k f = a'.w k f
  b : ∀ k, a.b k = a'.b k
  ct : ∀ k, a.ct r k = a'.ct r' k

/-- The constants of the activation: a half, the cube's factor, and the argument's. -/
abbrev half : EReal := Ideal.ofBits .f32 0x3F000000#32
abbrev cub : EReal := Ideal.ofBits .f32 0x3D372713#32
abbrev sq : EReal := Ideal.ofBits .f32 0x3F4C422A#32

/-- The activation's inner value, and the activation. -/
def th (y : EReal) : EReal := Ideal.tanh (sq * (y + cub * y * y * y))
def act (y : EReal) : EReal := half * y * (1 + th y)

/-- The factor of the gradient `d` that passes through the inner value. -/
def inner (y d : EReal) : EReal := sq * (half * y * d * ((1 + th y) * (1 - th y)))
/-- The activation's gradient, the cube's three factors one after another. -/
def dact (y d : EReal) : EReal :=
  inner y d + cub * y * y * inner y d + cub * y * (inner y d * y) + cub * (inner y d * y * y) + half * (d * (1 + th y))

variable {R R' : Type} (a : Args R) (r : R)

def gate (f : Fin 512) : EReal := Ideal.logistic (∑ k, act (a.y r k) * a.w k f + a.b f)
def out (f : Fin 512) : EReal := act (a.y r f) * gate a r f
/-- The gradients at the gate's logits and at the activation. -/
def dlog (f : Fin 512) : EReal := act (a.y r f) * a.ct r f * (gate a r f * (1 - gate a r f))
def dz (k : Fin 512) : EReal := a.ct r k * gate a r k + ∑ f, dlog a r f * a.w k f
/-- The gradient at the row, and a row's terms of the weights' gradient. -/
def dy (k : Fin 512) : EReal := dact (a.y r k) (dz a r k)
def dwt (k f : Fin 512) : EReal := act (a.y r k) * dlog a r f

section
variable {a} {b : Args R'} {r} {r' : R'} (e : Same a b r r')
include e

theorem Same.gate (f : Fin 512) : gate a r f = gate b r' f := by
  unfold Glu.gate; rw [Finset.sum_congr rfl fun k _ => by rw [e.y, e.w], e.b]
theorem Same.out (f : Fin 512) : out a r f = out b r' f := by unfold Glu.out; rw [e.y, e.gate]
theorem Same.dlog (f : Fin 512) : dlog a r f = dlog b r' f := by unfold Glu.dlog; rw [e.y, e.ct, e.gate]
theorem Same.dz (k : Fin 512) : dz a r k = dz b r' k := by
  unfold Glu.dz; rw [e.ct, e.gate, Finset.sum_congr rfl fun f _ => by rw [e.dlog, e.w]]
theorem Same.dy (k : Fin 512) : dy a r k = dy b r' k := by unfold Glu.dy; rw [e.y, e.dz]
theorem Same.dwt (k f : Fin 512) : dwt a r k f = dwt b r' k f := by unfold Glu.dwt; rw [e.y, e.dlog]

end

/-! ## The cube as one power -/

theorem ofBits_three : Ideal.ofBits .f32 0x40400000#32 = ((3 : ℝ) : EReal) := by
  simp [Ideal.ofBits, Ideal.ieee, -EReal.coe_mul]; norm_num

theorem three_mul (x : EReal) : ((3 : ℝ) : EReal) * x = x + x + x := by
  have h : ((3 : ℝ) : EReal) = 1 + 1 + 1 := by norm_cast
  rw [h, EReal.right_distrib_of_nonneg (by norm_num) (by norm_num), EReal.right_distrib_of_nonneg (by norm_num) (by norm_num), one_mul]

theorem th_cube (y : EReal) : Ideal.tanh (sq * (y + cub * (y * y * y))) = th y := by
  unfold th; rw [mul_assoc (cub * y), mul_assoc cub, mul_assoc y]

theorem act_eq (y : EReal) : y * (half * (1 + th y)) = act y := by
  unfold act; rw [mul_left_comm, mul_assoc]

theorem dact_eq (y d : EReal) :
    d * (half * (1 + th y)) + sq * (half * (y * d) * ((1 + th y) * (1 - th y)))
      + cub * (sq * (half * (y * d) * ((1 + th y) * (1 - th y)))) * (Ideal.ofBits .f32 0x40400000#32 * (y * y)) = dact y d := by
  have hi : sq * (half * (y * d) * ((1 + th y) * (1 - th y))) = inner y d := by unfold inner; rw [mul_assoc half y d]
  have h1 : cub * inner y d * (((3 : ℝ) : EReal) * (y * y)) = ((3 : ℝ) : EReal) * (cub * inner y d * (y * y)) := mul_left_comm _ _ _
  have h2 : cub * y * y * inner y d = cub * inner y d * (y * y) := by
    rw [mul_assoc cub y y, mul_assoc, mul_comm (y * y), ← mul_assoc]
  have h3 : cub * y * (inner y d * y) = cub * inner y d * (y * y) := by
    rw [mul_assoc, mul_left_comm y, ← mul_assoc]
  have h4 : cub * (inner y d * y * y) = cub * inner y d * (y * y) := by rw [mul_assoc (inner y d), ← mul_assoc]
  have h5 : d * (half * (1 + th y)) = half * (d * (1 + th y)) := mul_left_comm _ _ _
  unfold dact
  rw [hi, ofBits_three, h1, three_mul, h2, h3, h4, h5]
  abel

end Cert.Glu

end
-- ==== Proof.GluFwdRun.lean ====
/- The array the gate's forward call leaves, a block of rows at a point. -/
module

public import proofs.«01_k».proof.Proof.GluMath
public import proofs.«01_k».proof.Proof.Gen.Kernel14Ideal.Value
public import Idealize.ShloMosaic.Lib.Pipeline.ValueKit
public import Idealize.ShloMosaic.Lib.KernelVsHost

@[expose] public section

set_option maxRecDepth 16384

noncomputable section

namespace Cert.Kernel14Ideal.Glu

open Idealize.ShloMosaic Idealize.ShloMosaic.TcCoe Cert.Kernel14Ideal Cert.Kernel14Ideal.Gen Cert.Glu
open Idealize.ShloMosaic.Pipeline (Dat)

section
variable (v0 : FVec Ideal S512x512 .f32) (v1 : FVec Ideal S512x512 .bf16) (v2 : FVec Ideal S1x512 .f32)

/-- The blocks by row and channel; no gradient is read. -/
abbrev blk : Args (Fin 512) where
  y r k := v0 (ix2 r k)
  w k f := v1 (ix2 k f)
  b k := v2 (ix2 (0 : Fin 1) k)
  ct _ _ := 0

theorem out_at (r : Fin 512) (f : Fin 512) : k0_pay1 (F := Ideal) v0 v1 v2 (ix2 r f) = out (blk v0 v1 v2) r f := by
  pointwise [k0_pay1]; rfl

end

variable (m : (ℓ : Loc nD τ sig) → Buf (Elt Ideal) ℓ) (c : Dev nD)

/-- The arguments by row and channel. -/
abbrev args : Args (Fin 8192) where
  y s k := m ((c : Thread nD τ).loc main_arg0) (ix2 s k)
  w k f := m ((c : Thread nD τ).loc main_arg1) (ix2 k f)
  b k := m ((c : Thread nD τ).loc main_arg2) (ix2 (0 : Fin 1) k)
  ct _ _ := 0

theorem idx : ∀ t : Fin cfg0.N, win0_0.index t = ![t.val, 0] ∧ win0_1.index t = ![0, 0] ∧ win0_2.index t = ![0, 0]
    ∧ win0_3.index t = ![t.val, 0] ∧ t.val < 16 :=
  (by decide +kernel : ∀ t : Fin grid0.N, _)

/-- The row of the arguments at row `r` of point `t`'s blocks. -/
abbrev row (t : Fin cfg0.N) (r : Fin 512) : Fin 8192 := ⟨t.val * 512 + r.val, by have := (idx t).2.2.2.2; omega⟩

theorem rd (t : Fin cfg0.N) (r : Fin 512) : Same (blk (iblk m c 0 t) (iblk m c 1 t) (iblk m c 2 t)) (args m c) r (row t r) where
  y k := by
    show iblk m c 0 t (ix2 r k) = m ((c : Thread nD τ).loc main_arg0) (ix2 (row t r) k)
    blk_ext [iblk, V, idx t]
  w k f := by
    show iblk m c 1 t (ix2 k f) = m ((c : Thread nD τ).loc main_arg1) (ix2 k f)
    blk_ext [iblk, V, idx t]
  b k := by
    show iblk m c 2 t (ix2 (0 : Fin 1) k) = m ((c : Thread nD τ).loc main_arg2) (ix2 (0 : Fin 1) k)
    blk_ext [iblk, V, idx t]
  ct _ := rfl

theorem final3 : (dats m 0 c).arrAt 3 cfg0.N = fun j => out (args m c) (j 0) (j 1) := by
  refine (dats m 0 c).arrAt_eq_of_covers 3 _ (by decide +kernel) fun t hf y => ?_
  blk_simp
  idx_vars y
  have hj : ((View.whole main_v0).slice (win0_3.rect t)).emb (ix2 y0 y1) = ix2 (row t y0) y1 := by blk_ext [idx t]
  rw [after0_3, hj]
  frame_out
  exact (out_at _ _ _ _ _).trans ((rd m c t y0).out y1)

end Cert.Kernel14Ideal.Glu

end
-- ==== Proof.GluFwdRef.lean ====
/- The reference's gated rows, at a row and a channel. -/
module

public import proofs.«01_k».proof.Proof.GluMath
public import proofs.«01_k».proof.Proof.Gen.Reference14Ideal.Run
public import Idealize.ShloMosaic.Lib.Pipeline.ValueKit
public import Idealize.ShloMosaic.Lib.KernelVsHost

@[expose] public section

set_option maxRecDepth 16384

noncomputable section

namespace Cert.Reference14Ideal.Glu

open Idealize.ShloMosaic Idealize.ShloMosaic.TcCoe Cert.Reference14Ideal Cert.Reference14Ideal.Gen Cert.Glu

section
variable (a0 : FVec Ideal S8192x512 .f32) (a1 : FVec Ideal S512x512 .bf16) (a2 : FVec Ideal S1x512 .f32)

/-- The arguments by row and channel; no gradient is read. -/
abbrev args : Args (Fin 8192) where
  y s k := a0 (ix2 s k)
  w k f := a1 (ix2 k f)
  b k := a2 (ix2 (0 : Fin 1) k)
  ct _ _ := 0

def one : FVec Ideal S8192x512 .f32 := broadcastInDim S8192x512 ![] bcast_S_S8192x512 (constant (F := Ideal) S_ .f32 0x3F800000#32)
/-- The activations. -/
def ract : FVec Ideal S8192x512 .f32 :=
  mulf a0 (mulf (broadcastInDim S8192x512 ![] bcast_S_S8192x512 (constant (F := Ideal) S_ .f32 0x3F000000#32)) (addf one
    (Host.tanh (mulf (broadcastInDim S8192x512 ![] bcast_S_S8192x512 (constant (F := Ideal) S_ .f32 0x3F4C422A#32))
      (addf a0 (mulf (broadcastInDim S8192x512 ![] bcast_S_S8192x512 (constant (F := Ideal) S_ .f32 0x3D372713#32)) (mulf (mulf a0 a0) a0)))))))
/-- The gates. -/
def rgate : FVec Ideal S8192x512 .f32 :=
  Host.divf (F := Ideal) one (addf one (Host.exp (Host.negf (addf (Host.dotGeneral dot_S8192x512_S512x512_S8192x512_1_0_0_1_n_n none
    (ract a0) (extf .f32 a1 bitsLt_bf16_f32)) (broadcastInDim S8192x512 ![0, 1] bcast_S1x512_S8192x512_0_1 a2)))))

theorem ract_at (s : Fin 8192) (k : Fin 512) : ract a0 (ix2 s k) = act (a0 (ix2 s k)) := by
  pointwise [ract, one]
  refine Eq.trans ?_ (act_eq _)
  rw [← th_cube]
theorem rgate_at (s : Fin 8192) (f : Fin 512) : rgate a0 a1 a2 (ix2 s f) = gate (args a0 a1 a2) s f := by
  pointwise [rgate, one]
  rw [Finset.sum_congr rfl fun k _ => by rw [ract_at]]; rfl

theorem out_eq : mulf (ract a0) (rgate a0 a1 a2) = fun j => out (args a0 a1 a2) (j 0) (j 1) := by
  funext j; idx_vars j; pointwise
  rw [ract_at, rgate_at]; rfl

end

end Cert.Reference14Ideal.Glu

end
-- ==== Proof.GluFwdEqual.lean ====
/- The gate's forward call and the reference leave the same array. -/
module

public import proofs.«01_k».proof.Proof.GluFwdRun
public import proofs.«01_k».proof.Proof.GluFwdRef
public import proofs.«01_k».proof.Defs

@[expose] public section

set_option maxRecDepth 16384

noncomputable section

namespace Cert.GluFwd

open Idealize.ShloMosaic Idealize.ShloMosaic.TcCoe Idealize.SL.Sem Cert.Kernel14Ideal.Glu

theorem algebraic : Cert.algebraic_Kernel14Ideal_Reference14Ideal := by
  pair_intro
  · run_from Cert.Kernel14Ideal.Value.run_blocks m g
  · refine θ_run_mono (Cert.Reference14Ideal.Value.run m' g') ?_
    intro r hr c
    obtain ⟨h0, h1, h2⟩ := hagree c
    obtain ⟨r0, k⟩ := hr c
    refine ⟨r0.trans ?_, k⟩
    · refine (Cert.Reference14Ideal.Glu.out_eq _ _ _).trans ?_
      rw [h0, h1, h2]
      exact (final3 m c).symm

end Cert.GluFwd

end
-- ==== Proof.GluRun.lean ====
/- The three arrays the gate's backward call leaves: a point reads a block of rows, and the sixteen points add up the
   gradients of the weights and of the bias. -/
module

public import proofs.«01_k».proof.Proof.GluMath
public import proofs.«01_k».proof.Proof.Gen.Kernel15Ideal.Value
public import Idealize.ShloMosaic.Lib.Pipeline.ValueKit
public import Idealize.ShloMosaic.Lib.KernelVsHost

@[expose] public section

set_option maxRecDepth 16384

noncomputable section

namespace Cert.Kernel15Ideal.Glu

open Idealize.ShloMosaic Idealize.ShloMosaic.TcCoe Cert.Kernel15Ideal Cert.Kernel15Ideal.Gen Cert.Glu
open Idealize.ShloMosaic.Pipeline (Dat)

/-! ## One grid point -/

section
variable (v0 : FVec Ideal S512x512 .f32) (v1 : FVec Ideal S512x512 .bf16) (v3 : FVec Ideal S1x512 .f32)
  (v4 : FVec Ideal S512x512 .f32)

/-- The blocks by row and channel. -/
abbrev blk : Args (Fin 512) where
  y r k := v0 (ix2 r k)
  w k f := v1 (ix2 k f)
  b k := v3 (ix2 (0 : Fin 1) k)
  ct r k := v4 (ix2 r k)

theorem th_at (r : Fin 512) (k : Fin 512) : k0_pay9 (F := Ideal) v0 (ix2 r k) = th (v0 (ix2 r k)) := by
  pointwise [k0_pay9, k0_pay8, k0_pay7]; rfl
theorem act_at (r : Fin 512) (k : Fin 512) : k0_pay12 (F := Ideal) v0 (ix2 r k) = act (v0 (ix2 r k)) := by
  pointwise [k0_pay12, k0_pay11, k0_pay6]; rw [th_at]; rfl
theorem gate_at (r : Fin 512) (f : Fin 512) : k0_pay13 (F := Ideal) v0 v1 v3 (ix2 r f) = gate (blk v0 v1 v3 v4) r f := by
  pointwise [k0_pay13, k0_pay5]
  rw [Finset.sum_congr rfl fun k _ => by rw [act_at]]; rfl
theorem dlog_at (r : Fin 512) (f : Fin 512) : k0_pay15 (F := Ideal) v0 v1 v3 v4 (ix2 r f) = dlog (blk v0 v1 v3 v4) r f := by
  pointwise [k0_pay15]; rw [gate_at v0 v1 v3 v4, act_at]; rfl
theorem dz_at (r : Fin 512) (k : Fin 512) :
    addf (k0_pay14 (F := Ideal) v0 v1 v3 v4) (k0_pay17 v0 v1 v3 v4) (ix2 r k) = dz (blk v0 v1 v3 v4) r k := by
  pointwise [k0_pay14, k0_pay17, k0_pay5]
  rw [gate_at v0 v1 v3 v4, Finset.sum_congr rfl fun f _ => by rw [dlog_at]]; rfl
theorem dy_at (r : Fin 512) (k : Fin 512) :
    k0_pay2 (F := Ideal) v0 (k0_pay6 v0) (k0_pay7 v0) (k0_pay8 v0) (k0_pay10 v0) (k0_pay11 v0) (k0_pay14 v0 v1 v3 v4)
      (k0_pay17 v0 v1 v3 v4) (ix2 r k) = dy (blk v0 v1 v3 v4) r k := by
  have hz := dz_at v0 v1 v3 v4 r k
  change k0_pay14 (F := Ideal) v0 v1 v3 v4 (ix2 r k) + k0_pay17 (F := Ideal) v0 v1 v3 v4 (ix2 r k) = _ at hz
  pointwise [k0_pay2, k0_pay6, k0_pay7, k0_pay8, k0_pay10, k0_pay11]
  rw [th_at, hz]; rfl
theorem dw_at (k f : Fin 512) :
    k0_pay1 (F := Ideal) (k0_pay15 v0 v1 v3 v4) (k0_pay18 v0) (ix2 k f) = ∑ r, dwt (blk v0 v1 v3 v4) r k f := by
  pointwise [k0_pay1, k0_pay18]
  exact Finset.sum_congr rfl fun r _ => congrArg₂ (· * ·) (act_at _ _ _) (dlog_at _ _ _ _ _ _)
theorem db_at (f : Fin 512) :
    k0_pay16 (F := Ideal) v0 v1 v3 v4 (ix2 (0 : Fin 1) f) = ∑ r, dlog (blk v0 v1 v3 v4) r f := by
  pointwise [k0_pay16]
  exact Finset.sum_congr rfl fun r _ => dlog_at _ _ _ _ _ _
theorem dw1 (x : FVec Ideal S512x512 .f32) (k f : Fin 512) :
    k0_pay3 (F := Ideal) (k0_pay15 v0 v1 v3 v4) (k0_pay18 v0) x (ix2 k f)
      = x (ix2 k f) + ∑ r, dwt (blk v0 v1 v3 v4) r k f := by
  rw [← dw_at]
  pointwise [k0_pay3]
theorem db1 (x : FVec Ideal S1x512 .f32) (f : Fin 512) :
    k0_pay4 (F := Ideal) (k0_pay16 v0 v1 v3 v4) x (ix2 (0 : Fin 1) f)
      = x (ix2 (0 : Fin 1) f) + ∑ r, dlog (blk v0 v1 v3 v4) r f := by
  rw [← db_at]
  pointwise [k0_pay4]

end

/-! ## The run -/

variable (m : (ℓ : Loc nD τ sig) → Buf (Elt Ideal) ℓ) (c : Dev nD)

/-- The arguments by row and channel; of the gradient the first 512 channels. -/
abbrev args : Args (Fin 8192) where
  y s k := m ((c : Thread nD τ).loc main_arg0) (ix2 s k)
  w k f := m ((c : Thread nD τ).loc main_arg1) (ix2 k f)
  b k := m ((c : Thread nD τ).loc main_arg2) (ix2 (0 : Fin 1) k)
  ct s k := m ((c : Thread nD τ).loc main_arg3) (ix2 s (⟨k.val, by omega⟩ : Fin 2048))

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0]
    ∧ t.val < 16 :=
  (by decide +kernel : ∀ t : Fin grid0.N, _)
theorem lt16 (t : Fin cfg0.N) : t.val < 16 := (idx t).2.2.2.2.2.2.2

/-- The row of the arguments at row `r` of point `t`'s blocks. -/
abbrev row (t : Fin cfg0.N) (r : Fin 512) : Fin 8192 := ⟨t.val * 512 + r.val, by have := lt16 t; omega⟩
/-- The blocks a point reads. -/
abbrev pt (t : Fin cfg0.N) : Args (Fin 512) := blk (iblk m c 0 t) (iblk m c 1 t) (iblk m c 2 t) (iblk m c 3 t)

theorem rd (t : Fin cfg0.N) (r : Fin 512) : Same (pt m c t) (args m c) r (row t r) where
  y k := by
    show iblk m c 0 t (ix2 r k) = m ((c : Thread nD τ).loc main_arg0) (ix2 (row t r) k)
    blk_ext [iblk, V, idx t]
  w k f := by
    show iblk m c 1 t (ix2 k f) = m ((c : Thread nD τ).loc main_arg1) (ix2 k f)
    blk_ext [iblk, V, idx t]
  b k := by
    show iblk m c 2 t (ix2 (0 : Fin 1) k) = m ((c : Thread nD τ).loc main_arg2) (ix2 (0 : Fin 1) k)
    blk_ext [iblk, V, idx t]
  ct k := by
    show iblk m c 3 t (ix2 r k) = m ((c : Thread nD τ).loc main_arg3) (ix2 (row t r) (⟨k.val, by omega⟩ : Fin 2048))
    blk_ext [iblk, V, idx t]

/-- The rows. -/
theorem final4 : (dats m 0 c).arrAt 4 cfg0.N = fun j => dy (args m c) (j 0) (j 1) := by
  refine (dats m 0 c).arrAt_eq_of_covers 4 _ (by decide +kernel) fun t hf y => ?_
  blk_simp
  idx_vars y
  have hj : ((View.whole main_v0_0).slice (win0_4.rect t)).emb (ix2 y0 y1) = ix2 (row t y0) y1 := by blk_ext [idx t]
  have key : (outsAt0 m c t.val t.isLt).1 (ix2 y0 y1) = dy (pt m c t) y0 y1 := by
    have := lt16 t
    by_cases h : t.val % 16 = 0
    · rw [outsAt0_A m c t h (by omega) h (by omega)]; frame_out; exact dy_at _ _ _ _ _ _
    · rw [outsAt0_B m c t h (by omega) h (by omega)]; frame_out; exact dy_at _ _ _ _ _ _
  rw [after0_4, hj]
  exact key.trans ((rd m c t y0).dy y1)

/-- The sixteen points are the sixteen blocks of rows. -/
theorem sum_rows (t : Fin cfg0.N) (p : Fin cfg0.N → Fin 512 → EReal) (f : Fin 8192 → EReal) (h : ∀ t r, p t r = f (row t r))
    (hs : ∀ s : Fin 16, 16 * (t.val / 16) + s.val < cfg0.N) :
    ∑ s : Fin 16, ∑ r, p ⟨16 * (t.val / 16) + s.val, hs s⟩ r = ∑ s, f s := by
  refine Fin.sum_mul_add_congr fun s r hl => (h _ r).trans (congrArg f (Fin.ext ?_))
  show (16 * (t.val / 16) + s.val) * 512 + r.val = s.val * 512 + r.val
  have := lt16 t
  omega

/-- The weights. -/
theorem final5 : (dats m 0 c).arrAt 5 cfg0.N = fun j => ∑ s, dwt (args m c) s (j 0) (j 1) := by
  refine (dats m 0 c).arrAt_eq_of_covers 5 _ (by decide +kernel) fun t hf y => ?_
  blk_simp
  idx_vars y
  rw [after0_5, Pipeline.eq_sum_fin_of_reset_step_apply_of_flush (fun n h => (outsAt0 m c n h).2.1) 16 (fun _ => 0)
    (fun p j => ∑ r, dwt (pt m c p) r (j 0) (j 1))
    (fun t h j => by
      have := lt16 t
      rw [outsAt0_A m c t h (by omega) h (by omega)]; frame_out; idx_vars j
      exact (dw_at _ _ _ _ _ _).trans (zero_add _).symm)
    (fun t h j => by
      rw [outsAt0_B m c t h (by omega) h (by omega)]; frame_out; idx_vars j
      exact dw1 _ _ _ _ _ _ _) t ((flush0_5 t).mp hf) _, zero_add]
  have hj : ((View.whole main_v0_1).slice (win0_5.rect t)).emb (ix2 y0 y1) = ix2 y0 y1 := by blk_ext [idx t]
  rw [hj]
  exact sum_rows t (fun p r => dwt (pt m c p) r y0 y1) _ (fun p r => (rd m c p r).dwt y0 y1) _

/-- The bias. -/
theorem final6 : (dats m 0 c).arrAt 6 cfg0.N = fun j => ∑ s, dlog (args m c) s (j 1) := by
  refine (dats m 0 c).arrAt_eq_of_covers 6 _ (by decide +kernel) fun t hf y => ?_
  blk_simp
  idx_vars y
  rw [after0_6, Pipeline.eq_sum_fin_of_reset_step_apply_of_flush (fun n h => (outsAt0 m c n h).2.2) 16 (fun _ => 0)
    (fun p j => ∑ r, dlog (pt m c p) r (j 1))
    (fun t h j => by
      have := lt16 t
      rw [outsAt0_A m c t h (by omega) h (by omega)]; frame_out; idx_vars j
      obtain rfl : j0 = 0 := Subsingleton.elim _ _
      exact (db_at _ _ _ _ _).trans (zero_add _).symm)
    (fun t h j => by
      rw [outsAt0_B m c t h (by omega) h (by omega)]; frame_out; idx_vars j
      obtain rfl : j0 = 0 := Subsingleton.elim _ _
      exact db1 _ _ _ _ _ _) t ((flush0_6 t).mp hf) _, zero_add]
  have hj : ((View.whole main_v0_2).slice (win0_6.rect t)).emb (ix2 y0 y1) = ix2 (0 : Fin 1) y1 := by blk_ext [idx t]
  rw [hj]
  exact sum_rows t (fun p r => dlog (pt m c p) r y1) _ (fun p r => (rd m c p r).dlog y1) _

end Cert.Kernel15Ideal.Glu

end
-- ==== Proof.GluRef.lean ====
/- The reference's gradients of the gate, at a row and a channel, or at the weights' and the bias's places. -/
module

public import proofs.«01_k».proof.Proof.GluMath
public import proofs.«01_k».proof.Proof.Gen.Reference15Ideal.Run
public import Idealize.ShloMosaic.Lib.Pipeline.ValueKit
public import Idealize.ShloMosaic.Lib.KernelVsHost

@[expose] public section

set_option maxRecDepth 16384

noncomputable section

namespace Cert.Reference15Ideal.Glu

open Idealize.ShloMosaic Idealize.ShloMosaic.TcCoe Cert.Reference15Ideal Cert.Reference15Ideal.Gen Cert.Glu

section
variable (a0 : FVec Ideal S8192x512 .f32) (a1 : FVec Ideal S512x512 .bf16) (a2 : FVec Ideal S1x512 .f32)
  (a3 : FVec Ideal S8192x2048 .f32)

/-- The arguments by row and channel; of the gradient the first 512 channels. -/
abbrev args : Args (Fin 8192) where
  y s k := a0 (ix2 s k)
  w k f := a1 (ix2 k f)
  b k := a2 (ix2 (0 : Fin 1) k)
  ct s k := a3 (ix2 s (⟨k.val, by omega⟩ : Fin 2048))

def one : FVec Ideal S8192x512 .f32 := broadcastInDim S8192x512 ![] bcast_S_S8192x512 (constant (F := Ideal) S_ .f32 0x3F800000#32)
def rhalf : FVec Ideal S8192x512 .f32 := broadcastInDim S8192x512 ![] bcast_S_S8192x512 (constant (F := Ideal) S_ .f32 0x3F000000#32)
def rcub : FVec Ideal S8192x512 .f32 := broadcastInDim S8192x512 ![] bcast_S_S8192x512 (constant (F := Ideal) S_ .f32 0x3D372713#32)
def rsq : FVec Ideal S8192x512 .f32 := broadcastInDim S8192x512 ![] bcast_S_S8192x512 (constant (F := Ideal) S_ .f32 0x3F4C422A#32)
/-- The activations' inner values, a half of one and them, and the activations. -/
def rth : FVec Ideal S8192x512 .f32 := Host.tanh (mulf rsq (addf a0 (mulf rcub (mulf (mulf a0 a0) a0))))
def rph : FVec Ideal S8192x512 .f32 := mulf rhalf (addf one (rth a0))
def ract : FVec Ideal S8192x512 .f32 := mulf a0 (rph a0)
/-- The gates. -/
def rgate : FVec Ideal S8192x512 .f32 :=
  Host.divf (F := Ideal) one (addf one (Host.exp (Host.negf (addf (Host.dotGeneral dot_S8192x512_S512x512_S8192x512_1_0_0_1_n_n none
    (ract a0) (extf .f32 a1 bitsLt_bf16_f32)) (broadcastInDim S8192x512 ![0, 1] bcast_S1x512_S8192x512_0_1 a2)))))
def rct : FVec Ideal S8192x512 .f32 := extractStridedSlice S8192x512 ![0, 0] a3 slices_S8192x2048_S8192x512_0_0
/-- The gradients at the gates' logits, at the activations, and through the inner values. -/
def rdl : FVec Ideal S8192x512 .f32 :=
  mulf (mulf (ract a0) (rct a3)) (mulf (rgate a0 a1 a2) (subf one (rgate a0 a1 a2)))
def rdz : FVec Ideal S8192x512 .f32 :=
  addf (mulf (rct a3) (rgate a0 a1 a2)) (Host.dotGeneral (F := Ideal) dot_S8192x512_S512x512_S8192x512_1_1_0_0_n_n none
    (rdl a0 a1 a2 a3) (extf .f32 a1 bitsLt_bf16_f32))
def rin : FVec Ideal S8192x512 .f32 :=
  mulf rsq (mulf (mulf rhalf (mulf a0 (rdz a0 a1 a2 a3))) (mulf (addf one (rth a0)) (subf one (rth a0))))
def rdy : FVec Ideal S8192x512 .f32 :=
  addf (addf (mulf (rdz a0 a1 a2 a3) (rph a0)) (rin a0 a1 a2 a3)) (mulf (mulf rcub (rin a0 a1 a2 a3))
    (mulf (broadcastInDim S8192x512 ![] bcast_S_S8192x512 (constant (F := Ideal) S_ .f32 0x40400000#32)) (mulf a0 a0)))

theorem rth_at (s : Fin 8192) (k : Fin 512) : rth a0 (ix2 s k) = th (a0 (ix2 s k)) := by
  pointwise [rth, rsq, rcub]
  exact th_cube _
theorem rph_at (s : Fin 8192) (k : Fin 512) : rph a0 (ix2 s k) = half * (1 + th (a0 (ix2 s k))) := by
  pointwise [rph, rhalf, one]; rw [rth_at]
theorem ract_at (s : Fin 8192) (k : Fin 512) : ract a0 (ix2 s k) = act (a0 (ix2 s k)) := by
  pointwise [ract]; rw [rph_at]; exact act_eq _
theorem rgate_at (s : Fin 8192) (f : Fin 512) : rgate a0 a1 a2 (ix2 s f) = gate (args a0 a1 a2 a3) s f := by
  pointwise [rgate, one]
  rw [Finset.sum_congr rfl fun k _ => by rw [ract_at]]; rfl
theorem rct_at (s : Fin 8192) (k : Fin 512) : rct a3 (ix2 s k) = (args a0 a1 a2 a3).ct s k := by
  pointwise [rct]
theorem rdl_at (s : Fin 8192) (f : Fin 512) : rdl a0 a1 a2 a3 (ix2 s f) = dlog (args a0 a1 a2 a3) s f := by
  pointwise [rdl, one]; rw [ract_at, rct_at a0 a1 a2, rgate_at a0 a1 a2 a3]; rfl
theorem rdz_at (s : Fin 8192) (k : Fin 512) : rdz a0 a1 a2 a3 (ix2 s k) = dz (args a0 a1 a2 a3) s k := by
  pointwise [rdz]
  rw [rct_at a0 a1 a2, rgate_at a0 a1 a2 a3, Finset.sum_congr rfl fun f _ => by rw [rdl_at]]; rfl
theorem rin_at (s : Fin 8192) (k : Fin 512) : rin a0 a1 a2 a3 (ix2 s k)
    = sq * (half * (a0 (ix2 s k) * dz (args a0 a1 a2 a3) s k) * ((1 + th (a0 (ix2 s k))) * (1 - th (a0 (ix2 s k))))) := by
  pointwise [rin, rsq, rhalf, one]; rw [rth_at, rdz_at]

theorem dy_eq : rdy a0 a1 a2 a3 = fun j => dy (args a0 a1 a2 a3) (j 0) (j 1) := by
  funext j; idx_vars j; pointwise [rdy, rcub]
  rw [rin_at, rdz_at, rph_at]
  exact dact_eq _ _
theorem dw_eq : transpose S512x512 [1, 0] (Host.dotGeneral (F := Ideal) dot_S8192x512_S8192x512_S512x512_0_0_1_1_n_n none
      (rdl a0 a1 a2 a3) (ract a0)) transposes_S512x512_S512x512_1_0
    = fun j => ∑ s, dwt (args a0 a1 a2 a3) s (j 0) (j 1) := by
  funext j; idx_vars j; pointwise
  exact Finset.sum_congr rfl fun s _ => (mul_comm _ _).trans (congrArg₂ (· * ·) (ract_at _ _ _) (rdl_at _ _ _ _ _ _))
theorem db_eq : shapeCast S1x512 (Host.reduceAdd (rdl a0 a1 a2 a3) (constant (F := Ideal) S_ .f32 0x00000000#32)
      reducesTo_S8192x512_S512_d0 h_S_) shapeCasts_S512_S1x512
    = fun j => ∑ s, dlog (args a0 a1 a2 a3) s (j 1) := by
  funext j; idx_vars j; pointwise
  exact Finset.sum_congr rfl fun s _ => rdl_at _ _ _ _ _ _

end

end Cert.Reference15Ideal.Glu

end
-- ==== Proof.GluEqual.lean ====
/- The gate's backward call and the gradients of `jax.vjp` leave the same three arrays. -/
module

public import proofs.«01_k».proof.Proof.GluRun
public import proofs.«01_k».proof.Proof.GluRef
public import proofs.«01_k».proof.Defs

@[expose] public section

set_option maxRecDepth 16384

noncomputable section

namespace Cert.Glu

open Idealize.ShloMosaic Idealize.ShloMosaic.TcCoe Idealize.SL.Sem Cert.Kernel15Ideal.Glu

theorem algebraic : Cert.algebraic_Kernel15Ideal_Reference15Ideal := by
  pair_intro
  · run_from Cert.Kernel15Ideal.Value.run_blocks m g
  · refine θ_run_mono (Cert.Reference15Ideal.Value.run m' g') ?_
    intro r hr c
    obtain ⟨h0, h1, h2, h3⟩ := hagree c
    obtain ⟨r0, r1, r2, k⟩ := hr c
    refine ⟨r0.trans ?_, r1.trans ?_, r2.trans ?_, k⟩
    · refine (Cert.Reference15Ideal.Glu.dy_eq _ _ _ _).trans ?_
      rw [h0, h1, h2, h3]
      exact (final4 m c).symm
    · refine (Cert.Reference15Ideal.Glu.dw_eq _ _ _ _).trans ?_
      rw [h0, h1, h2, h3]
      exact (final5 m c).symm
    · refine (Cert.Reference15Ideal.Glu.db_eq _ _ _ _).trans ?_
      rw [h0, h1, h2, h3]
      exact (final6 m c).symm

end Cert.Glu

end
-- ==== Proof.SumRun.lean ====
/- The array the sum over the devices leaves: a point adds up a block of rows of the eight. -/
module

public import proofs.«01_k».proof.Proof.Gen.Kernel16Ideal.Value
public import Idealize.ShloMosaic.Lib.Pipeline.ValueKit
public import Idealize.ShloMosaic.Lib.KernelVsHost

@[expose] public section

set_option maxRecDepth 16384

noncomputable section

namespace Cert.Kernel16Ideal.Sum

open Idealize.ShloMosaic Idealize.ShloMosaic.TcCoe Cert.Kernel16Ideal Cert.Kernel16Ideal.Gen
open Idealize.ShloMosaic.Pipeline (Dat)

theorem sum_at (x0 x1 x2 x3 x4 x5 x6 x7 : FVec Ideal S1x256x1024 .f32) (r : Fin 256) (k : Fin 1024) :
    k0_pay1 (F := Ideal) x0 x1 x2 x3 x4 x5 x6 x7 (ix2 r k)
      = x0 (ix3 (0 : Fin 1) r k) + x1 (ix3 (0 : Fin 1) r k) + x2 (ix3 (0 : Fin 1) r k) + x3 (ix3 (0 : Fin 1) r k)
        + x4 (ix3 (0 : Fin 1) r k) + x5 (ix3 (0 : Fin 1) r k) + x6 (ix3 (0 : Fin 1) r k) + x7 (ix3 (0 : Fin 1) r k) := by
  pointwise [k0_pay1]

variable (m : (ℓ : Loc nD τ sig) → Buf (Elt Ideal) ℓ) (c : Dev nD)

/-- The eight devices' arrays. -/
abbrev part (d : Fin 8) (s : Fin 512) (k : Fin 1024) : EReal := m ((c : Thread nD τ).loc main_arg0) (ix3 d s k)

theorem idx : ∀ t : Fin cfg0.N, win0_0.index t = ![0, t.val, 0] ∧ win0_1.index t = ![1, t.val, 0] ∧ win0_2.index t = ![2, t.val, 0]
    ∧ win0_3.index t = ![3, t.val, 0] ∧ win0_4.index t = ![4, t.val, 0] ∧ win0_5.index t = ![5, t.val, 0]
    ∧ win0_6.index t = ![6, t.val, 0] ∧ win0_7.index t = ![7, t.val, 0] ∧ win0_8.index t = ![t.val, 0] ∧ t.val < 2 :=
  (by decide +kernel : ∀ t : Fin grid0.N, _)

/-- The row of the arguments at row `r` of point `t`'s blocks. -/
abbrev row (t : Fin cfg0.N) (r : Fin 256) : Fin 512 := ⟨t.val * 256 + r.val, by have := (idx t).2.2.2.2.2.2.2.2.2; omega⟩

theorem rd0 (t : Fin cfg0.N) (r : Fin 256) (k : Fin 1024) : iblk m c 0 t (ix3 (0 : Fin 1) r k) = part m c 0 (row t r) k := by
  show iblk m c 0 t (ix3 (0 : Fin 1) r k) = m ((c : Thread nD τ).loc main_arg0) (ix3 (0 : Fin 8) (row t r) k)
  blk_ext [iblk, V, idx t]
theorem rd1 (t : Fin cfg0.N) (r : Fin 256) (k : Fin 1024) : iblk m c 1 t (ix3 (0 : Fin 1) r k) = part m c 1 (row t r) k := by
  show iblk m c 1 t (ix3 (0 : Fin 1) r k) = m ((c : Thread nD τ).loc main_arg0) (ix3 (1 : Fin 8) (row t r) k)
  blk_ext [iblk, V, idx t]
theorem rd2 (t : Fin cfg0.N) (r : Fin 256) (k : Fin 1024) : iblk m c 2 t (ix3 (0 : Fin 1) r k) = part m c 2 (row t r) k := by
  show iblk m c 2 t (ix3 (0 : Fin 1) r k) = m ((c : Thread nD τ).loc main_arg0) (ix3 (2 : Fin 8) (row t r) k)
  blk_ext [iblk, V, idx t]
theorem rd3 (t : Fin cfg0.N) (r : Fin 256) (k : Fin 1024) : iblk m c 3 t (ix3 (0 : Fin 1) r k) = part m c 3 (row t r) k := by
  show iblk m c 3 t (ix3 (0 : Fin 1) r k) = m ((c : Thread nD τ).loc main_arg0) (ix3 (3 : Fin 8) (row t r) k)
  blk_ext [iblk, V, idx t]
theorem rd4 (t : Fin cfg0.N) (r : Fin 256) (k : Fin 1024) : iblk m c 4 t (ix3 (0 : Fin 1) r k) = part m c 4 (row t r) k := by
  show iblk m c 4 t (ix3 (0 : Fin 1) r k) = m ((c : Thread nD τ).loc main_arg0) (ix3 (4 : Fin 8) (row t r) k)
  blk_ext [iblk, V, idx t]
theorem rd5 (t : Fin cfg0.N) (r : Fin 256) (k : Fin 1024) : iblk m c 5 t (ix3 (0 : Fin 1) r k) = part m c 5 (row t r) k := by
  show iblk m c 5 t (ix3 (0 : Fin 1) r k) = m ((c : Thread nD τ).loc main_arg0) (ix3 (5 : Fin 8) (row t r) k)
  blk_ext [iblk, V, idx t]
theorem rd6 (t : Fin cfg0.N) (r : Fin 256) (k : Fin 1024) : iblk m c 6 t (ix3 (0 : Fin 1) r k) = part m c 6 (row t r) k := by
  show iblk m c 6 t (ix3 (0 : Fin 1) r k) = m ((c : Thread nD τ).loc main_arg0) (ix3 (6 : Fin 8) (row t r) k)
  blk_ext [iblk, V, idx t]
theorem rd7 (t : Fin cfg0.N) (r : Fin 256) (k : Fin 1024) : iblk m c 7 t (ix3 (0 : Fin 1) r k) = part m c 7 (row t r) k := by
  show iblk m c 7 t (ix3 (0 : Fin 1) r k) = m ((c : Thread nD τ).loc main_arg0) (ix3 (7 : Fin 8) (row t r) k)
  blk_ext [iblk, V, idx t]

theorem final8 : (dats m 0 c).arrAt 8 cfg0.N = fun j => ∑ d : Fin 8, part m c d (j 0) (j 1) := by
  refine (dats m 0 c).arrAt_eq_of_covers 8 _ (by decide +kernel) fun t hf y => ?_
  blk_simp
  idx_vars y
  have hj : ((View.whole main_v0).slice (win0_8.rect t)).emb (ix2 y0 y1) = ix2 (row t y0) y1 := by blk_ext [idx t]
  rw [after0_8, hj]
  frame_out
  refine (sum_at _ _ _ _ _ _ _ _ _ _).trans ?_
  rw [rd0, rd1, rd2, rd3, rd4, rd5, rd6, rd7]
  exact (Fin.sum_univ_eight fun d : Fin 8 => part m c d (row t y0) y1).symm

end Cert.Kernel16Ideal.Sum

end
-- ==== Proof.SumEqual.lean ====
/- The sum over the devices and the reference leave the same array. -/
module

public import proofs.«01_k».proof.Proof.SumRun
public import proofs.«01_k».proof.Proof.Gen.Reference16Ideal.Run
public import proofs.«01_k».proof.Defs

@[expose] public section

set_option maxRecDepth 16384

noncomputable section

namespace Cert.Reference16Ideal.Sum

open Idealize.ShloMosaic Idealize.ShloMosaic.TcCoe Cert.Reference16Ideal Cert.Reference16Ideal.Gen

theorem sum_eq (a0 : FVec Ideal S8x512x1024 .f32) :
    Host.reduceAdd a0 (constant (F := Ideal) S_ .f32 0x00000000#32) reducesTo_S8x512x1024_S512x1024_d0 h_S_
      = fun j => ∑ d : Fin 8, a0 (ix3 d (j 0) (j 1)) := by
  funext j; idx_vars j; pointwise

end Cert.Reference16Ideal.Sum

namespace Cert.Sum

open Idealize.ShloMosaic Idealize.ShloMosaic.TcCoe Idealize.SL.Sem Cert.Kernel16Ideal.Sum

theorem algebraic : Cert.algebraic_Kernel16Ideal_Reference16Ideal := by
  pair_intro
  · run_from Cert.Kernel16Ideal.Value.run_blocks m g
  · refine θ_run_mono (Cert.Reference16Ideal.Value.run m' g') ?_
    intro r hr c
    have h0 := hagree c
    obtain ⟨r0, k⟩ := hr c
    refine ⟨r0.trans ?_, k⟩
    · refine (Cert.Reference16Ideal.Sum.sum_eq _).trans ?_
      rw [h0]
      exact (final8 m c).symm

end Cert.Sum

end
-- ==== Proof.AdamMath.lean ====
/- AdamW's step of one weight. -/
module

public import Idealize.ShloMosaic.Lib.KernelVsHost

@[expose] public section

set_option maxRecDepth 16384

noncomputable section

namespace Cert.Adam

open Idealize.ShloMosaic

/-- The first moment. -/
def mom (g m : EReal) : EReal := Ideal.ofBits .f32 0x3F666666#32 * m + Ideal.ofBits .f32 0x3DCCCCCD#32 * g
/-- The second moment. -/
def sqm (g v : EReal) : EReal := Ideal.ofBits .f32 0x3F7FBE77#32 * v + Ideal.ofBits .f32 0x3A83126F#32 * (g * g)
/-- The step. -/
def delta (w g m v : EReal) : EReal :=
  Ideal.ofBits .f32 0xBA83126F#32 *
    (Ideal.div (Ideal.div (mom g m) (Ideal.ofBits .f32 0x3F26BD02#32))
      (Ideal.sqrt (Ideal.div (sqm g v) (Ideal.ofBits .f32 0x3C231ACC#32)) + Ideal.ofBits .f32 0x322BCC77#32)
      + Ideal.ofBits .f32 0x3C23D70A#32 * w)

end Cert.Adam

end
-- ==== Proof.AdamRun.lean ====
/- The three arrays AdamW's call leaves, a block of rows at a point. -/
module

public import proofs.«01_k».proof.Proof.AdamMath
public import proofs.«01_k».proof.Proof.Gen.Kernel17Ideal.Value
public import Idealize.ShloMosaic.Lib.Pipeline.ValueKit
public import Idealize.ShloMosaic.Lib.KernelVsHost

@[expose] public section

set_option maxRecDepth 16384

noncomputable section

namespace Cert.Kernel17Ideal.Adam

open Idealize.ShloMosaic Idealize.ShloMosaic.TcCoe Cert.Kernel17Ideal Cert.Kernel17Ideal.Gen Cert.Adam
open Idealize.ShloMosaic.Pipeline (Dat)

theorem mom_at (v1 v2 : FVec Ideal S256x1024 .f32) (r : Fin 256) (k : Fin 1024) :
    k0_pay1 (F := Ideal) v1 v2 (ix2 r k) = mom (v1 (ix2 r k)) (v2 (ix2 r k)) := by
  pointwise [k0_pay1]; rfl
theorem sqm_at (v1 v3 : FVec Ideal S256x1024 .f32) (r : Fin 256) (k : Fin 1024) :
    k0_pay2 (F := Ideal) v1 v3 (ix2 r k) = sqm (v1 (ix2 r k)) (v3 (ix2 r k)) := by
  pointwise [k0_pay2]; rfl
theorem delta_at (v0 v1 v2 v3 : FVec Ideal S256x1024 .f32) (r : Fin 256) (k : Fin 1024) :
    k0_pay3 (F := Ideal) v0 v1 v2 v3 (ix2 r k) = delta (v0 (ix2 r k)) (v1 (ix2 r k)) (v2 (ix2 r k)) (v3 (ix2 r k)) := by
  pointwise [k0_pay3]; rw [mom_at, sqm_at]; rfl

variable (m : (ℓ : Loc nD τ sig) → Buf (Elt Ideal) ℓ) (c : Dev nD)

abbrev W (s : Fin 512) (k : Fin 1024) : EReal := m ((c : Thread nD τ).loc main_arg0) (ix2 s k)
abbrev G (s : Fin 512) (k : Fin 1024) : EReal := m ((c : Thread nD τ).loc main_arg1) (ix2 s k)
abbrev M (s : Fin 512) (k : Fin 1024) : EReal := m ((c : Thread nD τ).loc main_arg2) (ix2 s k)
abbrev Q (s : Fin 512) (k : Fin 1024) : EReal := m ((c : Thread nD τ).loc main_arg3) (ix2 s k)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 2 :=
  (by decide +kernel : ∀ t : Fin grid0.N, _)

/-- The row of the arguments at row `r` of point `t`'s blocks. -/
abbrev row (t : Fin cfg0.N) (r : Fin 256) : Fin 512 := ⟨t.val * 256 + r.val, by have := (idx t).2.2.2.2.2.2.2; omega⟩

theorem rd0 (t : Fin cfg0.N) (r : Fin 256) (k : Fin 1024) : iblk m c 0 t (ix2 r k) = W m c (row t r) k := by
  show iblk m c 0 t (ix2 r k) = m ((c : Thread nD τ).loc main_arg0) (ix2 (row t r) k)
  blk_ext [iblk, V, idx t]
theorem rd1 (t : Fin cfg0.N) (r : Fin 256) (k : Fin 1024) : iblk m c 1 t (ix2 r k) = G m c (row t r) k := by
  show iblk m c 1 t (ix2 r k) = m ((c : Thread nD τ).loc main_arg1) (ix2 (row t r) k)
  blk_ext [iblk, V, idx t]
theorem rd2 (t : Fin cfg0.N) (r : Fin 256) (k : Fin 1024) : iblk m c 2 t (ix2 r k) = M m c (row t r) k := by
  show iblk m c 2 t (ix2 r k) = m ((c : Thread nD τ).loc main_arg2) (ix2 (row t r) k)
  blk_ext [iblk, V, idx t]
theorem rd3 (t : Fin cfg0.N) (r : Fin 256) (k : Fin 1024) : iblk m c 3 t (ix2 r k) = Q m c (row t r) k := by
  show iblk m c 3 t (ix2 r k) = m ((c : Thread nD τ).loc main_arg3) (ix2 (row t r) k)
  blk_ext [iblk, V, idx t]

/-- The steps. -/
theorem final4 : (dats m 0 c).arrAt 4 cfg0.N = fun j => delta (W m c (j 0) (j 1)) (G m c (j 0) (j 1)) (M m c (j 0) (j 1)) (Q m c (j 0) (j 1)) := by
  refine (dats m 0 c).arrAt_eq_of_covers 4 _ (by decide +kernel) fun t hf y => ?_
  blk_simp
  idx_vars y
  have hj : ((View.whole main_v0_0).slice (win0_4.rect t)).emb (ix2 y0 y1) = ix2 (row t y0) y1 := by blk_ext [idx t]
  rw [after0_4, hj]
  frame_out
  refine (delta_at _ _ _ _ _ _).trans ?_
  rw [rd0, rd1, rd2, rd3]; rfl

/-- The first moments. -/
theorem final5 : (dats m 0 c).arrAt 5 cfg0.N = fun j => mom (G m c (j 0) (j 1)) (M m c (j 0) (j 1)) := by
  refine (dats m 0 c).arrAt_eq_of_covers 5 _ (by decide +kernel) fun t hf y => ?_
  blk_simp
  idx_vars y
  have hj : ((View.whole main_v0_1).slice (win0_5.rect t)).emb (ix2 y0 y1) = ix2 (row t y0) y1 := by blk_ext [idx t]
  rw [after0_5, hj]
  frame_out
  refine (mom_at _ _ _ _).trans ?_
  rw [rd1, rd2]; rfl

/-- The second moments. -/
theorem final6 : (dats m 0 c).arrAt 6 cfg0.N = fun j => sqm (G m c (j 0) (j 1)) (Q m c (j 0) (j 1)) := by
  refine (dats m 0 c).arrAt_eq_of_covers 6 _ (by decide +kernel) fun t hf y => ?_
  blk_simp
  idx_vars y
  have hj : ((View.whole main_v0_2).slice (win0_6.rect t)).emb (ix2 y0 y1) = ix2 (row t y0) y1 := by blk_ext [idx t]
  rw [after0_6, hj]
  frame_out
  refine (sqm_at _ _ _ _).trans ?_
  rw [rd1, rd3]; rfl

end Cert.Kernel17Ideal.Adam

end
-- ==== Proof.AdamEqual.lean ====
/- AdamW's call and the reference leave the same three arrays. -/
module

public import proofs.«01_k».proof.Proof.AdamRun
public import proofs.«01_k».proof.Proof.Gen.Reference17Ideal.Run
public import proofs.«01_k».proof.Defs

@[expose] public section

set_option maxRecDepth 16384

noncomputable section

namespace Cert.Reference17Ideal.Adam

open Idealize.ShloMosaic Idealize.ShloMosaic.TcCoe Cert.Reference17Ideal Cert.Reference17Ideal.Gen Cert.Adam

/-- The moments and the step, of whole arrays. -/
def rmom (g am : FVec Ideal S512x1024 .f32) : FVec Ideal S512x1024 .f32 :=
  addf (mulf (broadcastInDim S512x1024 ![] bcast_S_S512x1024 (constant (F := Ideal) S_ .f32 0x3F666666#32)) am) (mulf (broadcastInDim S512x1024 ![] bcast_S_S512x1024 (constant (F := Ideal) S_ .f32 0x3DCCCCCD#32)) g)
def rsqm (g av : FVec Ideal S512x1024 .f32) : FVec Ideal S512x1024 .f32 :=
  addf (mulf (broadcastInDim S512x1024 ![] bcast_S_S512x1024 (constant (F := Ideal) S_ .f32 0x3F7FBE77#32)) av) (mulf (broadcastInDim S512x1024 ![] bcast_S_S512x1024 (constant (F := Ideal) S_ .f32 0x3A83126F#32)) (mulf g g))
def rdelta (aw g am av : FVec Ideal S512x1024 .f32) : FVec Ideal S512x1024 .f32 :=
  mulf (broadcastInDim S512x1024 ![] bcast_S_S512x1024 (constant (F := Ideal) S_ .f32 0xBA83126F#32))
    (addf (Host.divf (Host.divf (rmom g am) (broadcastInDim S512x1024 ![] bcast_S_S512x1024 (constant (F := Ideal) S_ .f32 0x3F26BD02#32)))
        (addf (Host.sqrt (Host.divf (rsqm g av) (broadcastInDim S512x1024 ![] bcast_S_S512x1024 (constant (F := Ideal) S_ .f32 0x3C231ACC#32))))
          (broadcastInDim S512x1024 ![] bcast_S_S512x1024 (constant (F := Ideal) S_ .f32 0x322BCC77#32))))
      (mulf (broadcastInDim S512x1024 ![] bcast_S_S512x1024 (constant (F := Ideal) S_ .f32 0x3C23D70A#32)) aw))

section
variable (aw g am av : FVec Ideal S512x1024 .f32)

theorem rmom_eq : rmom g am = fun j => mom (g j) (am j) := by
  funext j; idx_vars j; pointwise [rmom]; rfl
theorem rsqm_eq : rsqm g av = fun j => sqm (g j) (av j) := by
  funext j; idx_vars j; pointwise [rsqm]; rfl
theorem rdelta_eq : rdelta aw g am av = fun j => delta (aw j) (g j) (am j) (av j) := by
  funext j; idx_vars j; pointwise [rdelta]; rw [rmom_eq, rsqm_eq]; rfl

end

end Cert.Reference17Ideal.Adam

namespace Cert.Adam

open Idealize.ShloMosaic Idealize.ShloMosaic.TcCoe Idealize.SL.Sem Cert.Kernel17Ideal.Adam

theorem algebraic : Cert.algebraic_Kernel17Ideal_Reference17Ideal := by
  pair_intro
  · run_from Cert.Kernel17Ideal.Value.run_blocks m g
  · refine θ_run_mono (Cert.Reference17Ideal.Value.run m' g') ?_
    intro r hr c
    obtain ⟨h0, h1, h2, h3⟩ := hagree c
    obtain ⟨r0, r1, r2, k⟩ := hr c
    refine ⟨r0.trans ?_, r1.trans ?_, r2.trans ?_, k⟩
    · refine (Cert.Reference17Ideal.Adam.rdelta_eq _ _ _ _).trans ?_
      rw [h0, h1, h2, h3, final4 m c]
      funext j; idx_vars j
    · refine (Cert.Reference17Ideal.Adam.rmom_eq _ _).trans ?_
      rw [h1, h2, final5 m c]
      funext j; idx_vars j
    · refine (Cert.Reference17Ideal.Adam.rsqm_eq _ _).trans ?_
      rw [h1, h3, final6 m c]
      funext j; idx_vars j

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Pre_finite2
public import proofs.«01_k».proof.Proof.Gen.Pre_finite9
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.FfnEqual
public import proofs.«01_k».proof.Proof.MergeEqual
public import proofs.«01_k».proof.Proof.PleEqual
public import proofs.«01_k».proof.Proof.GateEqual
public import proofs.«01_k».proof.Proof.InprojEqual
public import proofs.«01_k».proof.Proof.FfnFwdEqual
public import proofs.«01_k».proof.Proof.InprojFwdEqual
public import proofs.«01_k».proof.Proof.GateFwdEqual
public import proofs.«01_k».proof.Proof.MergeFwdEqual
public import proofs.«01_k».proof.Proof.PleFwdEqual
public import proofs.«01_k».proof.Proof.FfnNormEqual
public import proofs.«01_k».proof.Proof.MixNormEqual
public import proofs.«01_k».proof.Proof.LossEqual
public import proofs.«01_k».proof.Proof.GluFwdEqual
public import proofs.«01_k».proof.Proof.GluEqual
public import proofs.«01_k».proof.Proof.SumEqual
public import proofs.«01_k».proof.Proof.AdamEqual
public import Idealize.ShloMosaic.Adequacy
public import Idealize.ShloMosaic.Init

@[expose] public section

noncomputable section

namespace Cert.Proof

open Idealize.ShloMosaic Idealize.SL.Sem Cert.Kernel

/-- The reference of `Kernel` leaves its arguments alone and has no semaphore. -/
theorem quiescent_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run m ρ)

/-- The reference of `Kernel2` leaves its arguments alone and has no semaphore. -/
theorem quiescent_reference2 : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run m ρ)

/-- The reference of `Kernel2` leaves its arguments alone and has no semaphore, under the precondition as without it. -/
theorem quiescent_reference2_finite : Cert.quiescent_Reference2Ideal_pre_finite2 := fun m ρ _ =>
  (θ_run Cert.Reference2Ideal.defs _ _).mono
    (fun r h => ⟨fun c => (h c).2.2.2.2, sem_eq_zero_of_no_sems (by decide) r.2⟩)
    (Cert.Reference2Ideal.Value.run m ρ)

/-- The reference of `Kernel3` leaves its arguments alone and has no semaphore. -/
theorem quiescent_reference3 : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run m ρ)

/-- The reference of `Kernel4` leaves its arguments alone and has no semaphore. -/
theorem quiescent_reference4 : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run m ρ)

/-- The reference of `Kernel5` leaves its arguments alone and has no semaphore. -/
theorem quiescent_reference5 : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run m ρ)

/-- The reference of `Kernel6` leaves its arguments alone and has no semaphore. -/
theorem quiescent_reference6 : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run m ρ)

/-- The reference of `Kernel7` leaves its arguments alone and has no semaphore. -/
theorem quiescent_reference7 : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run m ρ)

/-- The reference of `Kernel8` leaves its arguments alone and has no semaphore. -/
theorem quiescent_reference8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run m ρ)

/-- The reference of `Kernel9` leaves its arguments alone and has no semaphore. -/
theorem quiescent_reference9 : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run m ρ)

/-- The reference of `Kernel9` leaves its arguments alone and has no semaphore, under the precondition as without it. -/
theorem quiescent_reference9_finite : Cert.quiescent_Reference9Ideal_pre_finite9 := fun m ρ _ =>
  (θ_run Cert.Reference9Ideal.defs _ _).mono
    (fun r h => ⟨fun c => (h c).2, sem_eq_zero_of_no_sems (by decide) r.2⟩)
    (Cert.Reference9Ideal.Value.run m ρ)

/-- The reference of `Kernel10` leaves its arguments alone and has no semaphore. -/
theorem quiescent_reference10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run m ρ)

/-- The reference of `Kernel11` leaves its arguments alone and has no semaphore. -/
theorem quiescent_reference11 : Cert.quiescent_Reference11Ideal := fun m ρ _ =>
  (θ_run Cert.Reference11Ideal.defs _ _).mono
    (fun r h => ⟨fun c => (h c).2.2, sem_eq_zero_of_no_sems (by decide) r.2⟩)
    (Cert.Reference11Ideal.Value.run m ρ)

/-- The reference of `Kernel12` leaves its arguments alone and has no semaphore. -/
theorem quiescent_reference12 : Cert.quiescent_Reference12Ideal := fun m ρ _ =>
  (θ_run Cert.Reference12Ideal.defs _ _).mono
    (fun r h => ⟨fun c => (h c).2.2, sem_eq_zero_of_no_sems (by decide) r.2⟩)
    (Cert.Reference12Ideal.Value.run m ρ)

/-- The reference of `Kernel13` leaves its arguments alone and has no semaphore. -/
theorem quiescent_reference13 : Cert.quiescent_Reference13Ideal := fun m ρ _ =>
  (θ_run Cert.Reference13Ideal.defs _ _).mono
    (fun r h => ⟨fun c => (h c).2.2.2, sem_eq_zero_of_no_sems (by decide) r.2⟩)
    (Cert.Reference13Ideal.Value.run m ρ)

/-- The reference of `Kernel14` leaves its arguments alone and has no semaphore. -/
theorem quiescent_reference14 : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run m ρ)

/-- The reference of `Kernel15` leaves its arguments alone and has no semaphore. -/
theorem quiescent_reference15 : Cert.quiescent_Reference15Ideal := fun m ρ _ =>
  (θ_run Cert.Reference15Ideal.defs _ _).mono
    (fun r h => ⟨fun c => (h c).2.2.2, sem_eq_zero_of_no_sems (by decide) r.2⟩)
    (Cert.Reference15Ideal.Value.run m ρ)

/-- The reference of `Kernel16` leaves its arguments alone and has no semaphore. -/
theorem quiescent_reference16 : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run m ρ)

/-- The reference of `Kernel17` leaves its arguments alone and has no semaphore. -/
theorem quiescent_reference17 : Cert.quiescent_Reference17Ideal := fun m ρ _ =>
  (θ_run Cert.Reference17Ideal.defs _ _).mono
    (fun r h => ⟨fun c => (h c).2.2.2, sem_eq_zero_of_no_sems (by decide) r.2⟩)
    (Cert.Reference17Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_finite2.Gen.facts, Cert.Pre_finite9.Gen.facts,
  fun m ρ _ => Cert.Kernel.Gen.frame m ρ,
  fun m ρ _ => Cert.KernelIdeal.Gen.frame m ρ,
  quiescent_reference,
  fun m ρ _ => Cert.Kernel2.Gen.frame m ρ,
  fun m ρ _ => Cert.Kernel2Ideal.Gen.frame m ρ,
  fun m ρ _ => Cert.Kernel2Ideal.Gen.frame m ρ,
  quiescent_reference2,
  quiescent_reference2_finite,
  fun m ρ _ => Cert.Kernel3.Gen.frame m ρ,
  fun m ρ _ => Cert.Kernel3Ideal.Gen.frame m ρ,
  quiescent_reference3,
  fun m ρ _ => Cert.Kernel4.Gen.frame m ρ,
  fun m ρ _ => Cert.Kernel4Ideal.Gen.frame m ρ,
  quiescent_reference4,
  fun m ρ _ => Cert.Kernel5.Gen.frame m ρ,
  fun m ρ _ => Cert.Kernel5Ideal.Gen.frame m ρ,
  quiescent_reference5,
  fun m ρ _ => Cert.Kernel6.Gen.frame m ρ,
  fun m ρ _ => Cert.Kernel6Ideal.Gen.frame m ρ,
  quiescent_reference6,
  fun m ρ _ => Cert.Kernel7.Gen.frame m ρ,
  fun m ρ _ => Cert.Kernel7Ideal.Gen.frame m ρ,
  quiescent_reference7,
  fun m ρ _ => Cert.Kernel8.Gen.frame m ρ,
  fun m ρ _ => Cert.Kernel8Ideal.Gen.frame m ρ,
  quiescent_reference8,
  fun m ρ _ => Cert.Kernel9.Gen.frame m ρ,
  fun m ρ _ => Cert.Kernel9Ideal.Gen.frame m ρ,
  fun m ρ _ => Cert.Kernel9Ideal.Gen.frame m ρ,
  quiescent_reference9,
  quiescent_reference9_finite,
  fun m ρ _ => Cert.Kernel10.Gen.frame m ρ,
  fun m ρ _ => Cert.Kernel10Ideal.Gen.frame m ρ,
  quiescent_reference10,
  fun m ρ _ => Cert.Kernel11.Gen.frame m ρ,
  fun m ρ _ => Cert.Kernel11Ideal.Gen.frame m ρ,
  quiescent_reference11,
  fun m ρ _ => Cert.Kernel12.Gen.frame m ρ,
  fun m ρ _ => Cert.Kernel12Ideal.Gen.frame m ρ,
  quiescent_reference12,
  fun m ρ _ => Cert.Kernel13.Gen.frame m ρ,
  fun m ρ _ => Cert.Kernel13Ideal.Gen.frame m ρ,
  quiescent_reference13,
  fun m ρ _ => Cert.Kernel14.Gen.frame m ρ,
  fun m ρ _ => Cert.Kernel14Ideal.Gen.frame m ρ,
  quiescent_reference14,
  fun m ρ _ => Cert.Kernel15.Gen.frame m ρ,
  fun m ρ _ => Cert.Kernel15Ideal.Gen.frame m ρ,
  quiescent_reference15,
  fun m ρ _ => Cert.Kernel16.Gen.frame m ρ,
  fun m ρ _ => Cert.Kernel16Ideal.Gen.frame m ρ,
  quiescent_reference16,
  fun m ρ _ => Cert.Kernel17.Gen.frame m ρ,
  fun m ρ _ => Cert.Kernel17Ideal.Gen.frame m ρ,
  quiescent_reference17,
  trivial,
  Cert.Ffn.algebraic,
  trivial,
  Cert.Merge.algebraic,
  trivial,
  Cert.Ple.algebraic,
  trivial,
  Cert.Gate.algebraic,
  trivial,
  Cert.Inproj.algebraic,
  trivial,
  Cert.FfnFwd.algebraic,
  trivial,
  Cert.InprojFwd.algebraic,
  trivial,
  Cert.GateFwd.algebraic,
  trivial,
  Cert.MergeFwd.algebraic,
  trivial,
  Cert.PleFwd.algebraic,
  trivial,
  Cert.FfnNorm.algebraic,
  trivial,
  Cert.MixNorm.algebraic,
  trivial,
  Cert.Loss.algebraic,
  trivial,
  Cert.GluFwd.algebraic,
  trivial,
  Cert.Glu.algebraic,
  trivial,
  Cert.Sum.algebraic,
  trivial,
  Cert.Adam.algebraic⟩

end Cert.Proof

end
